-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DnGate (m : (ℓ : Loc Cert.DnGate.nD Cert.DnGate.τ Cert.DnGate.sig) → Buf (Elt Bits) ℓ) : Prop :=
  True

def Pre_DnGateIdeal (m : (ℓ : Loc Cert.DnGateIdeal.nD Cert.DnGateIdeal.τ Cert.DnGateIdeal.sig) → Buf (Elt Ideal) ℓ) : Prop :=
  True

def Pre_DnGateRefIdeal (m : (ℓ : Loc Cert.DnGateRefIdeal.nD Cert.DnGateRefIdeal.τ Cert.DnGateRefIdeal.sig) → Buf (Elt Ideal) ℓ) : Prop :=
  True

def Pre_DnUp (m : (ℓ : Loc Cert.DnUp.nD Cert.DnUp.τ Cert.DnUp.sig) → Buf (Elt Bits) ℓ) : Prop :=
  True

def Pre_DnUpIdeal (m : (ℓ : Loc Cert.DnUpIdeal.nD Cert.DnUpIdeal.τ Cert.DnUpIdeal.sig) → Buf (Elt Ideal) ℓ) : Prop :=
  True

def Pre_DnUpRefIdeal (m : (ℓ : Loc Cert.DnUpRefIdeal.nD Cert.DnUpRefIdeal.τ Cert.DnUpRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dn1 (m : (ℓ : Loc Cert.Dn1.nD Cert.Dn1.τ Cert.Dn1.sig) → Buf (Elt Bits) ℓ) : Prop :=
  True

def Pre_Dn1Ideal (m : (ℓ : Loc Cert.Dn1Ideal.nD Cert.Dn1Ideal.τ Cert.Dn1Ideal.sig) → Buf (Elt Ideal) ℓ) : Prop :=
  True

def Pre_Dn1RefIdeal (m : (ℓ : Loc Cert.Dn1RefIdeal.nD Cert.Dn1RefIdeal.τ Cert.Dn1RefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamLora (m : (ℓ : Loc Cert.AdamLora.nD Cert.AdamLora.τ Cert.AdamLora.sig) → Buf (Elt Bits) ℓ) : Prop :=
  True

def Pre_AdamLoraIdeal (m : (ℓ : Loc Cert.AdamLoraIdeal.nD Cert.AdamLoraIdeal.τ Cert.AdamLoraIdeal.sig) → Buf (Elt Ideal) ℓ) : Prop :=
  True

def Pre_AdamLoraRefIdeal (m : (ℓ : Loc Cert.AdamLoraRefIdeal.nD Cert.AdamLoraRefIdeal.τ Cert.AdamLoraRefIdeal.sig) → Buf (Elt Ideal) ℓ) : Prop :=
  True

def Pre_AdamGateLora (m : (ℓ : Loc Cert.AdamGateLora.nD Cert.AdamGateLora.τ Cert.AdamGateLora.sig) → Buf (Elt Bits) ℓ) : Prop :=
  True

def Pre_AdamGateLoraIdeal (m : (ℓ : Loc Cert.AdamGateLoraIdeal.nD Cert.AdamGateLoraIdeal.τ Cert.AdamGateLoraIdeal.sig) → Buf (Elt Ideal) ℓ) : Prop :=
  True

def Pre_AdamGateLoraRefIdeal (m : (ℓ : Loc Cert.AdamGateLoraRefIdeal.nD Cert.AdamGateLoraRefIdeal.τ Cert.AdamGateLoraRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DnGate [hDnGate : Cert.DnGate.Facts] : Prop :=
  ∀ (m : (ℓ : Loc Cert.DnGate.nD Cert.DnGate.τ Cert.DnGate.sig) → Buf (Elt Bits) ℓ) (g : Dev Cert.DnGate.nD → PrngReg), Pre_DnGate m →
    θ_run (Cert.DnGate.defs (F := Bits)) (onTc (τ := Cert.DnGate.τ) (Cert.DnGate.main (F := Bits))) ⟨m, fun _ => 0, g⟩ (fun r => (∀ c : Dev Cert.DnGate.nD,
      r.2.mem ((c.tc : Thread Cert.DnGate.nD Cert.DnGate.τ).loc Cert.DnGate.main_arg0) = m ((c.tc : Thread Cert.DnGate.nD Cert.DnGate.τ).loc Cert.DnGate.main_arg0)
      ∧ r.2.mem ((c.tc : Thread Cert.DnGate.nD Cert.DnGate.τ).loc Cert.DnGate.main_arg1) = m ((c.tc : Thread Cert.DnGate.nD Cert.DnGate.τ).loc Cert.DnGate.main_arg1)
      ∧ r.2.mem ((c.tc : Thread Cert.DnGate.nD Cert.DnGate.τ).loc Cert.DnGate.main_arg2) = m ((c.tc : Thread Cert.DnGate.nD Cert.DnGate.τ).loc Cert.DnGate.main_arg2))
      ∧ r.2.sem = fun _ => 0)

def quiescent_DnGateIdeal [hDnGateIdeal : Cert.DnGateIdeal.Facts] : Prop :=
  ∀ (m : (ℓ : Loc Cert.DnGateIdeal.nD Cert.DnGateIdeal.τ Cert.DnGateIdeal.sig) → Buf (Elt Ideal) ℓ) (g : Dev Cert.DnGateIdeal.nD → PrngReg), Pre_DnGateIdeal m →
    θ_run (Cert.DnGateIdeal.defs (F := Ideal)) (onTc (τ := Cert.DnGateIdeal.τ) (Cert.DnGateIdeal.main (F := Ideal))) ⟨m, fun _ => 0, g⟩ (fun r => (∀ c : Dev Cert.DnGateIdeal.nD,
      r.2.mem ((c.tc : Thread Cert.DnGateIdeal.nD Cert.DnGateIdeal.τ).loc Cert.DnGateIdeal.main_arg0) = m ((c.tc : Thread Cert.DnGateIdeal.nD Cert.DnGateIdeal.τ).loc Cert.DnGateIdeal.main_arg0)
      ∧ r.2.mem ((c.tc : Thread Cert.DnGateIdeal.nD Cert.DnGateIdeal.τ).loc Cert.DnGateIdeal.main_arg1) = m ((c.tc : Thread Cert.DnGateIdeal.nD Cert.DnGateIdeal.τ).loc Cert.DnGateIdeal.main_arg1)
      ∧ r.2.mem ((c.tc : Thread Cert.DnGateIdeal.nD Cert.DnGateIdeal.τ).loc Cert.DnGateIdeal.main_arg2) = m ((c.tc : Thread Cert.DnGateIdeal.nD Cert.DnGateIdeal.τ).loc Cert.DnGateIdeal.main_arg2))
      ∧ r.2.sem = fun _ => 0)

def quiescent_DnGateRefIdeal [hDnGateRefIdeal : Cert.DnGateRefIdeal.Facts] : Prop :=
  ∀ (m : (ℓ : Loc Cert.DnGateRefIdeal.nD Cert.DnGateRefIdeal.τ Cert.DnGateRefIdeal.sig) → Buf (Elt Ideal) ℓ) (g : Dev Cert.DnGateRefIdeal.nD → PrngReg), Pre_DnGateRefIdeal m →
    θ_run (Cert.DnGateRefIdeal.defs (F := Ideal)) (onTc (τ := Cert.DnGateRefIdeal.τ) (Cert.DnGateRefIdeal.main (F := Ideal))) ⟨m, fun _ => 0, g⟩ (fun r => (∀ c : Dev Cert.DnGateRefIdeal.nD,
      r.2.mem ((c.tc : Thread Cert.DnGateRefIdeal.nD Cert.DnGateRefIdeal.τ).loc Cert.DnGateRefIdeal.main_arg0) = m ((c.tc : Thread Cert.DnGateRefIdeal.nD Cert.DnGateRefIdeal.τ).loc Cert.DnGateRefIdeal.main_arg0)
      ∧ r.2.mem ((c.tc : Thread Cert.DnGateRefIdeal.nD Cert.DnGateRefIdeal.τ).loc Cert.DnGateRefIdeal.main_arg1) = m ((c.tc : Thread Cert.DnGateRefIdeal.nD Cert.DnGateRefIdeal.τ).loc Cert.DnGateRefIdeal.main_arg1)
      ∧ r.2.mem ((c.tc : Thread Cert.DnGateRefIdeal.nD Cert.DnGateRefIdeal.τ).loc Cert.DnGateRefIdeal.main_arg2) = m ((c.tc : Thread Cert.DnGateRefIdeal.nD Cert.DnGateRefIdeal.τ).loc Cert.DnGateRefIdeal.main_arg2))
      ∧ r.2.sem = fun _ => 0)

def quiescent_DnUp [hDnUp : Cert.DnUp.Facts] : Prop :=
  ∀ (m : (ℓ : Loc Cert.DnUp.nD Cert.DnUp.τ Cert.DnUp.sig) → Buf (Elt Bits) ℓ) (g : Dev Cert.DnUp.nD → PrngReg), Pre_DnUp m →
    θ_run (Cert.DnUp.defs (F := Bits)) (onTc (τ := Cert.DnUp.τ) (Cert.DnUp.main (F := Bits))) ⟨m, fun _ => 0, g⟩ (fun r => (∀ c : Dev Cert.DnUp.nD,
      r.2.mem ((c.tc : Thread Cert.DnUp.nD Cert.DnUp.τ).loc Cert.DnUp.main_arg0) = m ((c.tc : Thread Cert.DnUp.nD Cert.DnUp.τ).loc Cert.DnUp.main_arg0)
      ∧ r.2.mem ((c.tc : Thread Cert.DnUp.nD Cert.DnUp.τ).loc Cert.DnUp.main_arg1) = m ((c.tc : Thread Cert.DnUp.nD Cert.DnUp.τ).loc Cert.DnUp.main_arg1)
      ∧ r.2.mem ((c.tc : Thread Cert.DnUp.nD Cert.DnUp.τ).loc Cert.DnUp.main_arg2) = m ((c.tc : Thread Cert.DnUp.nD Cert.DnUp.τ).loc Cert.DnUp.main_arg2)
      ∧ r.2.mem ((c.tc : Thread Cert.DnUp.nD Cert.DnUp.τ).loc Cert.DnUp.main_arg3) = m ((c.tc : Thread Cert.DnUp.nD Cert.DnUp.τ).loc Cert.DnUp.main_arg3))
      ∧ r.2.sem = fun _ => 0)

def quiescent_DnUpIdeal [hDnUpIdeal : Cert.DnUpIdeal.Facts] : Prop :=
  ∀ (m : (ℓ : Loc Cert.DnUpIdeal.nD Cert.DnUpIdeal.τ Cert.DnUpIdeal.sig) → Buf (Elt Ideal) ℓ) (g : Dev Cert.DnUpIdeal.nD → PrngReg), Pre_DnUpIdeal m →
    θ_run (Cert.DnUpIdeal.defs (F := Ideal)) (onTc (τ := Cert.DnUpIdeal.τ) (Cert.DnUpIdeal.main (F := Ideal))) ⟨m, fun _ => 0, g⟩ (fun r => (∀ c : Dev Cert.DnUpIdeal.nD,
      r.2.mem ((c.tc : Thread Cert.DnUpIdeal.nD Cert.DnUpIdeal.τ).loc Cert.DnUpIdeal.main_arg0) = m ((c.tc : Thread Cert.DnUpIdeal.nD Cert.DnUpIdeal.τ).loc Cert.DnUpIdeal.main_arg0)
      ∧ r.2.mem ((c.tc : Thread Cert.DnUpIdeal.nD Cert.DnUpIdeal.τ).loc Cert.DnUpIdeal.main_arg1) = m ((c.tc : Thread Cert.DnUpIdeal.nD Cert.DnUpIdeal.τ).loc Cert.DnUpIdeal.main_arg1)
      ∧ r.2.mem ((c.tc : Thread Cert.DnUpIdeal.nD Cert.DnUpIdeal.τ).loc Cert.DnUpIdeal.main_arg2) = m ((c.tc : Thread Cert.DnUpIdeal.nD Cert.DnUpIdeal.τ).loc Cert.DnUpIdeal.main_arg2)
      ∧ r.2.mem ((c.tc : Thread Cert.DnUpIdeal.nD Cert.DnUpIdeal.τ).loc Cert.DnUpIdeal.main_arg3) = m ((c.tc : Thread Cert.DnUpIdeal.nD Cert.DnUpIdeal.τ).loc Cert.DnUpIdeal.main_arg3))
      ∧ r.2.sem = fun _ => 0)

def quiescent_DnUpRefIdeal [hDnUpRefIdeal : Cert.DnUpRefIdeal.Facts] : Prop :=
  ∀ (m : (ℓ : Loc Cert.DnUpRefIdeal.nD Cert.DnUpRefIdeal.τ Cert.DnUpRefIdeal.sig) → Buf (Elt Ideal) ℓ) (g : Dev Cert.DnUpRefIdeal.nD → PrngReg), Pre_DnUpRefIdeal m →
    θ_run (Cert.DnUpRefIdeal.defs (F := Ideal)) (onTc (τ := Cert.DnUpRefIdeal.τ) (Cert.DnUpRefIdeal.main (F := Ideal))) ⟨m, fun _ => 0, g⟩ (fun r => (∀ c : Dev Cert.DnUpRefIdeal.nD,
      r.2.mem ((c.tc : Thread Cert.DnUpRefIdeal.nD Cert.DnUpRefIdeal.τ).loc Cert.DnUpRefIdeal.main_arg0) = m ((c.tc : Thread Cert.DnUpRefIdeal.nD Cert.DnUpRefIdeal.τ).loc Cert.DnUpRefIdeal.main_arg0)
      ∧ r.2.mem ((c.tc : Thread Cert.DnUpRefIdeal.nD Cert.DnUpRefIdeal.τ).loc Cert.DnUpRefIdeal.main_arg1) = m ((c.tc : Thread Cert.DnUpRefIdeal.nD Cert.DnUpRefIdeal.τ).loc Cert.DnUpRefIdeal.main_arg1)
      ∧ r.2.mem ((c.tc : Thread Cert.DnUpRefIdeal.nD Cert.DnUpRefIdeal.τ).loc Cert.DnUpRefIdeal.main_arg2) = m ((c.tc : Thread Cert.DnUpRefIdeal.nD Cert.DnUpRefIdeal.τ).loc Cert.DnUpRefIdeal.main_arg2)
      ∧ r.2.mem ((c.tc : Thread Cert.DnUpRefIdeal.nD Cert.DnUpRefIdeal.τ).loc Cert.DnUpRefIdeal.main_arg3) = m ((c.tc : Thread Cert.DnUpRefIdeal.nD Cert.DnUpRefIdeal.τ).loc Cert.DnUpRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dn1 [hDn1 : Cert.Dn1.Facts] : Prop :=
  ∀ (m : (ℓ : Loc Cert.Dn1.nD Cert.Dn1.τ Cert.Dn1.sig) → Buf (Elt Bits) ℓ) (g : Dev Cert.Dn1.nD → PrngReg), Pre_Dn1 m →
    θ_run (Cert.Dn1.defs (F := Bits)) (onTc (τ := Cert.Dn1.τ) (Cert.Dn1.main (F := Bits))) ⟨m, fun _ => 0, g⟩ (fun r => (∀ c : Dev Cert.Dn1.nD,
      r.2.mem ((c.tc : Thread Cert.Dn1.nD Cert.Dn1.τ).loc Cert.Dn1.main_arg0) = m ((c.tc : Thread Cert.Dn1.nD Cert.Dn1.τ).loc Cert.Dn1.main_arg0)
      ∧ r.2.mem ((c.tc : Thread Cert.Dn1.nD Cert.Dn1.τ).loc Cert.Dn1.main_arg1) = m ((c.tc : Thread Cert.Dn1.nD Cert.Dn1.τ).loc Cert.Dn1.main_arg1)
      ∧ r.2.mem ((c.tc : Thread Cert.Dn1.nD Cert.Dn1.τ).loc Cert.Dn1.main_arg2) = m ((c.tc : Thread Cert.Dn1.nD Cert.Dn1.τ).loc Cert.Dn1.main_arg2))
      ∧ r.2.sem = fun _ => 0)

def quiescent_Dn1Ideal [hDn1Ideal : Cert.Dn1Ideal.Facts] : Prop :=
  ∀ (m : (ℓ : Loc Cert.Dn1Ideal.nD Cert.Dn1Ideal.τ Cert.Dn1Ideal.sig) → Buf (Elt Ideal) ℓ) (g : Dev Cert.Dn1Ideal.nD → PrngReg), Pre_Dn1Ideal m →
    θ_run (Cert.Dn1Ideal.defs (F := Ideal)) (onTc (τ := Cert.Dn1Ideal.τ) (Cert.Dn1Ideal.main (F := Ideal))) ⟨m, fun _ => 0, g⟩ (fun r => (∀ c : Dev Cert.Dn1Ideal.nD,
      r.2.mem ((c.tc : Thread Cert.Dn1Ideal.nD Cert.Dn1Ideal.τ).loc Cert.Dn1Ideal.main_arg0) = m ((c.tc : Thread Cert.Dn1Ideal.nD Cert.Dn1Ideal.τ).loc Cert.Dn1Ideal.main_arg0)
      ∧ r.2.mem ((c.tc : Thread Cert.Dn1Ideal.nD Cert.Dn1Ideal.τ).loc Cert.Dn1Ideal.main_arg1) = m ((c.tc : Thread Cert.Dn1Ideal.nD Cert.Dn1Ideal.τ).loc Cert.Dn1Ideal.main_arg1)
      ∧ r.2.mem ((c.tc : Thread Cert.Dn1Ideal.nD Cert.Dn1Ideal.τ).loc Cert.Dn1Ideal.main_arg2) = m ((c.tc : Thread Cert.Dn1Ideal.nD Cert.Dn1Ideal.τ).loc Cert.Dn1Ideal.main_arg2))
      ∧ r.2.sem = fun _ => 0)

def quiescent_Dn1RefIdeal [hDn1RefIdeal : Cert.Dn1RefIdeal.Facts] : Prop :=
  ∀ (m : (ℓ : Loc Cert.Dn1RefIdeal.nD Cert.Dn1RefIdeal.τ Cert.Dn1RefIdeal.sig) → Buf (Elt Ideal) ℓ) (g : Dev Cert.Dn1RefIdeal.nD → PrngReg), Pre_Dn1RefIdeal m →
    θ_run (Cert.Dn1RefIdeal.defs (F := Ideal)) (onTc (τ := Cert.Dn1RefIdeal.τ) (Cert.Dn1RefIdeal.main (F := Ideal))) ⟨m, fun _ => 0, g⟩ (fun r => (∀ c : Dev Cert.Dn1RefIdeal.nD,
      r.2.mem ((c.tc : Thread Cert.Dn1RefIdeal.nD Cert.Dn1RefIdeal.τ).loc Cert.Dn1RefIdeal.main_arg0) = m ((c.tc : Thread Cert.Dn1RefIdeal.nD Cert.Dn1RefIdeal.τ).loc Cert.Dn1RefIdeal.main_arg0)
      ∧ r.2.mem ((c.tc : Thread Cert.Dn1RefIdeal.nD Cert.Dn1RefIdeal.τ).loc Cert.Dn1RefIdeal.main_arg1) = m ((c.tc : Thread Cert.Dn1RefIdeal.nD Cert.Dn1RefIdeal.τ).loc Cert.Dn1RefIdeal.main_arg1)
      ∧ r.2.mem ((c.tc : Thread Cert.Dn1RefIdeal.nD Cert.Dn1RefIdeal.τ).loc Cert.Dn1RefIdeal.main_arg2) = m ((c.tc : Thread Cert.Dn1RefIdeal.nD Cert.Dn1RefIdeal.τ).loc Cert.Dn1RefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamLora [hAdamLora : Cert.AdamLora.Facts] : Prop :=
  ∀ (m : (ℓ : Loc Cert.AdamLora.nD Cert.AdamLora.τ Cert.AdamLora.sig) → Buf (Elt Bits) ℓ) (g : Dev Cert.AdamLora.nD → PrngReg), Pre_AdamLora m →
    θ_run (Cert.AdamLora.defs (F := Bits)) (onTc (τ := Cert.AdamLora.τ) (Cert.AdamLora.main (F := Bits))) ⟨m, fun _ => 0, g⟩ (fun r => (∀ c : Dev Cert.AdamLora.nD,
      r.2.mem ((c.tc : Thread Cert.AdamLora.nD Cert.AdamLora.τ).loc Cert.AdamLora.main_arg0) = m ((c.tc : Thread Cert.AdamLora.nD Cert.AdamLora.τ).loc Cert.AdamLora.main_arg0)
      ∧ r.2.mem ((c.tc : Thread Cert.AdamLora.nD Cert.AdamLora.τ).loc Cert.AdamLora.main_arg1) = m ((c.tc : Thread Cert.AdamLora.nD Cert.AdamLora.τ).loc Cert.AdamLora.main_arg1)
      ∧ r.2.mem ((c.tc : Thread Cert.AdamLora.nD Cert.AdamLora.τ).loc Cert.AdamLora.main_arg2) = m ((c.tc : Thread Cert.AdamLora.nD Cert.AdamLora.τ).loc Cert.AdamLora.main_arg2)
      ∧ r.2.mem ((c.tc : Thread Cert.AdamLora.nD Cert.AdamLora.τ).loc Cert.AdamLora.main_arg3) = m ((c.tc : Thread Cert.AdamLora.nD Cert.AdamLora.τ).loc Cert.AdamLora.main_arg3)
      ∧ r.2.mem ((c.tc : Thread Cert.AdamLora.nD Cert.AdamLora.τ).loc Cert.AdamLora.main_arg4) = m ((c.tc : Thread Cert.AdamLora.nD Cert.AdamLora.τ).loc Cert.AdamLora.main_arg4))
      ∧ r.2.sem = fun _ => 0)

def quiescent_AdamLoraIdeal [hAdamLoraIdeal : Cert.AdamLoraIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg), Pre_AdamLoraIdeal m →
    θ_run (Cert.AdamLoraIdeal.defs (F := Ideal)) (onTc (τ := Cert.AdamLoraIdeal.τ) (Cert.AdamLoraIdeal.main (F := Ideal))) ⟨m, fun _ => 0, g⟩ (fun r => (∀ c : Dev Cert.AdamLoraIdeal.nD,
      r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
      ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
      ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
      ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3)
      ∧ r.2.mem ((c.tc : Thread Cert.AdamLoraIdeal.nD Cert.AdamLoraIdeal.τ).loc Cert.AdamLoraIdeal.main_arg4) = m ((c.tc : Thread Cert.AdamLoraIdeal.nD Cert.AdamLoraIdeal.τ).loc Cert.AdamLoraIdeal.main_arg4))
      ∧ r.2.sem = fun _ => 0)

def quiescent_AdamLoraRefIdeal [hAdamLoraRefIdeal : Cert.AdamLoraRefIdeal.Facts] : Prop :=
  ∀ (m : (ℓ : Loc Cert.AdamLoraRefIdeal.nD Cert.AdamLoraRefIdeal.τ Cert.AdamLoraRefIdeal.sig) → Buf (Elt Ideal) ℓ) (g : Dev Cert.AdamLoraRefIdeal.nD → PrngReg), Pre_AdamLoraRefIdeal m →
    θ_run (Cert.AdamLoraRefIdeal.defs (F := Ideal)) (onTc (τ := Cert.AdamLoraRefIdeal.τ) (Cert.AdamLoraRefIdeal.main (F := Ideal))) ⟨m, fun _ => 0, g⟩ (fun r => (∀ c : Dev Cert.AdamLoraRefIdeal.nD,
      r.2.mem ((c.tc : Thread Cert.AdamLoraRefIdeal.nD Cert.AdamLoraRefIdeal.τ).loc Cert.AdamLoraRefIdeal.main_arg0) = m ((c.tc : Thread Cert.AdamLoraRefIdeal.nD Cert.AdamLoraRefIdeal.τ).loc Cert.AdamLoraRefIdeal.main_arg0)
      ∧ r.2.mem ((c.tc : Thread Cert.AdamLoraRefIdeal.nD Cert.AdamLoraRefIdeal.τ).loc Cert.AdamLoraRefIdeal.main_arg1) = m ((c.tc : Thread Cert.AdamLoraRefIdeal.nD Cert.AdamLoraRefIdeal.τ).loc Cert.AdamLoraRefIdeal.main_arg1)
      ∧ r.2.mem ((c.tc : Thread Cert.AdamLoraRefIdeal.nD Cert.AdamLoraRefIdeal.τ).loc Cert.AdamLoraRefIdeal.main_arg2) = m ((c.tc : Thread Cert.AdamLoraRefIdeal.nD Cert.AdamLoraRefIdeal.τ).loc Cert.AdamLoraRefIdeal.main_arg2)
      ∧ r.2.mem ((c.tc : Thread Cert.AdamLoraRefIdeal.nD Cert.AdamLoraRefIdeal.τ).loc Cert.AdamLoraRefIdeal.main_arg3) = m ((c.tc : Thread Cert.AdamLoraRefIdeal.nD Cert.AdamLoraRefIdeal.τ).loc Cert.AdamLoraRefIdeal.main_arg3)
      ∧ r.2.mem ((c.tc : Thread Cert.AdamLoraRefIdeal.nD Cert.AdamLoraRefIdeal.τ).loc Cert.AdamLoraRefIdeal.main_arg4) = m ((c.tc : Thread Cert.AdamLoraRefIdeal.nD Cert.AdamLoraRefIdeal.τ).loc Cert.AdamLoraRefIdeal.main_arg4))
      ∧ r.2.sem = fun _ => 0)

def quiescent_AdamGateLora [hAdamGateLora : Cert.AdamGateLora.Facts] : Prop :=
  ∀ (m : (ℓ : Loc Cert.AdamGateLora.nD Cert.AdamGateLora.τ Cert.AdamGateLora.sig) → Buf (Elt Bits) ℓ) (g : Dev Cert.AdamGateLora.nD → PrngReg), Pre_AdamGateLora m →
    θ_run (Cert.AdamGateLora.defs (F := Bits)) (onTc (τ := Cert.AdamGateLora.τ) (Cert.AdamGateLora.main (F := Bits))) ⟨m, fun _ => 0, g⟩ (fun r => (∀ c : Dev Cert.AdamGateLora.nD,
      r.2.mem ((c.tc : Thread Cert.AdamGateLora.nD Cert.AdamGateLora.τ).loc Cert.AdamGateLora.main_arg0) = m ((c.tc : Thread Cert.AdamGateLora.nD Cert.AdamGateLora.τ).loc Cert.AdamGateLora.main_arg0)
      ∧ r.2.mem ((c.tc : Thread Cert.AdamGateLora.nD Cert.AdamGateLora.τ).loc Cert.AdamGateLora.main_arg1) = m ((c.tc : Thread Cert.AdamGateLora.nD Cert.AdamGateLora.τ).loc Cert.AdamGateLora.main_arg1)
      ∧ r.2.mem ((c.tc : Thread Cert.AdamGateLora.nD Cert.AdamGateLora.τ).loc Cert.AdamGateLora.main_arg2) = m ((c.tc : Thread Cert.AdamGateLora.nD Cert.AdamGateLora.τ).loc Cert.AdamGateLora.main_arg2)
      ∧ r.2.mem ((c.tc : Thread Cert.AdamGateLora.nD Cert.AdamGateLora.τ).loc Cert.AdamGateLora.main_arg3) = m ((c.tc : Thread Cert.AdamGateLora.nD Cert.AdamGateLora.τ).loc Cert.AdamGateLora.main_arg3)
      ∧ r.2.mem ((c.tc : Thread Cert.AdamGateLora.nD Cert.AdamGateLora.τ).loc Cert.AdamGateLora.main_arg4) = m ((c.tc : Thread Cert.AdamGateLora.nD Cert.AdamGateLora.τ).loc Cert.AdamGateLora.main_arg4))
      ∧ r.2.sem = fun _ => 0)

def quiescent_AdamGateLoraIdeal [hAdamGateLoraIdeal : Cert.AdamGateLoraIdeal.Facts] : Prop :=
  ∀ (m : (ℓ : Loc Cert.AdamGateLoraIdeal.nD Cert.AdamGateLoraIdeal.τ Cert.AdamGateLoraIdeal.sig) → Buf (Elt Ideal) ℓ) (g : Dev Cert.AdamGateLoraIdeal.nD → PrngReg), Pre_AdamGateLoraIdeal m →
    θ_run (Cert.AdamGateLoraIdeal.defs (F := Ideal)) (onTc (τ := Cert.AdamGateLoraIdeal.τ) (Cert.AdamGateLoraIdeal.main (F := Ideal))) ⟨m, fun _ => 0, g⟩ (fun r => (∀ c : Dev Cert.AdamGateLoraIdeal.nD,
      r.2.mem ((c.tc : Thread Cert.AdamGateLoraIdeal.nD Cert.AdamGateLoraIdeal.τ).loc Cert.AdamGateLoraIdeal.main_arg0) = m ((c.tc : Thread Cert.AdamGateLoraIdeal.nD Cert.AdamGateLoraIdeal.τ).loc Cert.AdamGateLoraIdeal.main_arg0)
      ∧ r.2.mem ((c.tc : Thread Cert.AdamGateLoraIdeal.nD Cert.AdamGateLoraIdeal.τ).loc Cert.AdamGateLoraIdeal.main_arg1) = m ((c.tc : Thread Cert.AdamGateLoraIdeal.nD Cert.AdamGateLoraIdeal.τ).loc Cert.AdamGateLoraIdeal.main_arg1)
      ∧ r.2.mem ((c.tc : Thread Cert.AdamGateLoraIdeal.nD Cert.AdamGateLoraIdeal.τ).loc Cert.AdamGateLoraIdeal.main_arg2) = m ((c.tc : Thread Cert.AdamGateLoraIdeal.nD Cert.AdamGateLoraIdeal.τ).loc Cert.AdamGateLoraIdeal.main_arg2)
      ∧ r.2.mem ((c.tc : Thread Cert.AdamGateLoraIdeal.nD Cert.AdamGateLoraIdeal.τ).loc Cert.AdamGateLoraIdeal.main_arg3) = m ((c.tc : Thread Cert.AdamGateLoraIdeal.nD Cert.AdamGateLoraIdeal.τ).loc Cert.AdamGateLoraIdeal.main_arg3)
      ∧ r.2.mem ((c.tc : Thread Cert.AdamGateLoraIdeal.nD Cert.AdamGateLoraIdeal.τ).loc Cert.AdamGateLoraIdeal.main_arg4) = m ((c.tc : Thread Cert.AdamGateLoraIdeal.nD Cert.AdamGateLoraIdeal.τ).loc Cert.AdamGateLoraIdeal.main_arg4))
      ∧ r.2.sem = fun _ => 0)

def quiescent_AdamGateLoraRefIdeal [hAdamGateLoraRefIdeal : Cert.AdamGateLoraRefIdeal.Facts] : Prop :=
  ∀ (m : (ℓ : Loc Cert.AdamGateLoraRefIdeal.nD Cert.AdamGateLoraRefIdeal.τ Cert.AdamGateLoraRefIdeal.sig) → Buf (Elt Ideal) ℓ) (g : Dev Cert.AdamGateLoraRefIdeal.nD → PrngReg), Pre_AdamGateLoraRefIdeal m →
    θ_run (Cert.AdamGateLoraRefIdeal.defs (F := Ideal)) (onTc (τ := Cert.AdamGateLoraRefIdeal.τ) (Cert.AdamGateLoraRefIdeal.main (F := Ideal))) ⟨m, fun _ => 0, g⟩ (fun r => (∀ c : Dev Cert.AdamGateLoraRefIdeal.nD,
      r.2.mem ((c.tc : Thread Cert.AdamGateLoraRefIdeal.nD Cert.AdamGateLoraRefIdeal.τ).loc Cert.AdamGateLoraRefIdeal.main_arg0) = m ((c.tc : Thread Cert.AdamGateLoraRefIdeal.nD Cert.AdamGateLoraRefIdeal.τ).loc Cert.AdamGateLoraRefIdeal.main_arg0)
      ∧ r.2.mem ((c.tc : Thread Cert.AdamGateLoraRefIdeal.nD Cert.AdamGateLoraRefIdeal.τ).loc Cert.AdamGateLoraRefIdeal.main_arg1) = m ((c.tc : Thread Cert.AdamGateLoraRefIdeal.nD Cert.AdamGateLoraRefIdeal.τ).loc Cert.AdamGateLoraRefIdeal.main_arg1)
      ∧ r.2.mem ((c.tc : Thread Cert.AdamGateLoraRefIdeal.nD Cert.AdamGateLoraRefIdeal.τ).loc Cert.AdamGateLoraRefIdeal.main_arg2) = m ((c.tc : Thread Cert.AdamGateLoraRefIdeal.nD Cert.AdamGateLoraRefIdeal.τ).loc Cert.AdamGateLoraRefIdeal.main_arg2)
      ∧ r.2.mem ((c.tc : Thread Cert.AdamGateLoraRefIdeal.nD Cert.AdamGateLoraRefIdeal.τ).loc Cert.AdamGateLoraRefIdeal.main_arg3) = m ((c.tc : Thread Cert.AdamGateLoraRefIdeal.nD Cert.AdamGateLoraRefIdeal.τ).loc Cert.AdamGateLoraRefIdeal.main_arg3)
      ∧ r.2.mem ((c.tc : Thread Cert.AdamGateLoraRefIdeal.nD Cert.AdamGateLoraRefIdeal.τ).loc Cert.AdamGateLoraRefIdeal.main_arg4) = m ((c.tc : Thread Cert.AdamGateLoraRefIdeal.nD Cert.AdamGateLoraRefIdeal.τ).loc Cert.AdamGateLoraRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  IdealRules.named_const.Statement Cert.KernelIdeal.κ "root_half" .f32 0x3F3504F3#32 (((Real.sqrt 2)⁻¹ : ℝ) : EReal)
  ∧ IdealRules.named_const.Statement Cert.KernelIdeal.κ "gauss" .f32 0x3ECC422A#32 (((9465531 / 16777216) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_v20) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v10) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DnGate_DnGateIdeal : Prop :=
  True

def algebraic_DnGateIdeal_DnGateRefIdeal [hDnGateIdeal : Cert.DnGateIdeal.Facts] [hDnGateRefIdeal : Cert.DnGateRefIdeal.Facts] : Prop :=
  ∀ (m : (ℓ : Loc Cert.DnGateIdeal.nD Cert.DnGateIdeal.τ Cert.DnGateIdeal.sig) → Buf (Elt Ideal) ℓ) (g : Dev Cert.DnGateIdeal.nD → PrngReg)
    (m' : (ℓ : Loc Cert.DnGateRefIdeal.nD Cert.DnGateRefIdeal.τ Cert.DnGateRefIdeal.sig) → Buf (Elt Ideal) ℓ) (g' : Dev Cert.DnGateRefIdeal.nD → PrngReg), Pre_DnGateIdeal m →
    (∀ c : Dev Cert.DnGateIdeal.nD,
      m' ((c.tc : Thread Cert.DnGateRefIdeal.nD Cert.DnGateRefIdeal.τ).loc Cert.DnGateRefIdeal.main_arg0) = m ((c.tc : Thread Cert.DnGateIdeal.nD Cert.DnGateIdeal.τ).loc Cert.DnGateIdeal.main_arg0)
      ∧ m' ((c.tc : Thread Cert.DnGateRefIdeal.nD Cert.DnGateRefIdeal.τ).loc Cert.DnGateRefIdeal.main_arg1) = m ((c.tc : Thread Cert.DnGateIdeal.nD Cert.DnGateIdeal.τ).loc Cert.DnGateIdeal.main_arg1)
      ∧ m' ((c.tc : Thread Cert.DnGateRefIdeal.nD Cert.DnGateRefIdeal.τ).loc Cert.DnGateRefIdeal.main_arg2) = m ((c.tc : Thread Cert.DnGateIdeal.nD Cert.DnGateIdeal.τ).loc Cert.DnGateIdeal.main_arg2)) →
    ∃ (v0 : (c : Dev Cert.DnGateIdeal.nD) → Buf (Elt Ideal) ((c.tc : Thread Cert.DnGateIdeal.nD Cert.DnGateIdeal.τ).loc Cert.DnGateIdeal.main_v0)),
      θ_run (Cert.DnGateIdeal.defs (F := Ideal)) (onTc (τ := Cert.DnGateIdeal.τ) (Cert.DnGateIdeal.main (F := Ideal))) ⟨m, fun _ => 0, g⟩ (fun r => ∀ c : Dev Cert.DnGateIdeal.nD,
          r.2.mem ((c.tc : Thread Cert.DnGateIdeal.nD Cert.DnGateIdeal.τ).loc Cert.DnGateIdeal.main_v0) = v0 c
          ∧ r.2.mem ((c.tc : Thread Cert.DnGateIdeal.nD Cert.DnGateIdeal.τ).loc Cert.DnGateIdeal.main_arg0) = m ((c.tc : Thread Cert.DnGateIdeal.nD Cert.DnGateIdeal.τ).loc Cert.DnGateIdeal.main_arg0)
          ∧ r.2.mem ((c.tc : Thread Cert.DnGateIdeal.nD Cert.DnGateIdeal.τ).loc Cert.DnGateIdeal.main_arg1) = m ((c.tc : Thread Cert.DnGateIdeal.nD Cert.DnGateIdeal.τ).loc Cert.DnGateIdeal.main_arg1)
          ∧ r.2.mem ((c.tc : Thread Cert.DnGateIdeal.nD Cert.DnGateIdeal.τ).loc Cert.DnGateIdeal.main_arg2) = m ((c.tc : Thread Cert.DnGateIdeal.nD Cert.DnGateIdeal.τ).loc Cert.DnGateIdeal.main_arg2))
      ∧ θ_run (Cert.DnGateRefIdeal.defs (F := Ideal)) (onTc (τ := Cert.DnGateRefIdeal.τ) (Cert.DnGateRefIdeal.main (F := Ideal))) ⟨m', fun _ => 0, g'⟩ (fun r => ∀ c : Dev Cert.DnGateRefIdeal.nD,
          r.2.mem ((c.tc : Thread Cert.DnGateRefIdeal.nD Cert.DnGateRefIdeal.τ).loc Cert.DnGateRefIdeal.main_v8) = v0 c
          ∧ r.2.mem ((c.tc : Thread Cert.DnGateRefIdeal.nD Cert.DnGateRefIdeal.τ).loc Cert.DnGateRefIdeal.main_arg0) = m' ((c.tc : Thread Cert.DnGateRefIdeal.nD Cert.DnGateRefIdeal.τ).loc Cert.DnGateRefIdeal.main_arg0)
          ∧ r.2.mem ((c.tc : Thread Cert.DnGateRefIdeal.nD Cert.DnGateRefIdeal.τ).loc Cert.DnGateRefIdeal.main_arg1) = m' ((c.tc : Thread Cert.DnGateRefIdeal.nD Cert.DnGateRefIdeal.τ).loc Cert.DnGateRefIdeal.main_arg1)
          ∧ r.2.mem ((c.tc : Thread Cert.DnGateRefIdeal.nD Cert.DnGateRefIdeal.τ).loc Cert.DnGateRefIdeal.main_arg2) = m' ((c.tc : Thread Cert.DnGateRefIdeal.nD Cert.DnGateRefIdeal.τ).loc Cert.DnGateRefIdeal.main_arg2))

def preserves_DnUp_DnUpIdeal : Prop :=
  True

def algebraic_DnUpIdeal_DnUpRefIdeal [hDnUpIdeal : Cert.DnUpIdeal.Facts] [hDnUpRefIdeal : Cert.DnUpRefIdeal.Facts] : Prop :=
  ∀ (m : (ℓ : Loc Cert.DnUpIdeal.nD Cert.DnUpIdeal.τ Cert.DnUpIdeal.sig) → Buf (Elt Ideal) ℓ) (g : Dev Cert.DnUpIdeal.nD → PrngReg)
    (m' : (ℓ : Loc Cert.DnUpRefIdeal.nD Cert.DnUpRefIdeal.τ Cert.DnUpRefIdeal.sig) → Buf (Elt Ideal) ℓ) (g' : Dev Cert.DnUpRefIdeal.nD → PrngReg), Pre_DnUpIdeal m →
    (∀ c : Dev Cert.DnUpIdeal.nD,
      m' ((c.tc : Thread Cert.DnUpRefIdeal.nD Cert.DnUpRefIdeal.τ).loc Cert.DnUpRefIdeal.main_arg0) = m ((c.tc : Thread Cert.DnUpIdeal.nD Cert.DnUpIdeal.τ).loc Cert.DnUpIdeal.main_arg0)
      ∧ m' ((c.tc : Thread Cert.DnUpRefIdeal.nD Cert.DnUpRefIdeal.τ).loc Cert.DnUpRefIdeal.main_arg1) = m ((c.tc : Thread Cert.DnUpIdeal.nD Cert.DnUpIdeal.τ).loc Cert.DnUpIdeal.main_arg1)
      ∧ m' ((c.tc : Thread Cert.DnUpRefIdeal.nD Cert.DnUpRefIdeal.τ).loc Cert.DnUpRefIdeal.main_arg2) = m ((c.tc : Thread Cert.DnUpIdeal.nD Cert.DnUpIdeal.τ).loc Cert.DnUpIdeal.main_arg2)
      ∧ m' ((c.tc : Thread Cert.DnUpRefIdeal.nD Cert.DnUpRefIdeal.τ).loc Cert.DnUpRefIdeal.main_arg3) = m ((c.tc : Thread Cert.DnUpIdeal.nD Cert.DnUpIdeal.τ).loc Cert.DnUpIdeal.main_arg3)) →
    ∃ (v0 : (c : Dev Cert.DnUpIdeal.nD) → Buf (Elt Ideal) ((c.tc : Thread Cert.DnUpIdeal.nD Cert.DnUpIdeal.τ).loc Cert.DnUpIdeal.main_v0)),
      θ_run (Cert.DnUpIdeal.defs (F := Ideal)) (onTc (τ := Cert.DnUpIdeal.τ) (Cert.DnUpIdeal.main (F := Ideal))) ⟨m, fun _ => 0, g⟩ (fun r => ∀ c : Dev Cert.DnUpIdeal.nD,
          r.2.mem ((c.tc : Thread Cert.DnUpIdeal.nD Cert.DnUpIdeal.τ).loc Cert.DnUpIdeal.main_v0) = v0 c
          ∧ r.2.mem ((c.tc : Thread Cert.DnUpIdeal.nD Cert.DnUpIdeal.τ).loc Cert.DnUpIdeal.main_arg0) = m ((c.tc : Thread Cert.DnUpIdeal.nD Cert.DnUpIdeal.τ).loc Cert.DnUpIdeal.main_arg0)
          ∧ r.2.mem ((c.tc : Thread Cert.DnUpIdeal.nD Cert.DnUpIdeal.τ).loc Cert.DnUpIdeal.main_arg1) = m ((c.tc : Thread Cert.DnUpIdeal.nD Cert.DnUpIdeal.τ).loc Cert.DnUpIdeal.main_arg1)
          ∧ r.2.mem ((c.tc : Thread Cert.DnUpIdeal.nD Cert.DnUpIdeal.τ).loc Cert.DnUpIdeal.main_arg2) = m ((c.tc : Thread Cert.DnUpIdeal.nD Cert.DnUpIdeal.τ).loc Cert.DnUpIdeal.main_arg2)
          ∧ r.2.mem ((c.tc : Thread Cert.DnUpIdeal.nD Cert.DnUpIdeal.τ).loc Cert.DnUpIdeal.main_arg3) = m ((c.tc : Thread Cert.DnUpIdeal.nD Cert.DnUpIdeal.τ).loc Cert.DnUpIdeal.main_arg3))
      ∧ θ_run (Cert.DnUpRefIdeal.defs (F := Ideal)) (onTc (τ := Cert.DnUpRefIdeal.τ) (Cert.DnUpRefIdeal.main (F := Ideal))) ⟨m', fun _ => 0, g'⟩ (fun r => ∀ c : Dev Cert.DnUpRefIdeal.nD,
          r.2.mem ((c.tc : Thread Cert.DnUpRefIdeal.nD Cert.DnUpRefIdeal.τ).loc Cert.DnUpRefIdeal.main_v9) = v0 c
          ∧ r.2.mem ((c.tc : Thread Cert.DnUpRefIdeal.nD Cert.DnUpRefIdeal.τ).loc Cert.DnUpRefIdeal.main_arg0) = m' ((c.tc : Thread Cert.DnUpRefIdeal.nD Cert.DnUpRefIdeal.τ).loc Cert.DnUpRefIdeal.main_arg0)
          ∧ r.2.mem ((c.tc : Thread Cert.DnUpRefIdeal.nD Cert.DnUpRefIdeal.τ).loc Cert.DnUpRefIdeal.main_arg1) = m' ((c.tc : Thread Cert.DnUpRefIdeal.nD Cert.DnUpRefIdeal.τ).loc Cert.DnUpRefIdeal.main_arg1)
          ∧ r.2.mem ((c.tc : Thread Cert.DnUpRefIdeal.nD Cert.DnUpRefIdeal.τ).loc Cert.DnUpRefIdeal.main_arg2) = m' ((c.tc : Thread Cert.DnUpRefIdeal.nD Cert.DnUpRefIdeal.τ).loc Cert.DnUpRefIdeal.main_arg2)
          ∧ r.2.mem ((c.tc : Thread Cert.DnUpRefIdeal.nD Cert.DnUpRefIdeal.τ).loc Cert.DnUpRefIdeal.main_arg3) = m' ((c.tc : Thread Cert.DnUpRefIdeal.nD Cert.DnUpRefIdeal.τ).loc Cert.DnUpRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v13) = v0 c
          ∧ r.2.mem ((c.tc : Thread Cert.GateUpRefIdeal.nD Cert.GateUpRefIdeal.τ).loc Cert.GateUpRefIdeal.main_v16) = v1 c
          ∧ r.2.mem ((c.tc : Thread Cert.GateUpRefIdeal.nD Cert.GateUpRefIdeal.τ).loc Cert.GateUpRefIdeal.main_v19) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dn1_Dn1Ideal : Prop :=
  True

def algebraic_Dn1Ideal_Dn1RefIdeal [hDn1Ideal : Cert.Dn1Ideal.Facts] [hDn1RefIdeal : Cert.Dn1RefIdeal.Facts] : Prop :=
  ∀ (m : (ℓ : Loc Cert.Dn1Ideal.nD Cert.Dn1Ideal.τ Cert.Dn1Ideal.sig) → Buf (Elt Ideal) ℓ) (g : Dev Cert.Dn1Ideal.nD → PrngReg)
    (m' : (ℓ : Loc Cert.Dn1RefIdeal.nD Cert.Dn1RefIdeal.τ Cert.Dn1RefIdeal.sig) → Buf (Elt Ideal) ℓ) (g' : Dev Cert.Dn1RefIdeal.nD → PrngReg), Pre_Dn1Ideal m →
    (∀ c : Dev Cert.Dn1Ideal.nD,
      m' ((c.tc : Thread Cert.Dn1RefIdeal.nD Cert.Dn1RefIdeal.τ).loc Cert.Dn1RefIdeal.main_arg0) = m ((c.tc : Thread Cert.Dn1Ideal.nD Cert.Dn1Ideal.τ).loc Cert.Dn1Ideal.main_arg0)
      ∧ m' ((c.tc : Thread Cert.Dn1RefIdeal.nD Cert.Dn1RefIdeal.τ).loc Cert.Dn1RefIdeal.main_arg1) = m ((c.tc : Thread Cert.Dn1Ideal.nD Cert.Dn1Ideal.τ).loc Cert.Dn1Ideal.main_arg1)
      ∧ m' ((c.tc : Thread Cert.Dn1RefIdeal.nD Cert.Dn1RefIdeal.τ).loc Cert.Dn1RefIdeal.main_arg2) = m ((c.tc : Thread Cert.Dn1Ideal.nD Cert.Dn1Ideal.τ).loc Cert.Dn1Ideal.main_arg2)) →
    ∃ (v0 : (c : Dev Cert.Dn1Ideal.nD) → Buf (Elt Ideal) ((c.tc : Thread Cert.Dn1Ideal.nD Cert.Dn1Ideal.τ).loc Cert.Dn1Ideal.main_v0)),
      θ_run (Cert.Dn1Ideal.defs (F := Ideal)) (onTc (τ := Cert.Dn1Ideal.τ) (Cert.Dn1Ideal.main (F := Ideal))) ⟨m, fun _ => 0, g⟩ (fun r => ∀ c : Dev Cert.Dn1Ideal.nD,
          r.2.mem ((c.tc : Thread Cert.Dn1Ideal.nD Cert.Dn1Ideal.τ).loc Cert.Dn1Ideal.main_v0) = v0 c
          ∧ r.2.mem ((c.tc : Thread Cert.Dn1Ideal.nD Cert.Dn1Ideal.τ).loc Cert.Dn1Ideal.main_arg0) = m ((c.tc : Thread Cert.Dn1Ideal.nD Cert.Dn1Ideal.τ).loc Cert.Dn1Ideal.main_arg0)
          ∧ r.2.mem ((c.tc : Thread Cert.Dn1Ideal.nD Cert.Dn1Ideal.τ).loc Cert.Dn1Ideal.main_arg1) = m ((c.tc : Thread Cert.Dn1Ideal.nD Cert.Dn1Ideal.τ).loc Cert.Dn1Ideal.main_arg1)
          ∧ r.2.mem ((c.tc : Thread Cert.Dn1Ideal.nD Cert.Dn1Ideal.τ).loc Cert.Dn1Ideal.main_arg2) = m ((c.tc : Thread Cert.Dn1Ideal.nD Cert.Dn1Ideal.τ).loc Cert.Dn1Ideal.main_arg2))
      ∧ θ_run (Cert.Dn1RefIdeal.defs (F := Ideal)) (onTc (τ := Cert.Dn1RefIdeal.τ) (Cert.Dn1RefIdeal.main (F := Ideal))) ⟨m', fun _ => 0, g'⟩ (fun r => ∀ c : Dev Cert.Dn1RefIdeal.nD,
          r.2.mem ((c.tc : Thread Cert.Dn1RefIdeal.nD Cert.Dn1RefIdeal.τ).loc Cert.Dn1RefIdeal.main_v4) = v0 c
          ∧ r.2.mem ((c.tc : Thread Cert.Dn1RefIdeal.nD Cert.Dn1RefIdeal.τ).loc Cert.Dn1RefIdeal.main_arg0) = m' ((c.tc : Thread Cert.Dn1RefIdeal.nD Cert.Dn1RefIdeal.τ).loc Cert.Dn1RefIdeal.main_arg0)
          ∧ r.2.mem ((c.tc : Thread Cert.Dn1RefIdeal.nD Cert.Dn1RefIdeal.τ).loc Cert.Dn1RefIdeal.main_arg1) = m' ((c.tc : Thread Cert.Dn1RefIdeal.nD Cert.Dn1RefIdeal.τ).loc Cert.Dn1RefIdeal.main_arg1)
          ∧ r.2.mem ((c.tc : Thread Cert.Dn1RefIdeal.nD Cert.Dn1RefIdeal.τ).loc Cert.Dn1RefIdeal.main_arg2) = m' ((c.tc : Thread Cert.Dn1RefIdeal.nD Cert.Dn1RefIdeal.τ).loc Cert.Dn1RefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v4) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v4) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v6) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v6) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v8) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v3) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v45) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamLora_AdamLoraIdeal : Prop :=
  True

def algebraic_AdamLoraIdeal_AdamLoraRefIdeal [hAdamLoraIdeal : Cert.AdamLoraIdeal.Facts] [hAdamLoraRefIdeal : Cert.AdamLoraRefIdeal.Facts] : Prop :=
  ∀ (m : (ℓ : Loc Cert.AdamLoraIdeal.nD Cert.AdamLoraIdeal.τ Cert.AdamLoraIdeal.sig) → Buf (Elt Ideal) ℓ) (g : Dev Cert.AdamLoraIdeal.nD → PrngReg)
    (m' : (ℓ : Loc Cert.AdamLoraRefIdeal.nD Cert.AdamLoraRefIdeal.τ Cert.AdamLoraRefIdeal.sig) → Buf (Elt Ideal) ℓ) (g' : Dev Cert.AdamLoraRefIdeal.nD → PrngReg), Pre_AdamLoraIdeal m →
    (∀ c : Dev Cert.AdamLoraIdeal.nD,
      m' ((c.tc : Thread Cert.AdamLoraRefIdeal.nD Cert.AdamLoraRefIdeal.τ).loc Cert.AdamLoraRefIdeal.main_arg0) = m ((c.tc : Thread Cert.AdamLoraIdeal.nD Cert.AdamLoraIdeal.τ).loc Cert.AdamLoraIdeal.main_arg0)
      ∧ m' ((c.tc : Thread Cert.AdamLoraRefIdeal.nD Cert.AdamLoraRefIdeal.τ).loc Cert.AdamLoraRefIdeal.main_arg1) = m ((c.tc : Thread Cert.AdamLoraIdeal.nD Cert.AdamLoraIdeal.τ).loc Cert.AdamLoraIdeal.main_arg1)
      ∧ m' ((c.tc : Thread Cert.AdamLoraRefIdeal.nD Cert.AdamLoraRefIdeal.τ).loc Cert.AdamLoraRefIdeal.main_arg2) = m ((c.tc : Thread Cert.AdamLoraIdeal.nD Cert.AdamLoraIdeal.τ).loc Cert.AdamLoraIdeal.main_arg2)
      ∧ m' ((c.tc : Thread Cert.AdamLoraRefIdeal.nD Cert.AdamLoraRefIdeal.τ).loc Cert.AdamLoraRefIdeal.main_arg3) = m ((c.tc : Thread Cert.AdamLoraIdeal.nD Cert.AdamLoraIdeal.τ).loc Cert.AdamLoraIdeal.main_arg3)
      ∧ m' ((c.tc : Thread Cert.AdamLoraRefIdeal.nD Cert.AdamLoraRefIdeal.τ).loc Cert.AdamLoraRefIdeal.main_arg4) = m ((c.tc : Thread Cert.AdamLoraIdeal.nD Cert.AdamLoraIdeal.τ).loc Cert.AdamLoraIdeal.main_arg4)) →
    ∃ (v0 : (c : Dev Cert.AdamLoraIdeal.nD) → Buf (Elt Ideal) ((c.tc : Thread Cert.AdamLoraIdeal.nD Cert.AdamLoraIdeal.τ).loc Cert.AdamLoraIdeal.main_v0_0)) (v1 : (c : Dev Cert.AdamLoraIdeal.nD) → Buf (Elt Ideal) ((c.tc : Thread Cert.AdamLoraIdeal.nD Cert.AdamLoraIdeal.τ).loc Cert.AdamLoraIdeal.main_v0_1)) (v2 : (c : Dev Cert.AdamLoraIdeal.nD) → Buf (Elt Ideal) ((c.tc : Thread Cert.AdamLoraIdeal.nD Cert.AdamLoraIdeal.τ).loc Cert.AdamLoraIdeal.main_v0_2)) (v3 : (c : Dev Cert.AdamLoraIdeal.nD) → Buf (Elt Ideal) ((c.tc : Thread Cert.AdamLoraIdeal.nD Cert.AdamLoraIdeal.τ).loc Cert.AdamLoraIdeal.main_v0_3)),
      θ_run (Cert.AdamLoraIdeal.defs (F := Ideal)) (onTc (τ := Cert.AdamLoraIdeal.τ) (Cert.AdamLoraIdeal.main (F := Ideal))) ⟨m, fun _ => 0, g⟩ (fun r => ∀ c : Dev Cert.AdamLoraIdeal.nD,
          r.2.mem ((c.tc : Thread Cert.AdamLoraIdeal.nD Cert.AdamLoraIdeal.τ).loc Cert.AdamLoraIdeal.main_v0_0) = v0 c
          ∧ r.2.mem ((c.tc : Thread Cert.AdamLoraIdeal.nD Cert.AdamLoraIdeal.τ).loc Cert.AdamLoraIdeal.main_v0_1) = v1 c
          ∧ r.2.mem ((c.tc : Thread Cert.AdamLoraIdeal.nD Cert.AdamLoraIdeal.τ).loc Cert.AdamLoraIdeal.main_v0_2) = v2 c
          ∧ r.2.mem ((c.tc : Thread Cert.AdamLoraIdeal.nD Cert.AdamLoraIdeal.τ).loc Cert.AdamLoraIdeal.main_v0_3) = v3 c
          ∧ r.2.mem ((c.tc : Thread Cert.AdamLoraIdeal.nD Cert.AdamLoraIdeal.τ).loc Cert.AdamLoraIdeal.main_arg0) = m ((c.tc : Thread Cert.AdamLoraIdeal.nD Cert.AdamLoraIdeal.τ).loc Cert.AdamLoraIdeal.main_arg0)
          ∧ r.2.mem ((c.tc : Thread Cert.AdamLoraIdeal.nD Cert.AdamLoraIdeal.τ).loc Cert.AdamLoraIdeal.main_arg1) = m ((c.tc : Thread Cert.AdamLoraIdeal.nD Cert.AdamLoraIdeal.τ).loc Cert.AdamLoraIdeal.main_arg1)
          ∧ r.2.mem ((c.tc : Thread Cert.AdamLoraIdeal.nD Cert.AdamLoraIdeal.τ).loc Cert.AdamLoraIdeal.main_arg2) = m ((c.tc : Thread Cert.AdamLoraIdeal.nD Cert.AdamLoraIdeal.τ).loc Cert.AdamLoraIdeal.main_arg2)
          ∧ r.2.mem ((c.tc : Thread Cert.AdamLoraIdeal.nD Cert.AdamLoraIdeal.τ).loc Cert.AdamLoraIdeal.main_arg3) = m ((c.tc : Thread Cert.AdamLoraIdeal.nD Cert.AdamLoraIdeal.τ).loc Cert.AdamLoraIdeal.main_arg3)
          ∧ r.2.mem ((c.tc : Thread Cert.AdamLoraIdeal.nD Cert.AdamLoraIdeal.τ).loc Cert.AdamLoraIdeal.main_arg4) = m ((c.tc : Thread Cert.AdamLoraIdeal.nD Cert.AdamLoraIdeal.τ).loc Cert.AdamLoraIdeal.main_arg4))
      ∧ θ_run (Cert.AdamLoraRefIdeal.defs (F := Ideal)) (onTc (τ := Cert.AdamLoraRefIdeal.τ) (Cert.AdamLoraRefIdeal.main (F := Ideal))) ⟨m', fun _ => 0, g'⟩ (fun r => ∀ c : Dev Cert.AdamLoraRefIdeal.nD,
          r.2.mem ((c.tc : Thread Cert.AdamLoraRefIdeal.nD Cert.AdamLoraRefIdeal.τ).loc Cert.AdamLoraRefIdeal.main_v1) = v0 c
          ∧ r.2.mem ((c.tc : Thread Cert.AdamLoraRefIdeal.nD Cert.AdamLoraRefIdeal.τ).loc Cert.AdamLoraRefIdeal.main_v25) = v1 c
          ∧ r.2.mem ((c.tc : Thread Cert.AdamLoraRefIdeal.nD Cert.AdamLoraRefIdeal.τ).loc Cert.AdamLoraRefIdeal.main_v6) = v2 c
          ∧ r.2.mem ((c.tc : Thread Cert.AdamLoraRefIdeal.nD Cert.AdamLoraRefIdeal.τ).loc Cert.AdamLoraRefIdeal.main_v12) = v3 c
          ∧ r.2.mem ((c.tc : Thread Cert.AdamLoraRefIdeal.nD Cert.AdamLoraRefIdeal.τ).loc Cert.AdamLoraRefIdeal.main_arg0) = m' ((c.tc : Thread Cert.AdamLoraRefIdeal.nD Cert.AdamLoraRefIdeal.τ).loc Cert.AdamLoraRefIdeal.main_arg0)
          ∧ r.2.mem ((c.tc : Thread Cert.AdamLoraRefIdeal.nD Cert.AdamLoraRefIdeal.τ).loc Cert.AdamLoraRefIdeal.main_arg1) = m' ((c.tc : Thread Cert.AdamLoraRefIdeal.nD Cert.AdamLoraRefIdeal.τ).loc Cert.AdamLoraRefIdeal.main_arg1)
          ∧ r.2.mem ((c.tc : Thread Cert.AdamLoraRefIdeal.nD Cert.AdamLoraRefIdeal.τ).loc Cert.AdamLoraRefIdeal.main_arg2) = m' ((c.tc : Thread Cert.AdamLoraRefIdeal.nD Cert.AdamLoraRefIdeal.τ).loc Cert.AdamLoraRefIdeal.main_arg2)
          ∧ r.2.mem ((c.tc : Thread Cert.AdamLoraRefIdeal.nD Cert.AdamLoraRefIdeal.τ).loc Cert.AdamLoraRefIdeal.main_arg3) = m' ((c.tc : Thread Cert.AdamLoraRefIdeal.nD Cert.AdamLoraRefIdeal.τ).loc Cert.AdamLoraRefIdeal.main_arg3)
          ∧ r.2.mem ((c.tc : Thread Cert.AdamLoraRefIdeal.nD Cert.AdamLoraRefIdeal.τ).loc Cert.AdamLoraRefIdeal.main_arg4) = m' ((c.tc : Thread Cert.AdamLoraRefIdeal.nD Cert.AdamLoraRefIdeal.τ).loc Cert.AdamLoraRefIdeal.main_arg4))

def preserves_AdamGateLora_AdamGateLoraIdeal : Prop :=
  True

def algebraic_AdamGateLoraIdeal_AdamGateLoraRefIdeal [hAdamGateLoraIdeal : Cert.AdamGateLoraIdeal.Facts] [hAdamGateLoraRefIdeal : Cert.AdamGateLoraRefIdeal.Facts] : Prop :=
  ∀ (m : (ℓ : Loc Cert.AdamGateLoraIdeal.nD Cert.AdamGateLoraIdeal.τ Cert.AdamGateLoraIdeal.sig) → Buf (Elt Ideal) ℓ) (g : Dev Cert.AdamGateLoraIdeal.nD → PrngReg)
    (m' : (ℓ : Loc Cert.AdamGateLoraRefIdeal.nD Cert.AdamGateLoraRefIdeal.τ Cert.AdamGateLoraRefIdeal.sig) → Buf (Elt Ideal) ℓ) (g' : Dev Cert.AdamGateLoraRefIdeal.nD → PrngReg), Pre_AdamGateLoraIdeal m →
    (∀ c : Dev Cert.AdamGateLoraIdeal.nD,
      m' ((c.tc : Thread Cert.AdamGateLoraRefIdeal.nD Cert.AdamGateLoraRefIdeal.τ).loc Cert.AdamGateLoraRefIdeal.main_arg0) = m ((c.tc : Thread Cert.AdamGateLoraIdeal.nD Cert.AdamGateLoraIdeal.τ).loc Cert.AdamGateLoraIdeal.main_arg0)
      ∧ m' ((c.tc : Thread Cert.AdamGateLoraRefIdeal.nD Cert.AdamGateLoraRefIdeal.τ).loc Cert.AdamGateLoraRefIdeal.main_arg1) = m ((c.tc : Thread Cert.AdamGateLoraIdeal.nD Cert.AdamGateLoraIdeal.τ).loc Cert.AdamGateLoraIdeal.main_arg1)
      ∧ m' ((c.tc : Thread Cert.AdamGateLoraRefIdeal.nD Cert.AdamGateLoraRefIdeal.τ).loc Cert.AdamGateLoraRefIdeal.main_arg2) = m ((c.tc : Thread Cert.AdamGateLoraIdeal.nD Cert.AdamGateLoraIdeal.τ).loc Cert.AdamGateLoraIdeal.main_arg2)
      ∧ m' ((c.tc : Thread Cert.AdamGateLoraRefIdeal.nD Cert.AdamGateLoraRefIdeal.τ).loc Cert.AdamGateLoraRefIdeal.main_arg3) = m ((c.tc : Thread Cert.AdamGateLoraIdeal.nD Cert.AdamGateLoraIdeal.τ).loc Cert.AdamGateLoraIdeal.main_arg3)
      ∧ m' ((c.tc : Thread Cert.AdamGateLoraRefIdeal.nD Cert.AdamGateLoraRefIdeal.τ).loc Cert.AdamGateLoraRefIdeal.main_arg4) = m ((c.tc : Thread Cert.AdamGateLoraIdeal.nD Cert.AdamGateLoraIdeal.τ).loc Cert.AdamGateLoraIdeal.main_arg4)) →
    ∃ (v0 : (c : Dev Cert.AdamGateLoraIdeal.nD) → Buf (Elt Ideal) ((c.tc : Thread Cert.AdamGateLoraIdeal.nD Cert.AdamGateLoraIdeal.τ).loc Cert.AdamGateLoraIdeal.main_v0_0)) (v1 : (c : Dev Cert.AdamGateLoraIdeal.nD) → Buf (Elt Ideal) ((c.tc : Thread Cert.AdamGateLoraIdeal.nD Cert.AdamGateLoraIdeal.τ).loc Cert.AdamGateLoraIdeal.main_v0_1)) (v2 : (c : Dev Cert.AdamGateLoraIdeal.nD) → Buf (Elt Ideal) ((c.tc : Thread Cert.AdamGateLoraIdeal.nD Cert.AdamGateLoraIdeal.τ).loc Cert.AdamGateLoraIdeal.main_v0_2)) (v3 : (c : Dev Cert.AdamGateLoraIdeal.nD) → Buf (Elt Ideal) ((c.tc : Thread Cert.AdamGateLoraIdeal.nD Cert.AdamGateLoraIdeal.τ).loc Cert.AdamGateLoraIdeal.main_v0_3)),
      θ_run (Cert.AdamGateLoraIdeal.defs (F := Ideal)) (onTc (τ := Cert.AdamGateLoraIdeal.τ) (Cert.AdamGateLoraIdeal.main (F := Ideal))) ⟨m, fun _ => 0, g⟩ (fun r => ∀ c : Dev Cert.AdamGateLoraIdeal.nD,
          r.2.mem ((c.tc : Thread Cert.AdamGateLoraIdeal.nD Cert.AdamGateLoraIdeal.τ).loc Cert.AdamGateLoraIdeal.main_v0_0) = v0 c
          ∧ r.2.mem ((c.tc : Thread Cert.AdamGateLoraIdeal.nD Cert.AdamGateLoraIdeal.τ).loc Cert.AdamGateLoraIdeal.main_v0_1) = v1 c
          ∧ r.2.mem ((c.tc : Thread Cert.AdamGateLoraIdeal.nD Cert.AdamGateLoraIdeal.τ).loc Cert.AdamGateLoraIdeal.main_v0_2) = v2 c
          ∧ r.2.mem ((c.tc : Thread Cert.AdamGateLoraIdeal.nD Cert.AdamGateLoraIdeal.τ).loc Cert.AdamGateLoraIdeal.main_v0_3) = v3 c
          ∧ r.2.mem ((c.tc : Thread Cert.AdamGateLoraIdeal.nD Cert.AdamGateLoraIdeal.τ).loc Cert.AdamGateLoraIdeal.main_arg0) = m ((c.tc : Thread Cert.AdamGateLoraIdeal.nD Cert.AdamGateLoraIdeal.τ).loc Cert.AdamGateLoraIdeal.main_arg0)
          ∧ r.2.mem ((c.tc : Thread Cert.AdamGateLoraIdeal.nD Cert.AdamGateLoraIdeal.τ).loc Cert.AdamGateLoraIdeal.main_arg1) = m ((c.tc : Thread Cert.AdamGateLoraIdeal.nD Cert.AdamGateLoraIdeal.τ).loc Cert.AdamGateLoraIdeal.main_arg1)
          ∧ r.2.mem ((c.tc : Thread Cert.AdamGateLoraIdeal.nD Cert.AdamGateLoraIdeal.τ).loc Cert.AdamGateLoraIdeal.main_arg2) = m ((c.tc : Thread Cert.AdamGateLoraIdeal.nD Cert.AdamGateLoraIdeal.τ).loc Cert.AdamGateLoraIdeal.main_arg2)
          ∧ r.2.mem ((c.tc : Thread Cert.AdamGateLoraIdeal.nD Cert.AdamGateLoraIdeal.τ).loc Cert.AdamGateLoraIdeal.main_arg3) = m ((c.tc : Thread Cert.AdamGateLoraIdeal.nD Cert.AdamGateLoraIdeal.τ).loc Cert.AdamGateLoraIdeal.main_arg3)
          ∧ r.2.mem ((c.tc : Thread Cert.AdamGateLoraIdeal.nD Cert.AdamGateLoraIdeal.τ).loc Cert.AdamGateLoraIdeal.main_arg4) = m ((c.tc : Thread Cert.AdamGateLoraIdeal.nD Cert.AdamGateLoraIdeal.τ).loc Cert.AdamGateLoraIdeal.main_arg4))
      ∧ θ_run (Cert.AdamGateLoraRefIdeal.defs (F := Ideal)) (onTc (τ := Cert.AdamGateLoraRefIdeal.τ) (Cert.AdamGateLoraRefIdeal.main (F := Ideal))) ⟨m', fun _ => 0, g'⟩ (fun r => ∀ c : Dev Cert.AdamGateLoraRefIdeal.nD,
          r.2.mem ((c.tc : Thread Cert.AdamGateLoraRefIdeal.nD Cert.AdamGateLoraRefIdeal.τ).loc Cert.AdamGateLoraRefIdeal.main_v1) = v0 c
          ∧ r.2.mem ((c.tc : Thread Cert.AdamGateLoraRefIdeal.nD Cert.AdamGateLoraRefIdeal.τ).loc Cert.AdamGateLoraRefIdeal.main_v25) = v1 c
          ∧ r.2.mem ((c.tc : Thread Cert.AdamGateLoraRefIdeal.nD Cert.AdamGateLoraRefIdeal.τ).loc Cert.AdamGateLoraRefIdeal.main_v6) = v2 c
          ∧ r.2.mem ((c.tc : Thread Cert.AdamGateLoraRefIdeal.nD Cert.AdamGateLoraRefIdeal.τ).loc Cert.AdamGateLoraRefIdeal.main_v12) = v3 c
          ∧ r.2.mem ((c.tc : Thread Cert.AdamGateLoraRefIdeal.nD Cert.AdamGateLoraRefIdeal.τ).loc Cert.AdamGateLoraRefIdeal.main_arg0) = m' ((c.tc : Thread Cert.AdamGateLoraRefIdeal.nD Cert.AdamGateLoraRefIdeal.τ).loc Cert.AdamGateLoraRefIdeal.main_arg0)
          ∧ r.2.mem ((c.tc : Thread Cert.AdamGateLoraRefIdeal.nD Cert.AdamGateLoraRefIdeal.τ).loc Cert.AdamGateLoraRefIdeal.main_arg1) = m' ((c.tc : Thread Cert.AdamGateLoraRefIdeal.nD Cert.AdamGateLoraRefIdeal.τ).loc Cert.AdamGateLoraRefIdeal.main_arg1)
          ∧ r.2.mem ((c.tc : Thread Cert.AdamGateLoraRefIdeal.nD Cert.AdamGateLoraRefIdeal.τ).loc Cert.AdamGateLoraRefIdeal.main_arg2) = m' ((c.tc : Thread Cert.AdamGateLoraRefIdeal.nD Cert.AdamGateLoraRefIdeal.τ).loc Cert.AdamGateLoraRefIdeal.main_arg2)
          ∧ r.2.mem ((c.tc : Thread Cert.AdamGateLoraRefIdeal.nD Cert.AdamGateLoraRefIdeal.τ).loc Cert.AdamGateLoraRefIdeal.main_arg3) = m' ((c.tc : Thread Cert.AdamGateLoraRefIdeal.nD Cert.AdamGateLoraRefIdeal.τ).loc Cert.AdamGateLoraRefIdeal.main_arg3)
          ∧ r.2.mem ((c.tc : Thread Cert.AdamGateLoraRefIdeal.nD Cert.AdamGateLoraRefIdeal.τ).loc Cert.AdamGateLoraRefIdeal.main_arg4) = m' ((c.tc : Thread Cert.AdamGateLoraRefIdeal.nD Cert.AdamGateLoraRefIdeal.τ).loc Cert.AdamGateLoraRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActRefIdeal : Cert.ActRefIdeal.Facts) (hDwDown : Cert.DwDown.Facts) (hDwDownIdeal : Cert.DwDownIdeal.Facts) (hDwDownRefIdeal : Cert.DwDownRefIdeal.Facts) (hDwGate : Cert.DwGate.Facts) (hDwGateIdeal : Cert.DwGateIdeal.Facts) (hDwGateRefIdeal : Cert.DwGateRefIdeal.Facts) (hDwUp : Cert.DwUp.Facts) (hDwUpIdeal : Cert.DwUpIdeal.Facts) (hDwUpRefIdeal : Cert.DwUpRefIdeal.Facts) (hDnGate : Cert.DnGate.Facts) (hDnGateIdeal : Cert.DnGateIdeal.Facts) (hDnGateRefIdeal : Cert.DnGateRefIdeal.Facts) (hDnUp : Cert.DnUp.Facts) (hDnUpIdeal : Cert.DnUpIdeal.Facts) (hDnUpRefIdeal : Cert.DnUpRefIdeal.Facts) (hGateUp : Cert.GateUp.Facts) (hGateUpIdeal : Cert.GateUpIdeal.Facts) (hGateUpRefIdeal : Cert.GateUpRefIdeal.Facts) (hDwIn : Cert.DwIn.Facts) (hDwInIdeal : Cert.DwInIdeal.Facts) (hDwInRefIdeal : Cert.DwInRefIdeal.Facts) (hDn1 : Cert.Dn1.Facts) (hDn1Ideal : Cert.Dn1Ideal.Facts) (hDn1RefIdeal : Cert.Dn1RefIdeal.Facts) (hProjIn : Cert.ProjIn.Facts) (hProjInIdeal : Cert.ProjInIdeal.Facts) (hProjInRefIdeal : Cert.ProjInRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hDMerged : Cert.DMerged.Facts) (hDMergedIdeal : Cert.DMergedIdeal.Facts) (hDMergedRefIdeal : Cert.DMergedRefIdeal.Facts) (hDwOut : Cert.DwOut.Facts) (hDwOutIdeal : Cert.DwOutIdeal.Facts) (hDwOutRefIdeal : Cert.DwOutRefIdeal.Facts) (hProjA : Cert.ProjA.Facts) (hProjAIdeal : Cert.ProjAIdeal.Facts) (hProjARefIdeal : Cert.ProjARefIdeal.Facts) (hMerge : Cert.Merge.Facts) (hMergeIdeal : Cert.MergeIdeal.Facts) (hMergeRefIdeal : Cert.MergeRefIdeal.Facts) (hDy : Cert.Dy.Facts) (hDyIdeal : Cert.DyIdeal.Facts) (hDyRefIdeal : Cert.DyRefIdeal.Facts) (hDwProj : Cert.DwProj.Facts) (hDwProjIdeal : Cert.DwProjIdeal.Facts) (hDwProjRefIdeal : Cert.DwProjRefIdeal.Facts) (hPost : Cert.Post.Facts) (hPostIdeal : Cert.PostIdeal.Facts) (hPostRefIdeal : Cert.PostRefIdeal.Facts) (hAdamFfn : Cert.AdamFfn.Facts) (hAdamFfnIdeal : Cert.AdamFfnIdeal.Facts) (hAdamFfnRefIdeal : Cert.AdamFfnRefIdeal.Facts) (hAdamDown : Cert.AdamDown.Facts) (hAdamDownIdeal : Cert.AdamDownIdeal.Facts) (hAdamDownRefIdeal : Cert.AdamDownRefIdeal.Facts) (hAdamProj : Cert.AdamProj.Facts) (hAdamProjIdeal : Cert.AdamProjIdeal.Facts) (hAdamProjRefIdeal : Cert.AdamProjRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamLora : Cert.AdamLora.Facts) (hAdamLoraIdeal : Cert.AdamLoraIdeal.Facts) (hAdamLoraRefIdeal : Cert.AdamLoraRefIdeal.Facts) (hAdamGateLora : Cert.AdamGateLora.Facts) (hAdamGateLoraIdeal : Cert.AdamGateLoraIdeal.Facts) (hAdamGateLoraRefIdeal : Cert.AdamGateLoraRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DnGate (hDnGate := hDnGate)
    ∧ quiescent_DnGateIdeal (hDnGateIdeal := hDnGateIdeal)
    ∧ quiescent_DnGateRefIdeal (hDnGateRefIdeal := hDnGateRefIdeal)
    ∧ quiescent_DnUp (hDnUp := hDnUp)
    ∧ quiescent_DnUpIdeal (hDnUpIdeal := hDnUpIdeal)
    ∧ quiescent_DnUpRefIdeal (hDnUpRefIdeal := hDnUpRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dn1 (hDn1 := hDn1)
    ∧ quiescent_Dn1Ideal (hDn1Ideal := hDn1Ideal)
    ∧ quiescent_Dn1RefIdeal (hDn1RefIdeal := hDn1RefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_ProjA (hProjA := hProjA)
    ∧ quiescent_ProjAIdeal (hProjAIdeal := hProjAIdeal)
    ∧ quiescent_ProjARefIdeal (hProjARefIdeal := hProjARefIdeal)
    ∧ quiescent_Merge (hMerge := hMerge)
    ∧ quiescent_MergeIdeal (hMergeIdeal := hMergeIdeal)
    ∧ quiescent_MergeRefIdeal (hMergeRefIdeal := hMergeRefIdeal)
    ∧ quiescent_Dy (hDy := hDy)
    ∧ quiescent_DyIdeal (hDyIdeal := hDyIdeal)
    ∧ quiescent_DyRefIdeal (hDyRefIdeal := hDyRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_Post (hPost := hPost)
    ∧ quiescent_PostIdeal (hPostIdeal := hPostIdeal)
    ∧ quiescent_PostRefIdeal (hPostRefIdeal := hPostRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamLora (hAdamLora := hAdamLora)
    ∧ quiescent_AdamLoraIdeal (hAdamLoraIdeal := hAdamLoraIdeal)
    ∧ quiescent_AdamLoraRefIdeal (hAdamLoraRefIdeal := hAdamLoraRefIdeal)
    ∧ quiescent_AdamGateLora (hAdamGateLora := hAdamGateLora)
    ∧ quiescent_AdamGateLoraIdeal (hAdamGateLoraIdeal := hAdamGateLoraIdeal)
    ∧ quiescent_AdamGateLoraRefIdeal (hAdamGateLoraRefIdeal := hAdamGateLoraRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActRefIdeal_pre_finite_act (hActIdeal := hActIdeal) (hActRefIdeal := hActRefIdeal) (hPre_finite_act := hPre_finite_act)
    ∧ preserves_DwDown_DwDownIdeal
    ∧ algebraic_DwDownIdeal_DwDownRefIdeal (hDwDownIdeal := hDwDownIdeal) (hDwDownRefIdeal := hDwDownRefIdeal)
    ∧ preserves_DwGate_DwGateIdeal
    ∧ algebraic_DwGateIdeal_DwGateRefIdeal (hDwGateIdeal := hDwGateIdeal) (hDwGateRefIdeal := hDwGateRefIdeal)
    ∧ preserves_DwUp_DwUpIdeal
    ∧ algebraic_DwUpIdeal_DwUpRefIdeal (hDwUpIdeal := hDwUpIdeal) (hDwUpRefIdeal := hDwUpRefIdeal)
    ∧ preserves_DnGate_DnGateIdeal
    ∧ algebraic_DnGateIdeal_DnGateRefIdeal (hDnGateIdeal := hDnGateIdeal) (hDnGateRefIdeal := hDnGateRefIdeal)
    ∧ preserves_DnUp_DnUpIdeal
    ∧ algebraic_DnUpIdeal_DnUpRefIdeal (hDnUpIdeal := hDnUpIdeal) (hDnUpRefIdeal := hDnUpRefIdeal)
    ∧ preserves_GateUp_GateUpIdeal
    ∧ algebraic_GateUpIdeal_GateUpRefIdeal (hGateUpIdeal := hGateUpIdeal) (hGateUpRefIdeal := hGateUpRefIdeal)
    ∧ preserves_DwIn_DwInIdeal
    ∧ algebraic_DwInIdeal_DwInRefIdeal (hDwInIdeal := hDwInIdeal) (hDwInRefIdeal := hDwInRefIdeal)
    ∧ preserves_Dn1_Dn1Ideal
    ∧ algebraic_Dn1Ideal_Dn1RefIdeal (hDn1Ideal := hDn1Ideal) (hDn1RefIdeal := hDn1RefIdeal)
    ∧ preserves_ProjIn_ProjInIdeal
    ∧ algebraic_ProjInIdeal_ProjInRefIdeal (hProjInIdeal := hProjInIdeal) (hProjInRefIdeal := hProjInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_DMerged_DMergedIdeal
    ∧ algebraic_DMergedIdeal_DMergedRefIdeal (hDMergedIdeal := hDMergedIdeal) (hDMergedRefIdeal := hDMergedRefIdeal)
    ∧ preserves_DwOut_DwOutIdeal
    ∧ algebraic_DwOutIdeal_DwOutRefIdeal (hDwOutIdeal := hDwOutIdeal) (hDwOutRefIdeal := hDwOutRefIdeal)
    ∧ preserves_ProjA_ProjAIdeal
    ∧ algebraic_ProjAIdeal_ProjARefIdeal (hProjAIdeal := hProjAIdeal) (hProjARefIdeal := hProjARefIdeal)
    ∧ preserves_Merge_MergeIdeal
    ∧ algebraic_MergeIdeal_MergeRefIdeal (hMergeIdeal := hMergeIdeal) (hMergeRefIdeal := hMergeRefIdeal)
    ∧ preserves_Dy_DyIdeal
    ∧ algebraic_DyIdeal_DyRefIdeal (hDyIdeal := hDyIdeal) (hDyRefIdeal := hDyRefIdeal)
    ∧ preserves_DwProj_DwProjIdeal
    ∧ algebraic_DwProjIdeal_DwProjRefIdeal (hDwProjIdeal := hDwProjIdeal) (hDwProjRefIdeal := hDwProjRefIdeal)
    ∧ preserves_Post_PostIdeal
    ∧ algebraic_PostIdeal_PostRefIdeal (hPostIdeal := hPostIdeal) (hPostRefIdeal := hPostRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamLora_AdamLoraIdeal
    ∧ algebraic_AdamLoraIdeal_AdamLoraRefIdeal (hAdamLoraIdeal := hAdamLoraIdeal) (hAdamLoraRefIdeal := hAdamLoraRefIdeal)
    ∧ preserves_AdamGateLora_AdamGateLoraIdeal
    ∧ algebraic_AdamGateLoraIdeal_AdamGateLoraRefIdeal (hAdamGateLoraIdeal := hAdamGateLoraIdeal) (hAdamGateLoraRefIdeal := hAdamGateLoraRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S2048x10240 : Shape := ⟨2, ![2048, 10240]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x10240 : S_.BroadcastsInDim S2048x10240 (![] : Fin 0 → Fin S2048x10240.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S2048x10240 .f32) (main_arg1 : FVec F S2048x1024 .f32) (main_arg2 : FVec F S1x1024 .f32) (main_arg3 : FVec F S1x1024 .f32) (main_arg4 : FVec F S1x8x128x128 .f32) (main_arg5 : FVec F S1x8x128 .f32) (main_arg6 : FVec F S2048x10240 .bf16) : IVec S2048x10240 1 × IVec S2048x1024 1 × IVec S1x1024 1 × IVec S1x1024 1 × IVec S1x8x128x128 1 × IVec S1x8x128 1 :=
  let main_v0 : FVec F S2048x10240 .f32 := Host.absf main_arg0
  let main_cst : FVec F S_ .f32 := constant S_ .f32 0x7F800000#32
  let main_v1 : FVec F S2048x10240 .f32 := broadcastInDim S2048x10240 ![] bcast_S_S2048x10240 main_cst
  let main_v2 : IVec S2048x10240 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_act.lean ====
abbrev S2048x2048 : Shape := ⟨2, ![2048, 2048]⟩
abbrev S5632x2048 : Shape := ⟨2, ![5632, 2048]⟩
abbrev S8x2048x704 : Shape := ⟨3, ![8, 2048, 704]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S8x2048x704 : S_.BroadcastsInDim S8x2048x704 (![] : Fin 0 → Fin S8x2048x704.rank)

variable [Facts]

def fn {F : FTy → Type} [FloatOps F] (main_arg0 : FVec F S2048x2048 .bf16) (main_arg1 : FVec F S5632x2048 .bf16) (main_arg2 : FVec F S8x2048x704 .bf16) (main_arg3 : FVec F S8x2048x704 .bf16) : IVec S2048x2048 1 × IVec S5632x2048 1 × IVec S8x2048x704 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8x2048x704 .f32 := (extf .f32 · bitsLt_bf16_f32) main_arg3
  let main_v9 : FVec F S8x2048x704 .f32 := Host.absf main_v8
  let main_cst_1 : FVec F S_ .f32 := constant S_ .f32 0x7F800000#32
  let main_v10 : FVec F S8x2048x704 .f32 := broadcastInDim S8x2048x704 ![] bcast_S_S8x2048x704 main_cst_1
  let main_v11 : IVec S8x2048x704 1 := cmpf .olt main_v9 main_v10
  (main_v3, main_v7, main_v11)
-- ==== Kernel.lean ====
abbrev S2048x10240 : Shape := ⟨2, ![2048, 10240]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S128x128 : Shape := ⟨2, ![128, 128]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S1024 : Shape := ⟨1, ![1024]⟩
abbrev S128 : Shape := ⟨1, ![128]⟩
abbrev S128x1 : Shape := ⟨2, ![128, 1]⟩

abbrev nBuf : Space → Nat
  | .hbm => 17
  | .vmem => 17
  | .smem => 0
  | _ => 0

abbrev bufTy : (tb : Table) → Fin (tcTables nBuf tb) → BufTy
  | .hbm, ⟨0, _⟩ => ⟨S2048x10240, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S2048x10240, .bf16⟩
  | .hbm, ⟨7, _⟩ => ⟨S8x128x128, .f32⟩
  | .hbm, ⟨8, _⟩ => ⟨S8x128, .f32⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S2048x10240, .bf16⟩
  | .hbm, ⟨13, _⟩ => ⟨S1x1024, .f32⟩
  | .hbm, ⟨14, _⟩ => ⟨S1x1024, .f32⟩
  | .hbm, ⟨15, _⟩ => ⟨S8x128x128, .f32⟩
  | .hbm, ⟨16, _⟩ => ⟨S128x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x128, .f32⟩
  | .local _ .vmem, ⟨14, _⟩ => ⟨S256x1024, .f32⟩
  | .local _ .vmem, ⟨15, _⟩ => ⟨S256x1024, .f32⟩
  | .local _ .vmem, ⟨16, _⟩ => ⟨S128x1024, .f32⟩
  | _, _ => ⟨S2048x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v692 : BitVec 1 := Scalar.cmpi .eq arg0 c7_i32
  let v693 : BitVec 32 := Scalar.extui v692
  let c0_i32_409 : BitVec 32 := 0#32
  let v694 : BitVec 1 := Scalar.cmpi .ne v693 c0_i32_409
  v694

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gauss" => some (((9465531 / 16777216) * (Real.sqrt 2)⁻¹ : ℝ) : EReal)
  | "root_half" => some (((Real.sqrt 2)⁻¹ : ℝ) : EReal)
  | _ => none
-- ==== ReferenceIdeal.lean ====
abbrev S2048x10240 : Shape := ⟨2, ![2048, 10240]⟩
abbrev S2048x1024 : Shape := ⟨2, ![2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2048x2048 : Shape := ⟨2, ![2048, 2048]⟩
abbrev S1x2048x2048 : Shape := ⟨3, ![1, 2048, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x2048x1024 : Shape := ⟨3, ![1, 2048, 1024]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S2048 : Shape := ⟨1, ![2048]⟩
abbrev S2048x8192 : Shape := ⟨2, ![2048, 8192]⟩

abbrev nBuf : Space → Nat
  | .hbm => 178
  | .vmem => 0
  | .smem => 0
  | _ => 0

abbrev hbmTy0_0 (i : Nat) : BufTy := match i % 128 with
  | 0 => ⟨S2048x10240, .f32⟩
  | 1 => ⟨S2048x1024, .f32⟩
  | 2 => ⟨S1x1024, .f32⟩
  | 3 => ⟨S1x1024, .f32⟩
  | 4 => ⟨S1x8x128x128, .f32⟩
  | 5 => ⟨S1x8x128, .f32⟩
  | 6 => ⟨S2048x10240, .bf16⟩
  | 7 => ⟨S2048x2048, .f32⟩
  | 8 => ⟨S1x2048x2048, .f32⟩
  | 9 => ⟨S1024, .f32⟩
  | 10 => ⟨S1024, .f32⟩
  | 11 => ⟨S8x128x128, .f32⟩
  | 12 => ⟨S8x128, .f32⟩
  | 13 => ⟨S_, .f32⟩
  | 14 => ⟨S_, .f32⟩
  | 15 => ⟨S_, .f32⟩
  | 16 => ⟨S1x2048x2048, .f32⟩
  | 17 => ⟨S1x2048x2048, .f32⟩
  | 18 => ⟨S1x2048x2048, .f32⟩
  | 19 => ⟨S1x2048x2048, .f32⟩
  | 20 => ⟨S1x2048x2048, .f32⟩
  | 21 => ⟨S1x2048x2048, .f32⟩
  | 22 => ⟨S1x2048x2048, .f32⟩
  | 23 => ⟨S1x2048x2048, .f32⟩
  | 24 => ⟨S1x2048x2048, .f32⟩
  | 25 => ⟨S1x2048x2048, .f32⟩
  | 26 => ⟨S1x2048x1024, .f32⟩
  | 27 => ⟨S1x2048x1024, .f32⟩
  | 28 => ⟨S_, .f32⟩
  | 29 => ⟨S1x2048, .f32⟩
  | 30 => ⟨S1x2048x1, .f32⟩
  | 31 => ⟨S_, .f32⟩
  | 32 => ⟨S1x2048x1, .f32⟩
  | 33 => ⟨S1x2048x1, .f32⟩
  | 34 => ⟨S1x2048x1024, .f32⟩
  | 35 => ⟨S1x2048x1024, .f32⟩
  | 36 => ⟨S1x2048x1024, .f32⟩
  | 37 => ⟨S_, .f32⟩
  | 38 => ⟨S1x2048x1024, .f32⟩
  | 39 => ⟨S1x2048x1024, .f32⟩
  | 40 => ⟨S_, .f32⟩
  | 41 => ⟨S1x2048, .f32⟩
  | 42 => ⟨S1x2048x1, .f32⟩
  | 43 => ⟨S_, .f32⟩
  | 44 => ⟨S1x2048x1, .f32⟩
  | 45 => ⟨S1x2048x1, .f32⟩
  | 46 => ⟨S1x2048x1024, .f32⟩
  | 47 => ⟨S1x2048x1024, .f32⟩
  | 48 => ⟨S_, .f32⟩
  | 49 => ⟨S1x2048x1, .f32⟩
  | 50 => ⟨S1x2048x1, .f32⟩
  | 51 => ⟨S1x2048x1, .f32⟩
  | 52 => ⟨S1x2048x1, .f32⟩
  | 53 => ⟨S_, .f32⟩
  | 54 => ⟨S1x2048x1, .f32⟩
  | 55 => ⟨S1x2048x1, .f32⟩
  | 56 => ⟨S1x2048x1024, .f32⟩
  | 57 => ⟨S1x2048x1024, .f32⟩
  | 58 => ⟨S1x1x1024, .f32⟩
  | 59 => ⟨S1x2048x1024, .f32⟩
  | 60 => ⟨S1x2048x1024, .f32⟩
  | 61 => ⟨S1x1x1024, .f32⟩
  | 62 => ⟨S1x2048x1024, .f32⟩
  | 63 => ⟨S1x2048x1024, .f32⟩
  | 64 => ⟨S1x16x128x8x128, .f32⟩
  | 65 => ⟨S_, .f32⟩
  | 66 => ⟨S128x128, .f32⟩
  | 67 => ⟨S128x128, .i32⟩
  | 68 => ⟨S_, .i32⟩
  | 69 => ⟨S128x128, .i32⟩
  | 70 => ⟨S128x128, .i32⟩
  | 71 => ⟨S128x128, .i32⟩
  | 72 => ⟨S128x128, .i1⟩
  | 73 => ⟨S_, .f32⟩
  | 74 => ⟨S128x128, .f32⟩
  | 75 => ⟨S128x128, .f32⟩
  | 76 => ⟨S1x128x128, .f32⟩
  | 77 => ⟨S8x128x128, .f32⟩
  | 78 => ⟨S8x128x128, .f32⟩
  | 79 => ⟨S8x1x16x128x128, .f32⟩
  | 80 => ⟨S1x16x128x8x128, .f32⟩
  | 81 => ⟨S128x8, .f32⟩
  | 82 => ⟨S1x1x128x8x1, .f32⟩
  | 83 => ⟨S1x16x128x8x128, .f32⟩
  | 84 => ⟨S1x16x128x8x128, .f32⟩
  | 85 => ⟨S1x2048x1024, .f32⟩
  | 86 => ⟨S1x2048x1024, .f32⟩
  | 87 => ⟨S1x2048x1024, .f32⟩
  | 88 => ⟨S1x2048x1024, .f32⟩
  | 89 => ⟨S1x2048x1024, .f32⟩
  | 90 => ⟨S1x16x128x8x128, .f32⟩
  | 91 => ⟨S_, .f32⟩
  | 92 => ⟨S1x128x8, .f32⟩
  | 93 => ⟨S1x1x128x8x1, .f32⟩
  | 94 => ⟨S_, .f32⟩
  | 95 => ⟨S128x8, .f32⟩
  | 96 => ⟨S8x128, .f32⟩
  | 97 => ⟨S8x1x16x128x128, .f32⟩
  | 98 => ⟨S8x128x128, .f32⟩
  | 99 => ⟨S8x1x16x128x128, .f32⟩
  | 100 => ⟨S1x16x128x8x128, .f32⟩
  | 101 => ⟨S8x128x128, .f32⟩
  | 102 => ⟨S8x128x128, .f32⟩
  | 103 => ⟨S1x2048x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S1x2048x1024, .f32⟩
  | 110 => ⟨S_, .f32⟩
  | 111 => ⟨S1x1024, .f32⟩
  | 112 => ⟨S1x1x1024, .f32⟩
  | 113 => ⟨S1x2048x1024, .f32⟩
  | 114 => ⟨S1x2048x1024, .f32⟩
  | 115 => ⟨S_, .f32⟩
  | 116 => ⟨S1024, .f32⟩
  | 117 => ⟨S1x2048x1024, .f32⟩
  | 118 => ⟨S_, .f32⟩
  | 119 => ⟨S1x2048, .f32⟩
  | 120 => ⟨S1x2048x1, .f32⟩
  | 121 => ⟨S1x2048x1024, .f32⟩
  | 122 => ⟨S1x2048x1024, .f32⟩
  | 123 => ⟨S1x2048x1, .f32⟩
  | 124 => ⟨S1x2048x1024, .f32⟩
  | 125 => ⟨S_, .f32⟩
  | 126 => ⟨S1x2048, .f32⟩
  | 127 => ⟨S1x2048x1, .f32⟩
  | _ => ⟨S2048x10240, .f32⟩

abbrev hbmTy0_1 (i : Nat) : BufTy := match i % 128 with
  | 0 => ⟨S_, .f32⟩
  | 1 => ⟨S1x2048x1, .f32⟩
  | 2 => ⟨S1x2048x1, .f32⟩
  | 3 => ⟨S_, .f32⟩
  | 4 => ⟨S2048, .f32⟩
  | 5 => ⟨S1x2048, .f32⟩
  | 6 => ⟨S1x2048x1024, .f32⟩
  | 7 => ⟨S1x2048x1024, .f32⟩
  | 8 => ⟨S1x2048x1024, .f32⟩
  | 9 => ⟨S_, .f32⟩
  | 10 => ⟨S1x2048, .f32⟩
  | 11 => ⟨S1x2048x1, .f32⟩
  | 12 => ⟨S1x2048x1024, .f32⟩
  | 13 => ⟨S1x2048x1, .f32⟩
  | 14 => ⟨S_, .f32⟩
  | 15 => ⟨S1x2048x1, .f32⟩
  | 16 => ⟨S1x2048x1, .f32⟩
  | 17 => ⟨S_, .f32⟩
  | 18 => ⟨S2048, .f32⟩
  | 19 => ⟨S1x2048, .f32⟩
  | 20 => ⟨S1x2048x1024, .f32⟩
  | 21 => ⟨S1x2048x1024, .f32⟩
  | 22 => ⟨S1x2048x2048, .f32⟩
  | 23 => ⟨S1x2048x2048, .f32⟩
  | 24 => ⟨S1x2048x2048, .f32⟩
  | 25 => ⟨S_, .f32⟩
  | 26 => ⟨S1x2048x2048, .f32⟩
  | 27 => ⟨S1x2048x2048, .f32⟩
  | 28 => ⟨S1x2048x2048, .f32⟩
  | 29 => ⟨S1x2048x2048, .f32⟩
  | 30 => ⟨S1x2048x2048, .f32⟩
  | 31 => ⟨S1x2048x2048, .f32⟩
  | 32 => ⟨S_, .f32⟩
  | 33 => ⟨S1x2048x2048, .f32⟩
  | 34 => ⟨S1x2048x2048, .f32⟩
  | 35 => ⟨S1x2048x2048, .f32⟩
  | 36 => ⟨S1x8x128, .f32⟩
  | 37 => ⟨S1x8x128x128, .f32⟩
  | 38 => ⟨S1x1024, .f32⟩
  | 39 => ⟨S1x1024, .f32⟩
  | 40 => ⟨S2048x8192, .bf16⟩
  | 41 => ⟨S2048x2048, .f32⟩
  | 42 => ⟨S2048x2048, .bf16⟩
  | 43 => ⟨S2048x10240, .bf16⟩
  | 44 => ⟨S8x128x128, .f32⟩
  | 45 => ⟨S8x128, .f32⟩
  | 46 => ⟨S128x8, .f32⟩
  | 47 => ⟨S_, .i32⟩
  | 48 => ⟨S_, .f32⟩
  | 49 => ⟨S128x128, .f32⟩
  | _ => ⟨S2048x10240, .f32⟩

abbrev hbmTy (i : Nat) : BufTy := match i / 128 with
  | 0 => hbmTy0_0 i
  | 1 => hbmTy0_1 i
  | _ => ⟨S2048x10240, .f32⟩

abbrev bufTy : (tb : Table) → Fin (tcTables nBuf tb) → BufTy
  | .hbm, ⟨i, _⟩ => hbmTy i
  | _, _ => ⟨S2048x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_cst : Ref sig .tc := ⟨.hbm, 73, rfl⟩
abbrev main_call0_v5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_16 : Ref sig .tc := ⟨.hbm, 125, rfl⟩
abbrev main_v93 : Ref sig .tc := ⟨.hbm, 126, rfl⟩
abbrev main_v94 : Ref sig .tc := ⟨.hbm, 127, rfl⟩
abbrev main_cst_17 : Ref sig .tc := ⟨.hbm, 128, rfl⟩
abbrev main_v95 : Ref sig .tc := ⟨.hbm, 129, rfl⟩
abbrev main_v96 : Ref sig .tc := ⟨.hbm, 130, rfl⟩
abbrev main_cst_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_19 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_20 : Ref sig .tc := ⟨.hbm, 142, rfl⟩
abbrev main_v106 : Ref sig .tc := ⟨.hbm, 143, rfl⟩
abbrev main_v107 : Ref sig .tc := ⟨.hbm, 144, rfl⟩
abbrev main_cst_21 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_22 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_23 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c : Ref sig .tc := ⟨.hbm, 175, rfl⟩
abbrev main_call1_v0 : Ref sig .tc := ⟨.hbm, 176, rfl⟩
abbrev main_v135 : Ref sig .tc := ⟨.hbm, 177, rfl⟩

abbrev nD : Nat := 1
abbrev τ : Topo := Topo.v7x

variable {F : FTy → Type} [FloatOps F]
-- ==== Act.lean ====
abbrev S2048x2048 : Shape := ⟨2, ![2048, 2048]⟩
abbrev S5632x2048 : Shape := ⟨2, ![5632, 2048]⟩
abbrev S8x2048x704 : Shape := ⟨3, ![8, 2048, 704]⟩
abbrev S1024x2048 : Shape := ⟨2, ![1024, 2048]⟩
abbrev S704x2048 : Shape := ⟨2, ![704, 2048]⟩
abbrev S1x1024x704 : Shape := ⟨3, ![1, 1024, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S704x2048, .bf16⟩
  | .local _ .vmem, ⟨3, _⟩ => ⟨S704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ActRefIdeal.lean ====
abbrev S2048x2048 : Shape := ⟨2, ![2048, 2048]⟩
abbrev S5632x2048 : Shape := ⟨2, ![5632, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S8x2048x704, .bf16⟩
  | .hbm, ⟨3, _⟩ => ⟨S8x2048x704, .bf16⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S2048x2048, .f32⟩
  | .hbm, ⟨26, _⟩ => ⟨S2048x2048, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x8x704, .f32⟩
  | .hbm, ⟨35, _⟩ => ⟨S8x2048x704, .f32⟩
  | .hbm, ⟨36, _⟩ => ⟨S8x2048x704, .bf16⟩
  | .hbm, ⟨37, _⟩ => ⟨S2048x8x704, .f32⟩
  | .hbm, ⟨38, _⟩ => ⟨S8x2048x704, .f32⟩
  | .hbm, ⟨39, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== DwDown.lean ====
abbrev S8x2048x704 : Shape := ⟨3, ![8, 2048, 704]⟩
abbrev S2048x2048 : Shape := ⟨2, ![2048, 2048]⟩
abbrev S5632x2048 : Shape := ⟨2, ![5632, 2048]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S5632x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8x2048x704 : Shape := ⟨3, ![8, 2048, 704]⟩
abbrev S2048x2048 : Shape := ⟨2, ![2048, 2048]⟩
abbrev S_ : Shape := ⟨0, ![]⟩
abbrev S5632x2048 : Shape := ⟨2, ![5632, 2048]⟩
abbrev S2048x8x704 : Shape := ⟨3, ![2048, 8, 704]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwGate.lean ====
abbrev S2048x2048 : Shape := ⟨2, ![2048, 2048]⟩
abbrev S8x2048x704 : Shape := ⟨3, ![8, 2048, 704]⟩
abbrev S2048x1024 : Shape := ⟨2, ![2048, 1024]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2048x2048 : Shape := ⟨2, ![2048, 2048]⟩
abbrev S8x2048x704 : Shape := ⟨3, ![8, 2048, 704]⟩
abbrev S_ : Shape := ⟨0, ![]⟩
abbrev S2048x5632 : Shape := ⟨2, ![2048, 5632]⟩
abbrev S2048x8x704 : Shape := ⟨3, ![2048, 8, 704]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x8x704, .f32⟩
  | .hbm, ⟨12, _⟩ => ⟨S8x2048x704, .f32⟩
  | .hbm, ⟨13, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DwUp.lean ====
abbrev S2048x2048 : Shape := ⟨2, ![2048, 2048]⟩
abbrev S8x2048x704 : Shape := ⟨3, ![8, 2048, 704]⟩
abbrev S8x128 : Shape := ⟨2, ![8, 128]⟩
abbrev S2048x1024 : Shape := ⟨2, ![2048, 1024]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x128, .f32⟩
  | .hbm, ⟨3, _⟩ => ⟨S8x2048x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S8x128, .f32⟩
  | .local _ .vmem, ⟨5, _⟩ => ⟨S1x1024x704, .bf16⟩
  | .local _ .vmem, ⟨6, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwUpRefIdeal.lean ====
abbrev S2048x2048 : Shape := ⟨2, ![2048, 2048]⟩
abbrev S8x2048x704 : Shape := ⟨3, ![8, 2048, 704]⟩
abbrev S8x128 : Shape := ⟨2, ![8, 128]⟩
abbrev S_ : Shape := ⟨0, ![]⟩
abbrev S2048x5632 : Shape := ⟨2, ![2048, 5632]⟩
abbrev S2048x8x704 : Shape := ⟨3, ![2048, 8, 704]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x128, .f32⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S5632x2048, .f32⟩
  | .hbm, ⟨11, _⟩ => ⟨S2048x5632, .f32⟩
  | .hbm, ⟨12, _⟩ => ⟨S2048x8x704, .f32⟩
  | .hbm, ⟨13, _⟩ => ⟨S8x2048x704, .f32⟩
  | .hbm, ⟨14, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DnGate.lean ====
abbrev S8x2048x704 : Shape := ⟨3, ![8, 2048, 704]⟩
abbrev S8x128 : Shape := ⟨2, ![8, 128]⟩
abbrev S2048x2048 : Shape := ⟨2, ![2048, 2048]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x128, .f32⟩
  | .hbm, ⟨3, _⟩ => ⟨S2048x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnGateRefIdeal.lean ====
abbrev S8x2048x704 : Shape := ⟨3, ![8, 2048, 704]⟩
abbrev S8x128 : Shape := ⟨2, ![8, 128]⟩
abbrev S_ : Shape := ⟨0, ![]⟩
abbrev S2048x2048 : Shape := ⟨2, ![2048, 2048]⟩
abbrev S2048x8x704 : Shape := ⟨3, ![2048, 8, 704]⟩
abbrev S2048x5632 : Shape := ⟨2, ![2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S2048x5632, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DnUp.lean ====
abbrev S8x2048x704 : Shape := ⟨3, ![8, 2048, 704]⟩
abbrev S2048x2048 : Shape := ⟨2, ![2048, 2048]⟩
abbrev S8x128 : Shape := ⟨2, ![8, 128]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .hbm, ⟨3, _⟩ => ⟨S8x128, .f32⟩
  | .hbm, ⟨4, _⟩ => ⟨S2048x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DnUpRefIdeal.lean ====
abbrev S8x2048x704 : Shape := ⟨3, ![8, 2048, 704]⟩
abbrev S2048x2048 : Shape := ⟨2, ![2048, 2048]⟩
abbrev S8x128 : Shape := ⟨2, ![8, 128]⟩
abbrev S_ : Shape := ⟨0, ![]⟩
abbrev S2048x8x704 : Shape := ⟨3, ![2048, 8, 704]⟩
abbrev S2048x5632 : Shape := ⟨2, ![2048, 5632]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .hbm, ⟨3, _⟩ => ⟨S8x128, .f32⟩
  | .hbm, ⟨4, _⟩ => ⟨S_, .f32⟩
  | .hbm, ⟨5, _⟩ => ⟨S2048x2048, .f32⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S2048x5632, .f32⟩
  | .hbm, ⟨10, _⟩ => ⟨S8x2048x704, .f32⟩
  | .hbm, ⟨11, _⟩ => ⟨S2048x8x704, .f32⟩
  | .hbm, ⟨12, _⟩ => ⟨S2048x5632, .f32⟩
  | .hbm, ⟨13, _⟩ => ⟨S2048x2048, .f32⟩
  | .hbm, ⟨14, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== GateUp.lean ====
abbrev S2048x2048 : Shape := ⟨2, ![2048, 2048]⟩
abbrev S8x2048x704 : Shape := ⟨3, ![8, 2048, 704]⟩
abbrev S8x128 : Shape := ⟨2, ![8, 128]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S8x128, .f32⟩
  | .hbm, ⟨4, _⟩ => ⟨S8x2048x704, .bf16⟩
  | .hbm, ⟨5, _⟩ => ⟨S8x2048x704, .bf16⟩
  | .hbm, ⟨6, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S8x128, .f32⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateUpRefIdeal.lean ====
abbrev S2048x2048 : Shape := ⟨2, ![2048, 2048]⟩
abbrev S8x2048x704 : Shape := ⟨3, ![8, 2048, 704]⟩
abbrev S8x128 : Shape := ⟨2, ![8, 128]⟩
abbrev S2048x8x704 : Shape := ⟨3, ![2048, 8, 704]⟩
abbrev S2048x5632 : Shape := ⟨2, ![2048, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S8x128, .f32⟩
  | .hbm, ⟨4, _⟩ => ⟨S2048x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S2048x5632, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x8x704, .f32⟩
  | .hbm, ⟨24, _⟩ => ⟨S8x2048x704, .f32⟩
  | .hbm, ⟨25, _⟩ => ⟨S8x2048x704, .bf16⟩
  | .hbm, ⟨26, _⟩ => ⟨S2048x8x704, .f32⟩
  | .hbm, ⟨27, _⟩ => ⟨S8x2048x704, .f32⟩
  | .hbm, ⟨28, _⟩ => ⟨S8x2048x704, .bf16⟩
  | .hbm, ⟨29, _⟩ => ⟨S2048x8x704, .f32⟩
  | .hbm, ⟨30, _⟩ => ⟨S8x2048x704, .f32⟩
  | .hbm, ⟨31, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== DwIn.lean ====
abbrev S2048x2048 : Shape := ⟨2, ![2048, 2048]⟩
abbrev S2048x10240 : Shape := ⟨2, ![2048, 10240]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S2048x2048 : Shape := ⟨2, ![2048, 2048]⟩
abbrev S2048x10240 : Shape := ⟨2, ![2048, 10240]⟩
abbrev S_ : Shape := ⟨0, ![]⟩
abbrev S10240x2048 : Shape := ⟨2, ![10240, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S_, .f32⟩
  | .hbm, ⟨3, _⟩ => ⟨S2048x10240, .f32⟩
  | .hbm, ⟨4, _⟩ => ⟨S2048x2048, .f32⟩
  | .hbm, ⟨5, _⟩ => ⟨S2048x10240, .f32⟩
  | .hbm, ⟨6, _⟩ => ⟨S2048x10240, .f32⟩
  | .hbm, ⟨7, _⟩ => ⟨S10240x2048, .f32⟩
  | .hbm, ⟨8, _⟩ => ⟨S2048x10240, .f32⟩
  | .hbm, ⟨9, _⟩ => ⟨S2048x10240, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dn1.lean ====
abbrev S2048x10240 : Shape := ⟨2, ![2048, 10240]⟩
abbrev S8x128 : Shape := ⟨2, ![8, 128]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S8x128, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dn1RefIdeal.lean ====
abbrev S2048x10240 : Shape := ⟨2, ![2048, 10240]⟩
abbrev S8x128 : Shape := ⟨2, ![8, 128]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x10240, .bf16⟩
  | .hbm, ⟨1, _⟩ => ⟨S2048x10240, .bf16⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x10240, .f32⟩
  | .hbm, ⟨6, _⟩ => ⟨S2048x10240, .f32⟩
  | .hbm, ⟨7, _⟩ => ⟨S2048x10240, .f32⟩
  | .hbm, ⟨8, _⟩ => ⟨S2048x2048, .f32⟩
  | _, _ => ⟨S2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ProjIn.lean ====
abbrev S2048x2048 : Shape := ⟨2, ![2048, 2048]⟩
abbrev S2048x10240 : Shape := ⟨2, ![2048, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x10240, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S2048x2048 : Shape := ⟨2, ![2048, 2048]⟩
abbrev S2048x10240 : Shape := ⟨2, ![2048, 10240]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10240, .bf16⟩
  | .hbm, ⟨2, _⟩ => ⟨S2048x2048, .f32⟩
  | .hbm, ⟨3, _⟩ => ⟨S2048x10240, .f32⟩
  | .hbm, ⟨4, _⟩ => ⟨S2048x10240, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8x2048x704 : Shape := ⟨3, ![8, 2048, 704]⟩
abbrev S5632x2048 : Shape := ⟨2, ![5632, 2048]⟩
abbrev S2048x2048 : Shape := ⟨2, ![2048, 2048]⟩
abbrev S2x1024x704 : Shape := ⟨3, ![2, 1024, 704]⟩
abbrev S1408x1024 : Shape := ⟨2, ![1408, 1024]⟩
abbrev S1024x1024 : Shape := ⟨2, ![1024, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x704, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8x2048x704 : Shape := ⟨3, ![8, 2048, 704]⟩
abbrev S5632x2048 : Shape := ⟨2, ![5632, 2048]⟩
abbrev S2048x2048 : Shape := ⟨2, ![2048, 2048]⟩
abbrev S2048x8x704 : Shape := ⟨3, ![2048, 8, 704]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S5632x2048, .bf16⟩
  | .hbm, ⟨2, _⟩ => ⟨S2048x2048, .f32⟩
  | .hbm, ⟨3, _⟩ => ⟨S8x2048x704, .f32⟩
  | .hbm, ⟨4, _⟩ => ⟨S2048x8x704, .f32⟩
  | .hbm, ⟨5, _⟩ => ⟨S2048x5632, .f32⟩
  | .hbm, ⟨6, _⟩ => ⟨S5632x2048, .f32⟩
  | .hbm, ⟨7, _⟩ => ⟨S2048x2048, .f32⟩
  | .hbm, ⟨8, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMerged.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjA.lean ====
abbrev S2048x1024 : Shape := ⟨2, ![2048, 1024]⟩
abbrev S8x1024x256 : Shape := ⟨3, ![8, 1024, 256]⟩
abbrev S8x128 : Shape := ⟨2, ![8, 128]⟩
abbrev S2048x2048 : Shape := ⟨2, ![2048, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S8x128, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S8x128, .f32⟩
  | .local _ .vmem, ⟨5, _⟩ => ⟨S1024x256, .f32⟩
  | .local _ .vmem, ⟨6, _⟩ => ⟨S1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjARefIdeal.lean ====
abbrev S2048x1024 : Shape := ⟨2, ![2048, 1024]⟩
abbrev S8x1024x256 : Shape := ⟨3, ![8, 1024, 256]⟩
abbrev S8x128 : Shape := ⟨2, ![8, 128]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S8x128, .f32⟩
  | .hbm, ⟨3, _⟩ => ⟨S2048x1024, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S2048x1024 : Shape := ⟨2, ![2048, 1024]⟩
abbrev S8x1024x256 : Shape := ⟨3, ![8, 1024, 256]⟩
abbrev S2048x2048 : Shape := ⟨2, ![2048, 2048]⟩
abbrev S2048x10240 : Shape := ⟨2, ![2048, 10240]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x10240, .f32⟩
  | .hbm, ⟨4, _⟩ => ⟨S2048x2048, .f32⟩
  | .hbm, ⟨5, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi arg1 c24_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergeRefIdeal.lean ====
abbrev S2048x1024 : Shape := ⟨2, ![2048, 1024]⟩
abbrev S8x1024x256 : Shape := ⟨3, ![8, 1024, 256]⟩
abbrev S2048x2048 : Shape := ⟨2, ![2048, 2048]⟩
abbrev S2048x10240 : Shape := ⟨2, ![2048, 10240]⟩
abbrev S1024x8x256 : Shape := ⟨3, ![1024, 8, 256]⟩
abbrev S1024x2048 : Shape := ⟨2, ![1024, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x10240, .f32⟩
  | .hbm, ⟨4, _⟩ => ⟨S2048x2048, .f32⟩
  | .hbm, ⟨5, _⟩ => ⟨S2048x2048, .f32⟩
  | .hbm, ⟨6, _⟩ => ⟨S2048x1024, .f32⟩
  | .hbm, ⟨7, _⟩ => ⟨S8x1024x256, .f32⟩
  | .hbm, ⟨8, _⟩ => ⟨S1024x8x256, .f32⟩
  | .hbm, ⟨9, _⟩ => ⟨S1024x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Dy.lean ====
abbrev S2048x2048 : Shape := ⟨2, ![2048, 2048]⟩
abbrev S8x1024x256 : Shape := ⟨3, ![8, 1024, 256]⟩
abbrev S2048x1024 : Shape := ⟨2, ![2048, 1024]⟩
abbrev S1024x1024 : Shape := ⟨2, ![1024, 1024]⟩
abbrev S4x1024x256 : Shape := ⟨3, ![4, 1024, 256]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S2048x2048 : Shape := ⟨2, ![2048, 2048]⟩
abbrev S8x1024x256 : Shape := ⟨3, ![8, 1024, 256]⟩
abbrev S_ : Shape := ⟨0, ![]⟩
abbrev S2048x1024 : Shape := ⟨2, ![2048, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S_, .f32⟩
  | .hbm, ⟨3, _⟩ => ⟨S2048x1024, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwProj.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwProjRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Post.lean ====
abbrev S16x2048x64 : Shape := ⟨3, ![16, 2048, 64]⟩
abbrev S1x1024 : Shape := ⟨2, ![1, 1024]⟩
abbrev S1x16x64 : Shape := ⟨3, ![1, 16, 64]⟩
abbrev S8x128 : Shape := ⟨2, ![8, 128]⟩
abbrev S16x1x64 : Shape := ⟨3, ![16, 1, 64]⟩
abbrev S2048x1024 : Shape := ⟨2, ![2048, 1024]⟩
abbrev S16x256x64 : Shape := ⟨3, ![16, 256, 64]⟩
abbrev S256x1024 : Shape := ⟨2, ![256, 1024]⟩
abbrev S16x256 : Shape := ⟨2, ![16, 256]⟩
abbrev S16x256x1 : Shape := ⟨3, ![16, 256, 1]⟩
abbrev S1x256x64 : Shape := ⟨3, ![1, 256, 64]⟩
abbrev S256x64 : Shape := ⟨2, ![256, 64]⟩

abbrev nBuf : Space → Nat
  | .hbm => 13
  | .vmem => 16
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S1x1024, .f32⟩
  | .hbm, ⟨6, _⟩ => ⟨S1x1024, .f32⟩
  | .hbm, ⟨7, _⟩ => ⟨S1x16x64, .f32⟩
  | .hbm, ⟨8, _⟩ => ⟨S8x128, .f32⟩
  | .hbm, ⟨9, _⟩ => ⟨S16x1x64, .f32⟩
  | .hbm, ⟨10, _⟩ => ⟨S16x1x64, .f32⟩
  | .hbm, ⟨11, _⟩ => ⟨S16x1x64, .f32⟩
  | .hbm, ⟨12, _⟩ => ⟨S2048x1024, .bf16⟩
  | .local _ .vmem, ⟨0, _⟩ => ⟨S16x256x64, .f32⟩
  | .local _ .vmem, ⟨1, _⟩ => ⟨S16x256x64, .f32⟩
  | .local _ .vmem, ⟨2, _⟩ => ⟨S16x256x64, .f32⟩
  | .local _ .vmem, ⟨3, _⟩ => ⟨S16x256x64, .f32⟩
  | .local _ .vmem, ⟨4, _⟩ => ⟨S16x256x64, .f32⟩
  | .local _ .vmem, ⟨5, _⟩ => ⟨S16x256x64, .f32⟩
  | .local _ .vmem, ⟨6, _⟩ => ⟨S16x256x64, .f32⟩
  | .local _ .vmem, ⟨7, _⟩ => ⟨S16x256x64, .f32⟩
  | .local _ .vmem, ⟨8, _⟩ => ⟨S16x256x64, .f32⟩
  | .local _ .vmem, ⟨9, _⟩ => ⟨S16x256x64, .f32⟩
  | .local _ .vmem, ⟨10, _⟩ => ⟨S16x1x64, .f32⟩
  | .local _ .vmem, ⟨11, _⟩ => ⟨S16x1x64, .f32⟩
  | .local _ .vmem, ⟨12, _⟩ => ⟨S16x1x64, .f32⟩
  | .local _ .vmem, ⟨13, _⟩ => ⟨S8x128, .f32⟩
  | .local _ .vmem, ⟨14, _⟩ => ⟨S256x1024, .bf16⟩
  | .local _ .vmem, ⟨15, _⟩ => ⟨S256x1024, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S16x2048x64 : Shape := ⟨3, ![16, 2048, 64]⟩
abbrev S1x1024 : Shape := ⟨2, ![1, 1024]⟩
abbrev S1x16x64 : Shape := ⟨3, ![1, 16, 64]⟩
abbrev S8x128 : Shape := ⟨2, ![8, 128]⟩
abbrev S2048x16x64 : Shape := ⟨3, ![2048, 16, 64]⟩
abbrev S_ : Shape := ⟨0, ![]⟩
abbrev S2048x16 : Shape := ⟨2, ![2048, 16]⟩
abbrev S2048x16x1 : Shape := ⟨3, ![2048, 16, 1]⟩
abbrev S2048x1024 : Shape := ⟨2, ![2048, 1024]⟩
abbrev S1024 : Shape := ⟨1, ![1024]⟩
abbrev S16x64 : Shape := ⟨2, ![16, 64]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S1x1024, .f32⟩
  | .hbm, ⟨6, _⟩ => ⟨S1x1024, .f32⟩
  | .hbm, ⟨7, _⟩ => ⟨S1x16x64, .f32⟩
  | .hbm, ⟨8, _⟩ => ⟨S8x128, .f32⟩
  | .hbm, ⟨9, _⟩ => ⟨S2048x16x64, .f32⟩
  | .hbm, ⟨10, _⟩ => ⟨S2048x16x64, .f32⟩
  | .hbm, ⟨11, _⟩ => ⟨S2048x16x64, .f32⟩
  | .hbm, ⟨12, _⟩ => ⟨S2048x16x64, .f32⟩
  | .hbm, ⟨13, _⟩ => ⟨S2048x16x64, .f32⟩
  | .hbm, ⟨14, _⟩ => ⟨S_, .f32⟩
  | .hbm, ⟨15, _⟩ => ⟨S2048x16, .f32⟩
  | .hbm, ⟨16, _⟩ => ⟨S2048x16x1, .f32⟩
  | .hbm, ⟨17, _⟩ => ⟨S_, .f32⟩
  | .hbm, ⟨18, _⟩ => ⟨S2048x16x1, .f32⟩
  | .hbm, ⟨19, _⟩ => ⟨S2048x16x1, .f32⟩
  | .hbm, ⟨20, _⟩ => ⟨S2048x16x64, .f32⟩
  | .hbm, ⟨21, _⟩ => ⟨S2048x16x64, .f32⟩
  | .hbm, ⟨22, _⟩ => ⟨S2048x16x64, .f32⟩
  | .hbm, ⟨23, _⟩ => ⟨S_, .f32⟩
  | .hbm, ⟨24, _⟩ => ⟨S2048x16, .f32⟩
  | .hbm, ⟨25, _⟩ => ⟨S2048x16x1, .f32⟩
  | .hbm, ⟨26, _⟩ => ⟨S_, .f32⟩
  | .hbm, ⟨27, _⟩ => ⟨S2048x16x1, .f32⟩
  | .hbm, ⟨28, _⟩ => ⟨S2048x16x1, .f32⟩
  | .hbm, ⟨29, _⟩ => ⟨S2048x16x64, .f32⟩
  | .hbm, ⟨30, _⟩ => ⟨S2048x16x64, .f32⟩
  | .hbm, ⟨31, _⟩ => ⟨S_, .f32⟩
  | .hbm, ⟨32, _⟩ => ⟨S2048x16x1, .f32⟩
  | .hbm, ⟨33, _⟩ => ⟨S2048x16x1, .f32⟩
  | .hbm, ⟨34, _⟩ => ⟨S2048x16x1, .f32⟩
  | .hbm, ⟨35, _⟩ => ⟨S2048x16x64, .f32⟩
  | .hbm, ⟨36, _⟩ => ⟨S2048x16x64, .f32⟩
  | .hbm, ⟨37, _⟩ => ⟨S2048x1024, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x16x64, .f32⟩
  | .hbm, ⟨47, _⟩ => ⟨S16x64, .f32⟩
  | .hbm, ⟨48, _⟩ => ⟨S1x16x64, .f32⟩
  | .hbm, ⟨49, _⟩ => ⟨S2048x16x64, .f32⟩
  | .hbm, ⟨50, _⟩ => ⟨S2048x16x64, .f32⟩
  | .hbm, ⟨51, _⟩ => ⟨S_, .f32⟩
  | .hbm, ⟨52, _⟩ => ⟨S2048x16, .f32⟩
  | .hbm, ⟨53, _⟩ => ⟨S2048x16x1, .f32⟩
  | .hbm, ⟨54, _⟩ => ⟨S2048x16x64, .f32⟩
  | .hbm, ⟨55, _⟩ => ⟨S2048x16x64, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== AdamFfn.lean ====
abbrev S2048x704 : Shape := ⟨2, ![2048, 704]⟩
abbrev S8x2048x704 : Shape := ⟨3, ![8, 2048, 704]⟩
abbrev S8x128 : Shape := ⟨2, ![8, 128]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S8x128, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S2048x704 : Shape := ⟨2, ![2048, 704]⟩
abbrev S8x2048x704 : Shape := ⟨3, ![8, 2048, 704]⟩
abbrev S8x128 : Shape := ⟨2, ![8, 128]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S8x128, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S2048x704 : Shape := ⟨2, ![2048, 704]⟩
abbrev S8x2048x704 : Shape := ⟨3, ![8, 2048, 704]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x2048x704, .bf16⟩
  | .hbm, ⟨4, _⟩ => ⟨S8x128, .f32⟩
  | .hbm, ⟨5, _⟩ => ⟨S8x2048x704, .f32⟩
  | .hbm, ⟨6, _⟩ => ⟨S_, .f32⟩
  | .hbm, ⟨7, _⟩ => ⟨S2048x704, .f32⟩
  | .hbm, ⟨8, _⟩ => ⟨S_, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | .hbm, ⟨37, _⟩ => ⟨S2048x704, .f32⟩
  | .hbm, ⟨38, _⟩ => ⟨S_, .f32⟩
  | .hbm, ⟨39, _⟩ => ⟨S2048x704, .f32⟩
  | .hbm, ⟨40, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamDown.lean ====
abbrev S704x2048 : Shape := ⟨2, ![704, 2048]⟩
abbrev S8x704x2048 : Shape := ⟨3, ![8, 704, 2048]⟩
abbrev S8x128 : Shape := ⟨2, ![8, 128]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S8x704x2048, .bf16⟩
  | .hbm, ⟨4, _⟩ => ⟨S8x128, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S704x2048 : Shape := ⟨2, ![704, 2048]⟩
abbrev S8x704x2048 : Shape := ⟨3, ![8, 704, 2048]⟩
abbrev S8x128 : Shape := ⟨2, ![8, 128]⟩
abbrev S64x2048 : Shape := ⟨2, ![64, 2048]⟩
abbrev S8x64x2048 : Shape := ⟨3, ![8, 64, 2048]⟩
abbrev S1x64x2048 : Shape := ⟨3, ![1, 64, 2048]⟩

abbrev nBuf : Space → Nat
  | .hbm => 9
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S8x704x2048, .bf16⟩
  | .hbm, ⟨4, _⟩ => ⟨S8x128, .f32⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S8x64x2048, .bf16⟩
  | .local _ .vmem, ⟨7, _⟩ => ⟨S8x64x2048, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S704x2048 : Shape := ⟨2, ![704, 2048]⟩
abbrev S8x704x2048 : Shape := ⟨3, ![8, 704, 2048]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S8x704x2048, .bf16⟩
  | .hbm, ⟨4, _⟩ => ⟨S8x128, .f32⟩
  | .hbm, ⟨5, _⟩ => ⟨S8x704x2048, .f32⟩
  | .hbm, ⟨6, _⟩ => ⟨S_, .f32⟩
  | .hbm, ⟨7, _⟩ => ⟨S704x2048, .f32⟩
  | .hbm, ⟨8, _⟩ => ⟨S_, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamProj.lean ====
abbrev S1024x256 : Shape := ⟨2, ![1024, 256]⟩
abbrev S8x1024x256 : Shape := ⟨3, ![8, 1024, 256]⟩
abbrev S8x128 : Shape := ⟨2, ![8, 128]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 9
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x128, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjIdeal.lean ====
abbrev S1024x256 : Shape := ⟨2, ![1024, 256]⟩
abbrev S8x1024x256 : Shape := ⟨3, ![8, 1024, 256]⟩
abbrev S8x128 : Shape := ⟨2, ![8, 128]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 9
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x128, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamProjRefIdeal.lean ====
abbrev S1024x256 : Shape := ⟨2, ![1024, 256]⟩
abbrev S8x1024x256 : Shape := ⟨3, ![8, 1024, 256]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x128, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamOut.lean ====
abbrev S256x2048 : Shape := ⟨2, ![256, 2048]⟩
abbrev S8x256x2048 : Shape := ⟨3, ![8, 256, 2048]⟩
abbrev S8x128 : Shape := ⟨2, ![8, 128]⟩
abbrev S1x256x2048 : Shape := ⟨3, ![1, 256, 2048]⟩

abbrev nBuf : Space → Nat
  | .hbm => 9
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x128, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S256x2048 : Shape := ⟨2, ![256, 2048]⟩
abbrev S8x256x2048 : Shape := ⟨3, ![8, 256, 2048]⟩
abbrev S8x128 : Shape := ⟨2, ![8, 128]⟩
abbrev S1x256x2048 : Shape := ⟨3, ![1, 256, 2048]⟩

abbrev nBuf : Space → Nat
  | .hbm => 9
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x128, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S8x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S256x2048 : Shape := ⟨2, ![256, 2048]⟩
abbrev S8x256x2048 : Shape := ⟨3, ![8, 256, 2048]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .bf16⟩
  | .hbm, ⟨4, _⟩ => ⟨S8x128, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamIn.lean ====
abbrev S2048x1208 : Shape := ⟨2, ![2048, 1208]⟩
abbrev S4x2048x1208 : Shape := ⟨3, ![4, 2048, 1208]⟩
abbrev S8x128 : Shape := ⟨2, ![8, 128]⟩
abbrev S256x1208 : Shape := ⟨2, ![256, 1208]⟩
abbrev S4x256x1208 : Shape := ⟨3, ![4, 256, 1208]⟩
abbrev S1x256x1208 : Shape := ⟨3, ![1, 256, 1208]⟩

abbrev nBuf : Space → Nat
  | .hbm => 9
  | .vmem => 16
  | .smem => 0
  | _ => 0

abbrev bufTy : (tb : Table) → Fin (tcTables nBuf tb) → BufTy
  | .hbm, ⟨0, _⟩ => ⟨S2048x1208, .f32⟩
  | .hbm, ⟨1, _⟩ => ⟨S2048x1208, .f32⟩
  | .hbm, ⟨2, _⟩ => ⟨S2048x1208, .f32⟩
  | .hbm, ⟨3, _⟩ => ⟨S4x2048x1208, .bf16⟩
  | .hbm, ⟨4, _⟩ => ⟨S8x128, .f32⟩
  | .hbm, ⟨5, _⟩ => ⟨S2048x1208, .f32⟩
  | .hbm, ⟨6, _⟩ => ⟨S2048x1208, .f32⟩
  | .hbm, ⟨7, _⟩ => ⟨S2048x1208, .f32⟩
  | .hbm, ⟨8, _⟩ => ⟨S2048x1208, .f32⟩
  | .local _ .vmem, ⟨0, _⟩ => ⟨S256x1208, .f32⟩
  | .local _ .vmem, ⟨1, _⟩ => ⟨S256x1208, .f32⟩
  | .local _ .vmem, ⟨2, _⟩ => ⟨S256x1208, .f32⟩
  | .local _ .vmem, ⟨3, _⟩ => ⟨S256x1208, .f32⟩
  | .local _ .vmem, ⟨4, _⟩ => ⟨S256x1208, .f32⟩
  | .local _ .vmem, ⟨5, _⟩ => ⟨S256x1208, .f32⟩
  | .local _ .vmem, ⟨6, _⟩ => ⟨S4x256x1208, .bf16⟩
  | .local _ .vmem, ⟨7, _⟩ => ⟨S4x256x1208, .bf16⟩
  | .local _ .vmem, ⟨8, _⟩ => ⟨S256x1208, .f32⟩
  | .local _ .vmem, ⟨9, _⟩ => ⟨S256x1208, .f32⟩
  | .local _ .vmem, ⟨10, _⟩ => ⟨S256x1208, .f32⟩
  | .local _ .vmem, ⟨11, _⟩ => ⟨S256x1208, .f32⟩
  | .local _ .vmem, ⟨12, _⟩ => ⟨S256x1208, .f32⟩
  | .local _ .vmem, ⟨13, _⟩ => ⟨S256x1208, .f32⟩
  | .local _ .vmem, ⟨14, _⟩ => ⟨S256x1208, .f32⟩
  | .local _ .vmem, ⟨15, _⟩ => ⟨S256x1208, .f32⟩
  | _, _ => ⟨S2048x1208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1208 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1208 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1208 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1208 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1208 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1208 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1208 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1208 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x1208 : Shape := ⟨2, ![2048, 1208]⟩
abbrev S4x2048x1208 : Shape := ⟨3, ![4, 2048, 1208]⟩
abbrev S8x128 : Shape := ⟨2, ![8, 128]⟩
abbrev S256x1208 : Shape := ⟨2, ![256, 1208]⟩
abbrev S4x256x1208 : Shape := ⟨3, ![4, 256, 1208]⟩
abbrev S1x256x1208 : Shape := ⟨3, ![1, 256, 1208]⟩

abbrev nBuf : Space → Nat
  | .hbm => 9
  | .vmem => 16
  | .smem => 0
  | _ => 0

abbrev bufTy : (tb : Table) → Fin (tcTables nBuf tb) → BufTy
  | .hbm, ⟨0, _⟩ => ⟨S2048x1208, .f32⟩
  | .hbm, ⟨1, _⟩ => ⟨S2048x1208, .f32⟩
  | .hbm, ⟨2, _⟩ => ⟨S2048x1208, .f32⟩
  | .hbm, ⟨3, _⟩ => ⟨S4x2048x1208, .bf16⟩
  | .hbm, ⟨4, _⟩ => ⟨S8x128, .f32⟩
  | .hbm, ⟨5, _⟩ => ⟨S2048x1208, .f32⟩
  | .hbm, ⟨6, _⟩ => ⟨S2048x1208, .f32⟩
  | .hbm, ⟨7, _⟩ => ⟨S2048x1208, .f32⟩
  | .hbm, ⟨8, _⟩ => ⟨S2048x1208, .f32⟩
  | .local _ .vmem, ⟨0, _⟩ => ⟨S256x1208, .f32⟩
  | .local _ .vmem, ⟨1, _⟩ => ⟨S256x1208, .f32⟩
  | .local _ .vmem, ⟨2, _⟩ => ⟨S256x1208, .f32⟩
  | .local _ .vmem, ⟨3, _⟩ => ⟨S256x1208, .f32⟩
  | .local _ .vmem, ⟨4, _⟩ => ⟨S256x1208, .f32⟩
  | .local _ .vmem, ⟨5, _⟩ => ⟨S256x1208, .f32⟩
  | .local _ .vmem, ⟨6, _⟩ => ⟨S4x256x1208, .bf16⟩
  | .local _ .vmem, ⟨7, _⟩ => ⟨S4x256x1208, .bf16⟩
  | .local _ .vmem, ⟨8, _⟩ => ⟨S256x1208, .f32⟩
  | .local _ .vmem, ⟨9, _⟩ => ⟨S256x1208, .f32⟩
  | .local _ .vmem, ⟨10, _⟩ => ⟨S256x1208, .f32⟩
  | .local _ .vmem, ⟨11, _⟩ => ⟨S256x1208, .f32⟩
  | .local _ .vmem, ⟨12, _⟩ => ⟨S256x1208, .f32⟩
  | .local _ .vmem, ⟨13, _⟩ => ⟨S256x1208, .f32⟩
  | .local _ .vmem, ⟨14, _⟩ => ⟨S256x1208, .f32⟩
  | .local _ .vmem, ⟨15, _⟩ => ⟨S256x1208, .f32⟩
  | _, _ => ⟨S2048x1208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1208 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1208 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1208 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1208 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1208 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1208 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1208 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1208 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1208 : Shape := ⟨2, ![2048, 1208]⟩
abbrev S4x2048x1208 : Shape := ⟨3, ![4, 2048, 1208]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1208, .f32⟩
  | .hbm, ⟨1, _⟩ => ⟨S2048x1208, .f32⟩
  | .hbm, ⟨2, _⟩ => ⟨S2048x1208, .f32⟩
  | .hbm, ⟨3, _⟩ => ⟨S4x2048x1208, .bf16⟩
  | .hbm, ⟨4, _⟩ => ⟨S8x128, .f32⟩
  | .hbm, ⟨5, _⟩ => ⟨S4x2048x1208, .f32⟩
  | .hbm, ⟨6, _⟩ => ⟨S_, .f32⟩
  | .hbm, ⟨7, _⟩ => ⟨S2048x1208, .f32⟩
  | .hbm, ⟨8, _⟩ => ⟨S_, .f32⟩
  | .hbm, ⟨9, _⟩ => ⟨S2048x1208, .f32⟩
  | .hbm, ⟨10, _⟩ => ⟨S2048x1208, .f32⟩
  | .hbm, ⟨11, _⟩ => ⟨S_, .f32⟩
  | .hbm, ⟨12, _⟩ => ⟨S2048x1208, .f32⟩
  | .hbm, ⟨13, _⟩ => ⟨S2048x1208, .f32⟩
  | .hbm, ⟨14, _⟩ => ⟨S2048x1208, .f32⟩
  | .hbm, ⟨15, _⟩ => ⟨S_, .f32⟩
  | .hbm, ⟨16, _⟩ => ⟨S2048x1208, .f32⟩
  | .hbm, ⟨17, _⟩ => ⟨S2048x1208, .f32⟩
  | .hbm, ⟨18, _⟩ => ⟨S2048x1208, .f32⟩
  | .hbm, ⟨19, _⟩ => ⟨S_, .f32⟩
  | .hbm, ⟨20, _⟩ => ⟨S2048x1208, .f32⟩
  | .hbm, ⟨21, _⟩ => ⟨S2048x1208, .f32⟩
  | .hbm, ⟨22, _⟩ => ⟨S2048x1208, .f32⟩
  | .hbm, ⟨23, _⟩ => ⟨S_, .f32⟩
  | .hbm, ⟨24, _⟩ => ⟨S2048x1208, .f32⟩
  | .hbm, ⟨25, _⟩ => ⟨S2048x1208, .f32⟩
  | .hbm, ⟨26, _⟩ => ⟨S_, .f32⟩
  | .hbm, ⟨27, _⟩ => ⟨S2048x1208, .f32⟩
  | .hbm, ⟨28, _⟩ => ⟨S2048x1208, .f32⟩
  | .hbm, ⟨29, _⟩ => ⟨S2048x1208, .f32⟩
  | .hbm, ⟨30, _⟩ => ⟨S_, .f32⟩
  | .hbm, ⟨31, _⟩ => ⟨S2048x1208, .f32⟩
  | .hbm, ⟨32, _⟩ => ⟨S2048x1208, .f32⟩
  | .hbm, ⟨33, _⟩ => ⟨S2048x1208, .f32⟩
  | .hbm, ⟨34, _⟩ => ⟨S_, .f32⟩
  | .hbm, ⟨35, _⟩ => ⟨S2048x1208, .f32⟩
  | .hbm, ⟨36, _⟩ => ⟨S2048x1208, .f32⟩
  | .hbm, ⟨37, _⟩ => ⟨S2048x1208, .f32⟩
  | .hbm, ⟨38, _⟩ => ⟨S_, .f32⟩
  | .hbm, ⟨39, _⟩ => ⟨S2048x1208, .f32⟩
  | .hbm, ⟨40, _⟩ => ⟨S2048x1208, .f32⟩
  | _, _ => ⟨S2048x1208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamLora.lean ====
abbrev S96x128 : Shape := ⟨2, ![96, 128]⟩
abbrev S4x96x128 : Shape := ⟨3, ![4, 96, 128]⟩
abbrev S8x128 : Shape := ⟨2, ![8, 128]⟩
abbrev S32x128 : Shape := ⟨2, ![32, 128]⟩
abbrev S4x32x128 : Shape := ⟨3, ![4, 32, 128]⟩
abbrev S1x32x128 : Shape := ⟨3, ![1, 32, 128]⟩

abbrev nBuf : Space → Nat
  | .hbm => 9
  | .vmem => 16
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S4x96x128, .bf16⟩
  | .hbm, ⟨4, _⟩ => ⟨S8x128, .f32⟩
  | .hbm, ⟨5, _⟩ => ⟨S96x128, .f32⟩
  | .hbm, ⟨6, _⟩ => ⟨S96x128, .f32⟩
  | .hbm, ⟨7, _⟩ => ⟨S96x128, .f32⟩
  | .hbm, ⟨8, _⟩ => ⟨S96x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S4x32x128, .bf16⟩
  | .local _ .vmem, ⟨7, _⟩ => ⟨S4x32x128, .bf16⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLoraIdeal.lean ====
abbrev S96x128 : Shape := ⟨2, ![96, 128]⟩
abbrev S4x96x128 : Shape := ⟨3, ![4, 96, 128]⟩
abbrev S8x128 : Shape := ⟨2, ![8, 128]⟩
abbrev S32x128 : Shape := ⟨2, ![32, 128]⟩
abbrev S4x32x128 : Shape := ⟨3, ![4, 32, 128]⟩
abbrev S1x32x128 : Shape := ⟨3, ![1, 32, 128]⟩

abbrev nBuf : Space → Nat
  | .hbm => 9
  | .vmem => 16
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S4x96x128, .bf16⟩
  | .hbm, ⟨4, _⟩ => ⟨S8x128, .f32⟩
  | .hbm, ⟨5, _⟩ => ⟨S96x128, .f32⟩
  | .hbm, ⟨6, _⟩ => ⟨S96x128, .f32⟩
  | .hbm, ⟨7, _⟩ => ⟨S96x128, .f32⟩
  | .hbm, ⟨8, _⟩ => ⟨S96x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S4x32x128, .bf16⟩
  | .local _ .vmem, ⟨7, _⟩ => ⟨S4x32x128, .bf16⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLoraRefIdeal.lean ====
abbrev S96x128 : Shape := ⟨2, ![96, 128]⟩
abbrev S4x96x128 : Shape := ⟨3, ![4, 96, 128]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S4x96x128, .bf16⟩
  | .hbm, ⟨4, _⟩ => ⟨S8x128, .f32⟩
  | .hbm, ⟨5, _⟩ => ⟨S4x96x128, .f32⟩
  | .hbm, ⟨6, _⟩ => ⟨S_, .f32⟩
  | .hbm, ⟨7, _⟩ => ⟨S96x128, .f32⟩
  | .hbm, ⟨8, _⟩ => ⟨S_, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S96x128, .f32⟩
  | .hbm, ⟨23, _⟩ => ⟨S_, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | .hbm, ⟨37, _⟩ => ⟨S96x128, .f32⟩
  | .hbm, ⟨38, _⟩ => ⟨S_, .f32⟩
  | .hbm, ⟨39, _⟩ => ⟨S96x128, .f32⟩
  | .hbm, ⟨40, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamGateLora.lean ====
abbrev S256x128 : Shape := ⟨2, ![256, 128]⟩
abbrev S4x256x128 : Shape := ⟨3, ![4, 256, 128]⟩
abbrev S8x128 : Shape := ⟨2, ![8, 128]⟩
abbrev S1x256x128 : Shape := ⟨3, ![1, 256, 128]⟩

abbrev nBuf : Space → Nat
  | .hbm => 9
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S4x256x128, .bf16⟩
  | .hbm, ⟨4, _⟩ => ⟨S8x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S4x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateLoraRefIdeal.lean ====
abbrev S256x128 : Shape := ⟨2, ![256, 128]⟩
abbrev S4x256x128 : Shape := ⟨3, ![4, 256, 128]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S4x256x128, .bf16⟩
  | .hbm, ⟨4, _⟩ => ⟨S8x128, .f32⟩
  | .hbm, ⟨5, _⟩ => ⟨S4x256x128, .f32⟩
  | .hbm, ⟨6, _⟩ => ⟨S_, .f32⟩
  | .hbm, ⟨7, _⟩ => ⟨S256x128, .f32⟩
  | .hbm, ⟨8, _⟩ => ⟨S_, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S_, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamSmall.lean ====
abbrev S1216x128 : Shape := ⟨2, ![1216, 128]⟩
abbrev S8x1216x128 : Shape := ⟨3, ![8, 1216, 128]⟩
abbrev S64x128 : Shape := ⟨2, ![64, 128]⟩
abbrev S8x64x128 : Shape := ⟨3, ![8, 64, 128]⟩
abbrev S1x64x128 : Shape := ⟨3, ![1, 64, 128]⟩

abbrev nBuf : Space → Nat
  | .hbm => 8
  | .vmem => 16
  | .smem => 0
  | _ => 0

abbrev bufTy : (tb : Table) → Fin (tcTables nBuf tb) → BufTy
  | .hbm, ⟨0, _⟩ => ⟨S1216x128, .f32⟩
  | .hbm, ⟨1, _⟩ => ⟨S1216x128, .f32⟩
  | .hbm, ⟨2, _⟩ => ⟨S1216x128, .f32⟩
  | .hbm, ⟨3, _⟩ => ⟨S8x1216x128, .f32⟩
  | .hbm, ⟨4, _⟩ => ⟨S1216x128, .f32⟩
  | .hbm, ⟨5, _⟩ => ⟨S1216x128, .f32⟩
  | .hbm, ⟨6, _⟩ => ⟨S1216x128, .f32⟩
  | .hbm, ⟨7, _⟩ => ⟨S1216x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S8x64x128, .f32⟩
  | .local _ .vmem, ⟨7, _⟩ => ⟨S8x64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | _, _ => ⟨S1216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S1216x128 : Shape := ⟨2, ![1216, 128]⟩
abbrev S8x1216x128 : Shape := ⟨3, ![8, 1216, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1216x128, .f32⟩
  | .hbm, ⟨1, _⟩ => ⟨S1216x128, .f32⟩
  | .hbm, ⟨2, _⟩ => ⟨S1216x128, .f32⟩
  | .hbm, ⟨3, _⟩ => ⟨S8x1216x128, .f32⟩
  | .hbm, ⟨4, _⟩ => ⟨S_, .f32⟩
  | .hbm, ⟨5, _⟩ => ⟨S1216x128, .f32⟩
  | .hbm, ⟨6, _⟩ => ⟨S_, .f32⟩
  | .hbm, ⟨7, _⟩ => ⟨S1216x128, .f32⟩
  | .hbm, ⟨8, _⟩ => ⟨S1216x128, .f32⟩
  | .hbm, ⟨9, _⟩ => ⟨S_, .f32⟩
  | .hbm, ⟨10, _⟩ => ⟨S1216x128, .f32⟩
  | .hbm, ⟨11, _⟩ => ⟨S1216x128, .f32⟩
  | .hbm, ⟨12, _⟩ => ⟨S1216x128, .f32⟩
  | .hbm, ⟨13, _⟩ => ⟨S_, .f32⟩
  | .hbm, ⟨14, _⟩ => ⟨S1216x128, .f32⟩
  | .hbm, ⟨15, _⟩ => ⟨S1216x128, .f32⟩
  | .hbm, ⟨16, _⟩ => ⟨S1216x128, .f32⟩
  | .hbm, ⟨17, _⟩ => ⟨S_, .f32⟩
  | .hbm, ⟨18, _⟩ => ⟨S1216x128, .f32⟩
  | .hbm, ⟨19, _⟩ => ⟨S1216x128, .f32⟩
  | .hbm, ⟨20, _⟩ => ⟨S1216x128, .f32⟩
  | .hbm, ⟨21, _⟩ => ⟨S_, .f32⟩
  | .hbm, ⟨22, _⟩ => ⟨S1216x128, .f32⟩
  | .hbm, ⟨23, _⟩ => ⟨S1216x128, .f32⟩
  | .hbm, ⟨24, _⟩ => ⟨S_, .f32⟩
  | .hbm, ⟨25, _⟩ => ⟨S1216x128, .f32⟩
  | .hbm, ⟨26, _⟩ => ⟨S1216x128, .f32⟩
  | .hbm, ⟨27, _⟩ => ⟨S1216x128, .f32⟩
  | .hbm, ⟨28, _⟩ => ⟨S_, .f32⟩
  | .hbm, ⟨29, _⟩ => ⟨S1216x128, .f32⟩
  | .hbm, ⟨30, _⟩ => ⟨S1216x128, .f32⟩
  | .hbm, ⟨31, _⟩ => ⟨S1216x128, .f32⟩
  | .hbm, ⟨32, _⟩ => ⟨S_, .f32⟩
  | .hbm, ⟨33, _⟩ => ⟨S1216x128, .f32⟩
  | .hbm, ⟨34, _⟩ => ⟨S1216x128, .f32⟩
  | .hbm, ⟨35, _⟩ => ⟨S1216x128, .f32⟩
  | .hbm, ⟨36, _⟩ => ⟨S_, .f32⟩
  | .hbm, ⟨37, _⟩ => ⟨S1216x128, .f32⟩
  | .hbm, ⟨38, _⟩ => ⟨S1216x128, .f32⟩
  | _, _ => ⟨S1216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Sgu.Spec.lean ====
/- The gradients of the chunked causal gating unit as real functions of real arrays.

   An array is a function of natural numbers, so that the row a block holds is `256 * t + a` and no bound has to be
   carried. `z` has the two halves `u` and `v` of the unit side by side; `v` is normalised over its 1024 columns, mixed
   inside each chunk of 128 rows by the causal weights of the column's group (128 columns), and multiplied by `u`. -/
module

public import Idealize.ShloMosaic.PureOps.Ideal

@[expose] public section

noncomputable section

namespace Cert.Sgu

open scoped BigOperators

/-- The arrays the gradients are computed from: `z`, the cotangent, the scale and the shift of the normalisation, the
    mixing weights (group, to, from) and the mixing bias (group, row). -/
structure Data where
  Z : ℕ → ℕ → ℝ
  DY : ℕ → ℕ → ℝ
  LG : ℕ → ℝ
  LB : ℕ → ℝ
  W : ℕ → ℕ → ℕ → ℝ
  B : ℕ → ℕ → ℝ

/-- The error function. -/
def erf (x : ℝ) : ℝ := 2 / Real.sqrt Real.pi * ∫ t in (0 : ℝ)..x, Real.exp (-(t ^ 2))

/-- The Gaussian error linear unit. -/
def gelu (x : ℝ) : ℝ := 1 / 2 * x * (1 + erf (x * (Real.sqrt 2)⁻¹))

/-- Its derivative, with the factor `2 / √π` of the derivative of `erf` rounded as the derivative rule rounds it. -/
def slope (x : ℝ) : ℝ :=
  1 / 2 * (1 + erf (x * (Real.sqrt 2)⁻¹)) + x * Real.exp (-(1 / 2) * x * x) * (9465531 / 16777216 * (Real.sqrt 2)⁻¹)

/-- The number added to the variance. -/
def eps : ℝ := 10995116 / 1099511627776

variable (D : Data)

namespace Data

/-- The half that multiplies. -/
def u (r k : ℕ) : ℝ := gelu (D.Z r k)
/-- The half that is normalised and mixed. -/
def v (r k : ℕ) : ℝ := gelu (D.Z r (1024 + k))
/-- The mean of a row. -/
def mean (r : ℕ) : ℝ := (∑ k : Fin 1024, D.v r k) / 1024
/-- The row about its mean. -/
def xc (r k : ℕ) : ℝ := D.v r k - D.mean r
/-- The variance of a row. -/
def var (r : ℕ) : ℝ := (∑ k : Fin 1024, D.xc r k * D.xc r k) / 1024
/-- The reciprocal standard deviation of a row. -/
def rstd (r : ℕ) : ℝ := (Real.sqrt (D.var r + eps))⁻¹
/-- The normalised row. -/
def vn (r k : ℕ) : ℝ := D.xc r k * D.rstd r
/-- The normalised row, scaled and shifted. -/
def vl (r k : ℕ) : ℝ := D.vn r k * D.LG k + D.LB k
/-- The causal weights: row `t` reads the rows `s ≤ t` of its chunk. -/
def wc (g t s : ℕ) : ℝ := if s ≤ t then D.W g t s else 0
/-- The mixed value at row `t` of chunk `q` and column `c` of group `g`. -/
def mix (q t g c : ℕ) : ℝ := (∑ s : Fin 128, D.wc g t s * D.vl (128 * q + s) (128 * g + c)) + D.B g t
/-- The gradient of the mixed value. -/
def dm (r k : ℕ) : ℝ := D.DY r k * D.u r k
/-- The gradient of the mixing's operand, at row `s` of chunk `q` and column `c` of group `g`. -/
def dvlc (q s g c : ℕ) : ℝ := ∑ t : Fin 128, D.wc g t s * D.dm (128 * q + t) (128 * g + c)
/-- The gradient of `u`. -/
def du (r k : ℕ) : ℝ := D.DY r k * D.mix (r / 128) (r % 128) (k / 128) (k % 128)
/-- The gradient of the mixing's operand. -/
def dvl (r k : ℕ) : ℝ := D.dvlc (r / 128) (r % 128) (k / 128) (k % 128)
/-- The gradient of the normalised row. -/
def dvn (r k : ℕ) : ℝ := D.dvl r k * D.LG k
/-- The mean of the normalised row's gradient. -/
def dvnMean (r : ℕ) : ℝ := (∑ k : Fin 1024, D.dvn r k) / 1024
/-- The mean of the normalised row's gradient times the normalised row. -/
def dvnDot (r : ℕ) : ℝ := (∑ k : Fin 1024, D.dvn r k * D.vn r k) / 1024
/-- The gradient of `v`. -/
def dvv (r k : ℕ) : ℝ := D.rstd r * (D.dvn r k - D.dvnMean r - D.vn r k * D.dvnDot r)
/-- The gradient of `z`. -/
def dz (r k : ℕ) : ℝ := if k < 1024 then D.du r k * slope (D.Z r k) else D.dvv r (k - 1024) * slope (D.Z r k)
/-- The part of the gradient of the normalisation's scale that the 256 rows of block `n` contribute. -/
def dlgPart (n k : ℕ) : ℝ := ∑ a : Fin 256, D.dvl (256 * n + a) k * D.vn (256 * n + a) k
/-- The part of the gradient of the normalisation's shift that the 256 rows of block `n` contribute. -/
def dlbPart (n k : ℕ) : ℝ := ∑ a : Fin 256, D.dvl (256 * n + a) k
/-- The part of the gradient of the mixing weights that chunk `q` contributes. -/
def dwsPart (q g t s : ℕ) : ℝ :=
  if s ≤ t then ∑ c : Fin 128, D.dm (128 * q + t) (128 * g + c) * D.vl (128 * q + s) (128 * g + c) else 0
/-- The gradient of the normalisation's scale. -/
def dlg (k : ℕ) : ℝ := ∑ n : Fin 8, D.dlgPart n k
/-- The gradient of the normalisation's shift. -/
def dlb (k : ℕ) : ℝ := ∑ n : Fin 8, D.dlbPart n k
/-- The gradient of the mixing weights. -/
def dws (g t s : ℕ) : ℝ := ∑ n : Fin 8, (D.dwsPart (2 * n) g t s + D.dwsPart (2 * n + 1) g t s)
/-- The gradient of the mixed value at row `t` of its chunk, summed over the chunks. -/
def dbacc (t k : ℕ) : ℝ := ∑ n : Fin 8, (D.dm (128 * (2 * n) + t) k + D.dm (128 * (2 * n + 1) + t) k)
/-- The gradient of the mixing bias. -/
def db (t g : ℕ) : ℝ := ∑ c : Fin 128, D.dbacc t (128 * g + c)

theorem du_at (q t g c : ℕ) (ht : t < 128) (hc : c < 128) :
    D.du (128 * q + t) (128 * g + c) = D.DY (128 * q + t) (128 * g + c) * D.mix q t g c := by
  unfold du
  rw [show (128 * q + t) / 128 = q by omega, show (128 * q + t) % 128 = t by omega,
    show (128 * g + c) / 128 = g by omega, show (128 * g + c) % 128 = c by omega]

theorem dvl_at (q s g c : ℕ) (hs : s < 128) (hc : c < 128) : D.dvl (128 * q + s) (128 * g + c) = D.dvlc q s g c := by
  unfold dvl
  rw [show (128 * q + s) / 128 = q by omega, show (128 * q + s) % 128 = s by omega,
    show (128 * g + c) / 128 = g by omega, show (128 * g + c) % 128 = c by omega]

theorem var_nonneg (r : ℕ) : 0 ≤ D.var r :=
  div_nonneg (Finset.sum_nonneg fun _ _ => mul_self_nonneg _) (by norm_num)

theorem var_eps_pos (r : ℕ) : 0 < D.var r + eps :=
  add_pos_of_nonneg_of_pos (D.var_nonneg r) (by unfold eps; norm_num)

end Data

/-! ## Extended reals that are real -/

open Idealize.ShloMosaic

/-- A sum of reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul, mul_one_div]

theorem rsqrt_real (a : ℝ) (h : 0 < a) : Ideal.rsqrt (a : EReal) = (((Real.sqrt a)⁻¹ : ℝ) : EReal) := by
  rw [Ideal.rsqrt_coe, if_neg (not_lt.2 h.le), if_neg h.ne']

theorem erf_real (a : ℝ) : Ideal.erf (a : EReal) = ((erf a : ℝ) : EReal) := Ideal.erf_coe a

theorem exp_real (a : ℝ) : Ideal.exp (a : EReal) = ((Real.exp a : ℝ) : EReal) := Ideal.exp_coe a

/-! ## The constants the programs spell -/

theorem c_half : Ideal.ofBits .f32 0x3F000000#32 = ((1 / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul, -EReal.coe_neg]; norm_num

theorem c_1024 : Ideal.ofBits .f32 0x44800000#32 = ((1024 : ℝ) : EReal) := by
  simp [Ideal.ofBits, Ideal.ieee, -EReal.coe_mul]; norm_num

theorem c_two : Ideal.ofBits .f32 0x40000000#32 = ((2 : ℝ) : EReal) := by
  simp [Ideal.ofBits, Ideal.ieee, -EReal.coe_mul]; norm_num

theorem c_eps : Ideal.ofBits .f32 0x3727C5AC#32 = ((eps : ℝ) : EReal) := by
  simp [Ideal.ofBits, Ideal.ieee, -EReal.coe_mul]; unfold eps; norm_num

theorem c_erfc : Ideal.ofBits .f32 0xBF906EBB#32 = ((-(9465531 / 8388608) : ℝ) : EReal) := by
  simp [Ideal.ofBits, Ideal.ieee, -EReal.coe_mul, -EReal.coe_neg]; norm_num

end Cert.Sgu

end
-- ==== Proof.Sgu.Args.lean ====
/- Argument arrays that hold real numbers. -/
module

public import proofs.«01_k».proof.Proof.Sgu.Spec
public import Idealize.ShloMosaic.Lib.Pointwise

@[expose] public section

noncomputable section

namespace Cert.Sgu

open Idealize.ShloMosaic

/-- The six arrays of 32-bit floats hold the reals of `D`; `z` is the columns from 8192 on of the first. -/
structure Reals (D : Data) (a0 : FVec Ideal ⟨2, ![2048, 10240]⟩ .f32) (a1 : FVec Ideal ⟨2, ![2048, 1024]⟩ .f32)
    (a2 a3 : FVec Ideal ⟨2, ![1, 1024]⟩ .f32) (a4 : FVec Ideal ⟨4, ![1, 8, 128, 128]⟩ .f32)
    (a5 : FVec Ideal ⟨3, ![1, 8, 128]⟩ .f32) : Prop where
  z : ∀ (r : Fin 2048) (q : Fin 10240), 8192 ≤ q.val → a0 (ix2 r q) = ((D.Z r (q.val - 8192) : ℝ) : EReal)
  dy : ∀ (r : Fin 2048) (k : Fin 1024), a1 (ix2 r k) = ((D.DY r k : ℝ) : EReal)
  lg : ∀ k : Fin 1024, a2 (ix2 0 k) = ((D.LG k : ℝ) : EReal)
  lb : ∀ k : Fin 1024, a3 (ix2 0 k) = ((D.LB k : ℝ) : EReal)
  w : ∀ (g : Fin 8) (t s : Fin 128), a4 (ix4 0 g t s) = ((D.W g t s : ℝ) : EReal)
  b : ∀ (g : Fin 8) (s : Fin 128), a5 (ix3 0 g s) = ((D.B g s : ℝ) : EReal)

/-- The reals that arrays of finite numbers hold. -/
def dataOf (a0 : FVec Ideal ⟨2, ![2048, 10240]⟩ .f32) (a1 : FVec Ideal ⟨2, ![2048, 1024]⟩ .f32)
    (a2 a3 : FVec Ideal ⟨2, ![1, 1024]⟩ .f32) (a4 : FVec Ideal ⟨4, ![1, 8, 128, 128]⟩ .f32)
    (a5 : FVec Ideal ⟨3, ![1, 8, 128]⟩ .f32) : Data where
  Z r k := if h : r < 2048 ∧ k < 2048 then EReal.toReal (a0 (ix2 ⟨r, h.1⟩ ⟨8192 + k, by omega⟩)) else 0
  DY r k := if h : r < 2048 ∧ k < 1024 then EReal.toReal (a1 (ix2 ⟨r, h.1⟩ ⟨k, h.2⟩)) else 0
  LG k := if h : k < 1024 then EReal.toReal (a2 (ix2 0 ⟨k, h⟩)) else 0
  LB k := if h : k < 1024 then EReal.toReal (a3 (ix2 0 ⟨k, h⟩)) else 0
  W g t s := if h : g < 8 ∧ t < 128 ∧ s < 128 then EReal.toReal (a4 (ix4 0 ⟨g, h.1⟩ ⟨t, h.2.1⟩ ⟨s, h.2.2⟩)) else 0
  B g s := if h : g < 8 ∧ s < 128 then EReal.toReal (a5 (ix3 0 ⟨g, h.1⟩ ⟨s, h.2⟩)) else 0

/-- An extended real is finite. -/
def Fin1 (x : EReal) : Prop := x ≠ ⊥ ∧ x ≠ ⊤

theorem Fin1.coe {x : EReal} (h : Fin1 x) : x = ((EReal.toReal x : ℝ) : EReal) := (EReal.coe_toReal h.2 h.1).symm

theorem reals_dataOf {a0 : FVec Ideal ⟨2, ![2048, 10240]⟩ .f32} {a1 : FVec Ideal ⟨2, ![2048, 1024]⟩ .f32}
    {a2 a3 : FVec Ideal ⟨2, ![1, 1024]⟩ .f32} {a4 : FVec Ideal ⟨4, ![1, 8, 128, 128]⟩ .f32}
    {a5 : FVec Ideal ⟨3, ![1, 8, 128]⟩ .f32} (h0 : ∀ i, Fin1 (a0 i)) (h1 : ∀ i, Fin1 (a1 i)) (h2 : ∀ i, Fin1 (a2 i))
    (h3 : ∀ i, Fin1 (a3 i)) (h4 : ∀ i, Fin1 (a4 i)) (h5 : ∀ i, Fin1 (a5 i)) :
    Reals (dataOf a0 a1 a2 a3 a4 a5) a0 a1 a2 a3 a4 a5 where
  z r q hq := by
    have hr := r.isLt
    have hq' := q.isLt
    have e : (⟨8192 + (q.val - 8192), by omega⟩ : Fin 10240) = q := Fin.ext (by simp; omega)
    simp only [dataOf]
    rw [dif_pos ⟨hr, by omega⟩, e]
    exact (h0 _).coe
  dy r k := by
    simp only [dataOf]
    rw [dif_pos ⟨r.isLt, k.isLt⟩]
    exact (h1 _).coe
  lg k := by
    simp only [dataOf]
    rw [dif_pos k.isLt]
    exact (h2 _).coe
  lb k := by
    simp only [dataOf]
    rw [dif_pos k.isLt]
    exact (h3 _).coe
  w g t s := by
    simp only [dataOf]
    rw [dif_pos ⟨g.isLt, t.isLt, s.isLt⟩]
    exact (h4 _).coe
  b g s := by
    simp only [dataOf]
    rw [dif_pos ⟨g.isLt, s.isLt⟩]
    exact (h5 _).coe

end Cert.Sgu

end
-- ==== Proof.Sgu.Finite.lean ====
/- The precondition read: every entry of the six arrays of 32-bit floats is a real number. -/
module

public import proofs.«01_k».proof.Defs
public import proofs.«01_k».proof.Proof.Sgu.Args
public import proofs.«01_k».proof.Proof.Gen.Pre_finite

@[expose] public section

set_option maxRecDepth 16384

noncomputable section

namespace Cert.Sgu

open Idealize.ShloMosaic

theorem c_infinity : Ideal.ofBits .f32 0x7F800000#32 = ⊤ := by simp [Ideal.ofBits, Ideal.ieee]

/-- An entry whose absolute value is below infinity is finite. -/
theorem fin1_of_lt {s : Shape} (x : FVec Ideal s .f32) (h0 : (⟨0, ![]⟩ : Shape).BroadcastsInDim s (![] : Fin 0 → Fin s.rank))
    (h : cmpf .olt (Host.absf x) (broadcastInDim s ![] h0 (constant ⟨0, ![]⟩ .f32 0x7F800000#32)) = fun _ => 1#1) (i : s.Idx) :
    Fin1 (x i) := by
  have e := congrFun h i
  have e' : Ideal.cmp .olt (max (x i) (-(x i))) (Ideal.ofBits .f32 0x7F800000#32) = 1#1 := e
  rw [c_infinity] at e'
  have hlt : max (x i) (-(x i)) < ⊤ := by
    by_contra hn
    simp [Ideal.cmp, hn] at e'
  constructor
  · intro hb
    rw [hb] at hlt
    simp at hlt
  · intro ht
    rw [ht] at hlt
    simp at hlt

/-- The reals the kernel's arguments hold on device `c`, under the precondition. -/
theorem reals_of_pre (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    ∃ D : Data, Reals D (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain ⟨h0, h1, h2, h3, h4, h5⟩ := hpre c
  exact ⟨_, reals_dataOf (fin1_of_lt _ _ h0) (fin1_of_lt _ _ h1) (fin1_of_lt _ _ h2) (fin1_of_lt _ _ h3) (fin1_of_lt _ _ h4)
    (fin1_of_lt _ _ h5)⟩

end Cert.Sgu

end
-- ==== Proof.Ffn.Spec.lean ====
/- The products of the SwiGLU unit and of the input projection, entry by entry: each entry one sum of products of entries. An array of
   5632 columns in eight blocks has column `q` of block `b` where the joined array has column `b * 704 + q`. -/
module

public import Idealize.ShloMosaic.Lib.Pipeline.ValueKit
public import Idealize.ShloMosaic.Lib.Pointwise
public import Idealize.ShloMosaic.Lib.Claim

@[expose] public section

noncomputable section

namespace Cert.Ffn

open Idealize.ShloMosaic

abbrev Square : Shape := ⟨2, ![2048, 2048]⟩
abbrev Tall : Shape := ⟨2, ![5632, 2048]⟩
abbrev Wide : Shape := ⟨2, ![2048, 10240]⟩
abbrev Blocked : Shape := ⟨3, ![8, 2048, 704]⟩

/-- The product of the transpose of `x` with `y`, block of columns by block of columns. -/
def gradBlocks (x : Vec Ideal Square .bf16) (y : Vec Ideal Blocked .bf16) : Vec Ideal Blocked .bf16 := fun i =>
  ∑ k : Fin 2048, x (ix2 (n0 := 2048) (n1 := 2048) k (i 1)) * y (ix3 (n0 := 8) (n1 := 2048) (n2 := 704) (i 0) k (i 2))

/-- The product of the transpose of `y`, its blocks joined, with `x`. -/
def gradTall (y : Vec Ideal Blocked .bf16) (x : Vec Ideal Square .bf16) : Vec Ideal Tall .bf16 := fun i =>
  ∑ k : Fin 2048, y (ix3 (n0 := 8) (n1 := 2048) (n2 := 704) ⟨(i 0).val / 704, by have := (i 0).isLt; change (i 0).val < 5632 at this; omega⟩ k
    ⟨(i 0).val % 704, Nat.mod_lt _ (by decide)⟩) * x (ix2 (n0 := 2048) (n1 := 2048) k (i 1))

/-- The product of the transpose of `x` with `y`. -/
def gradWide (x : Vec Ideal Square .bf16) (y : Vec Ideal Wide .bf16) : Vec Ideal Wide .bf16 := fun i =>
  ∑ k : Fin 2048, x (ix2 (n0 := 2048) (n1 := 2048) k (i 0)) * y (ix2 (n0 := 2048) (n1 := 10240) k (i 1))

/-- The product of `x` with `w`, block of columns by block of columns. -/
def timesBlocks (x : Vec Ideal Square .bf16) (w : Vec Ideal Blocked .bf16) : Vec Ideal Blocked .bf16 := fun i =>
  ∑ k : Fin 2048, x (ix2 (n0 := 2048) (n1 := 2048) (i 1) k) * w (ix3 (n0 := 8) (n1 := 2048) (n2 := 704) (i 0) k (i 2))

/-- The unit's hidden layer: the gate's product through `g * logistic g`, times the up projection's product. -/
def hidden (x : Vec Ideal Square .bf16) (wg wu : Vec Ideal Blocked .bf16) : Vec Ideal Blocked .bf16 := fun i =>
  (timesBlocks x wg i : EReal) * Ideal.logistic (timesBlocks x wg i) * timesBlocks x wu i

/-- The product of `d` with the transpose of `w`, block of columns by block of columns. -/
def backBlocks (d : Vec Ideal Square .bf16) (w : Vec Ideal Tall .bf16) : Vec Ideal Blocked .bf16 := fun i =>
  ∑ k : Fin 2048, d (ix2 (n0 := 2048) (n1 := 2048) (i 1) k) * w (ix2 (n0 := 5632) (n1 := 2048)
    ⟨(i 0).val * 704 + (i 2).val, by have h0 := (i 0).isLt; have h2 := (i 2).isLt; change (i 0).val < 8 at h0; change (i 2).val < 704 at h2; omega⟩ k)

/-- The gradient that reaches the gate: `d` times the up projection's value times the derivative of `g * logistic g`. -/
def gateGrad (d : Vec Ideal Square .bf16) (w : Vec Ideal Tall .bf16) (gt up : Vec Ideal Blocked .bf16) : Vec Ideal Blocked .bf16 := fun i =>
  (backBlocks d w i : EReal) * up i * (Ideal.logistic (gt i) * (1 + gt i * (1 - Ideal.logistic (gt i))))

/-- The gradient that reaches the up projection: `d` times `g * logistic g`. -/
def upGrad (d : Vec Ideal Square .bf16) (w : Vec Ideal Tall .bf16) (gt : Vec Ideal Blocked .bf16) : Vec Ideal Blocked .bf16 := fun i =>
  (backBlocks d w i : EReal) * gt i * Ideal.logistic (gt i)

/-! Products summed over several grid points: the entries are read at natural numbers, so that a sum over a range is cut anywhere. -/

/-- Entry `(r, k)` of an array, zero outside it. -/
def at2 {a b : ℕ} (x : (⟨2, ![a, b]⟩ : Shape).Idx → EReal) (r k : ℕ) : EReal :=
  if h : r < a ∧ k < b then x (ix2 ⟨r, h.1⟩ ⟨k, h.2⟩) else 0

theorem at2_eq {a b : ℕ} (x : (⟨2, ![a, b]⟩ : Shape).Idx → EReal) (j : (⟨2, ![a, b]⟩ : Shape).Idx) {r k : ℕ} (hr : (j 0).val = r)
    (hk : (j 1).val = k) : at2 x r k = x j := by
  subst hr hk
  have h0 : (j 0).val < a := (j 0).isLt
  have h1 : (j 1).val < b := (j 1).isLt
  rw [at2, dif_pos ⟨h0, h1⟩]
  exact congrArg x (eq_ix2 j).symm

/-- Row `r` of `x` with row `s` of `w`, over the first `n` columns. -/
def rows {a b c : ℕ} (x : Vec Ideal ⟨2, ![a, c]⟩ .bf16) (w : Vec Ideal ⟨2, ![b, c]⟩ .bf16) (r s n : ℕ) : EReal :=
  ∑ k ∈ Finset.range n, at2 x r k * at2 w s k

/-- A further block of columns. -/
theorem rows_add {a b c : ℕ} (x : Vec Ideal ⟨2, ![a, c]⟩ .bf16) (w : Vec Ideal ⟨2, ![b, c]⟩ .bf16) (r s n l : ℕ) :
    rows x w r s (n + l) = rows x w r s n + ∑ k : Fin l, at2 x r (n + k) * at2 w s (n + k) := by
  rw [rows, Finset.sum_range_add, Finset.sum_range (fun k => at2 x r (n + k) * at2 w s (n + k))]
  rfl

/-- The product of `d` with the transpose of `w`. -/
def backWide (d w : Vec Ideal Wide .bf16) : Vec Ideal Square .f32 := fun i => rows d w (i 0).val (i 1).val 10240

/-- Entry `(b, r, k)` of an array in blocks, zero outside it. -/
def at3 {n h w : ℕ} (x : (⟨3, ![n, h, w]⟩ : Shape).Idx → EReal) (b r k : ℕ) : EReal :=
  if h : b < n ∧ r < h ∧ k < w then x (ix3 ⟨b, h.1⟩ ⟨r, h.2.1⟩ ⟨k, h.2.2⟩) else 0

theorem at3_eq {n h w : ℕ} (x : (⟨3, ![n, h, w]⟩ : Shape).Idx → EReal) (j : (⟨3, ![n, h, w]⟩ : Shape).Idx) {b r k : ℕ} (hb : (j 0).val = b) (hr : (j 1).val = r)
    (hk : (j 2).val = k) : at3 x b r k = x j := by
  subst hb hr hk
  have h0 : (j 0).val < n := (j 0).isLt
  have h1 : (j 1).val < h := (j 1).isLt
  have h2 : (j 2).val < w := (j 2).isLt
  rw [at3, dif_pos ⟨h0, h1, h2⟩]
  exact congrArg x (eq_ix3 j).symm

/-- Row `r` of block `b` of `x` with row `s` of block `b` of `w`. -/
def blockRows (x w : Vec Ideal Blocked .bf16) (r s b : ℕ) : EReal := ∑ k : Fin 704, at3 x b r k * at3 w b s k

/-- Row `r` of `x`, its blocks joined, with row `s` of `w`, over the first `n` columns. -/
def joined (x w : Vec Ideal Blocked .bf16) (r s n : ℕ) : EReal :=
  ∑ k ∈ Finset.range n, at3 x (k / 704) r (k % 704) * at3 w (k / 704) s (k % 704)

/-- A further block. -/
theorem joined_add (x w : Vec Ideal Blocked .bf16) (r s b : ℕ) :
    joined x w r s ((b + 1) * 704) = joined x w r s (b * 704) + blockRows x w r s b := by
  rw [joined, Nat.add_one_mul, Finset.sum_range_add]
  refine congrArg (joined x w r s (b * 704) + ·) ?_
  rw [Finset.sum_range, blockRows]
  refine Finset.sum_congr (M := EReal) rfl fun k _ => ?_
  have h := k.isLt
  rw [show (b * 704 + k.val) / 704 = b by omega, show (b * 704 + k.val) % 704 = k.val by omega]

/-- The product of `d` with the transpose of `w`, the blocks of both joined. -/
def backJoined (d w : Vec Ideal Blocked .bf16) : Vec Ideal Square .f32 := fun i => joined d w (i 0).val (i 1).val 5632

/-- The same product, added to `x`. -/
def addJoined (x : Vec Ideal Square .f32) (d w : Vec Ideal Blocked .bf16) : Vec Ideal Square .f32 := fun i =>
  (x i : EReal) + backJoined d w i

end Cert.Ffn

end
-- ==== Proof.Ffn.Act.lean ====
/- The gradient of the unit: the down projection's backward product, carried through the gate. -/
module

public import proofs.«01_k».proof.Proof.Ffn.Spec
public import proofs.«01_k».proof.Proof.Sgu.Args
public import Idealize.ShloMosaic.Lib.IdealHost
public import proofs.«01_k».proof.Proof.Gen.ActIdeal.Value
public import proofs.«01_k».proof.Proof.Gen.ActRefIdeal.Read

@[expose] public section

set_option maxRecDepth 16384

noncomputable section

namespace Cert.Ffn.Act

open Cert.ActIdeal Cert.ActIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![(grid0.coords t 1).val, 0] ∧ win0_2.index t = ![(grid0.coords t 1).val, (grid0.coords t 0).val, 0] ∧ win0_3.index t = ![(grid0.coords t 1).val, (grid0.coords t 0).val, 0] ∧ win0_4.index t = ![(grid0.coords t 1).val, (grid0.coords t 0).val, 0] ∧ win0_5.index t = ![(grid0.coords t 1).val, (grid0.coords t 0).val, 0] :=
  (by decide +kernel : ∀ t : Fin grid0.N, win0_0.index t = ![(grid0.coords t 0).val, 0] ∧ win0_1.index t = ![(grid0.coords t 1).val, 0] ∧ win0_2.index t = ![(grid0.coords t 1).val, (grid0.coords t 0).val, 0] ∧ win0_3.index t = ![(grid0.coords t 1).val, (grid0.coords t 0).val, 0] ∧ win0_4.index t = ![(grid0.coords t 1).val, (grid0.coords t 0).val, 0] ∧ win0_5.index t = ![(grid0.coords t 1).val, (grid0.coords t 0).val, 0]) t

theorem prod_at (d : Vec Ideal S1024x2048 .bf16) (w : Vec Ideal S704x2048 .bf16) (j : S1024x704.Idx) :
    k0_pay1 d w j = ∑ k : Fin 2048, d (ix2 (n0 := 1024) (n1 := 2048) (j 0) k) * w (ix2 (n0 := 704) (n1 := 2048) (j 1) k) := by
  rw [k0_pay1]
  pointwise

theorem gate_at (d : Vec Ideal S1024x2048 .bf16) (w : Vec Ideal S704x2048 .bf16) (gt up : Vec Ideal S1x1024x704 .bf16) (j : S1x1024x704.Idx) :
    k0_pay4 d w gt up j = (k0_pay1 d w (ix2 (n0 := 1024) (n1 := 704) (j 1) (j 2)) : EReal) * up j
      * (Ideal.logistic (gt j) * (1 + gt j * (1 - Ideal.logistic (gt j)))) := by
  rw [k0_pay4, k0_pay3, k0_pay2]
  generalize k0_pay1 d w = p
  pointwise

theorem up_at (d : Vec Ideal S1024x2048 .bf16) (w : Vec Ideal S704x2048 .bf16) (gt : Vec Ideal S1x1024x704 .bf16) (j : S1x1024x704.Idx) :
    k0_pay5 d w gt j = (k0_pay1 d w (ix2 (n0 := 1024) (n1 := 704) (j 1) (j 2)) : EReal) * gt j * Ideal.logistic (gt j) := by
  rw [k0_pay5, k0_pay3, k0_pay2]
  generalize k0_pay1 d w = p
  pointwise

theorem prod_block (c : Dev nD) (t : Fin cfg0.N) (j : S1x1024x704.Idx) (i : S8x2048x704.Idx)
    (hi : (i 0).val = (grid0.coords t 1).val ∧ (i 1).val = (grid0.coords t 0).val * 1024 + (j 1).val ∧ (i 2).val = (j 2).val) :
    k0_pay1 (iblk m c 0 t) (iblk m c 1 t) (ix2 (n0 := 1024) (n1 := 704) (j 1) (j 2))
      = backBlocks (m ((c : Thread nD τ).loc main_arg0)) (m ((c : Thread nD τ).loc main_arg1)) i := by
  obtain ⟨h0, h1, h2⟩ := hi
  refine (prod_at _ _ _).trans (Finset.sum_congr (M := EReal) rfl fun k _ => ?_)
  congr 1 <;> blk_ext [iblk, V, place t]

theorem arr4 (c : Dev nD) : (dats m 0 c).arrAt 4 cfg0.N = gateGrad (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp [place t]
  rw [after0_4]
  frame_out
  refine (gate_at _ _ _ _ _).trans ?_
  have eg : iblk m c 2 t y = m ((c : Thread nD τ).loc main_arg2) (((View.whole main_v0_0).slice (win0_4.rect t)).emb y) := by
    blk_ext [iblk, V, place t]
  have eu : iblk m c 3 t y = m ((c : Thread nD τ).loc main_arg3) (((View.whole main_v0_0).slice (win0_4.rect t)).emb y) := by
    blk_ext [iblk, V, place t]
  rw [prod_block m c t y (((View.whole main_v0_0).slice (win0_4.rect t)).emb y) ?_, eg, eu]
  · rfl
  · blk_simp [place t]
    exact ⟨trivial, trivial, trivial⟩

theorem arr5 (c : Dev nD) : (dats m 0 c).arrAt 5 cfg0.N = upGrad (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp [place t]
  rw [after0_5]
  frame_out
  refine (up_at _ _ _ _).trans ?_
  have eg : iblk m c 2 t y = m ((c : Thread nD τ).loc main_arg2) (((View.whole main_v0_1).slice (win0_5.rect t)).emb y) := by
    blk_ext [iblk, V, place t]
  rw [prod_block m c t y (((View.whole main_v0_1).slice (win0_5.rect t)).emb y) ?_, eg]
  · rfl
  · blk_simp [place t]
    exact ⟨trivial, trivial, trivial⟩

end Cert.Ffn.Act

namespace Cert.Ffn.Act

open Cert.ActRefIdeal Cert.ActRefIdeal.Read Idealize.ShloMosaic Cert.Sgu

theorem ref_prod (d : Vec Ideal S2048x2048 .bf16) (w : Vec Ideal S5632x2048 .bf16) (i : S8x2048x704.Idx) :
    val_main_v11 (F := Ideal) d w (idx_main_v15 (idx_main_v16 i)) = backBlocks d w i := by
  simp only [val_main_v11_apply, val_main_v10_apply, val_main_v8_apply]
  rw [backBlocks]
  refine Finset.sum_congr rfl fun k _ => ?_
  simp only [Ideal.extf_def]
  congr 1 <;> blk_ext

theorem ref_gt (gt : Vec Ideal S8x2048x704 .bf16) (i : S8x2048x704.Idx) :
    val_main_v2 (F := Ideal) gt (idx_main_v15 (idx_main_v16 i)) = gt i := by
  simp only [val_main_v2_apply, val_main_v1_apply, val_main_v0_apply, Ideal.extf_def]
  blk_ext

theorem ref_upv (up : Vec Ideal S8x2048x704 .bf16) (i : S8x2048x704.Idx) :
    val_main_v5 (F := Ideal) up (idx_main_v15 (idx_main_v16 i)) = up i := ref_gt up i

theorem ref_logistic (gt : Vec Ideal S8x2048x704 .bf16) (i : S8x2048x704.Idx) :
    val_main_v6_2 (F := Ideal) gt (idx_main_v15 (idx_main_v16 i)) = Ideal.logistic (gt i) := by
  simp only [val_main_v6_2_apply, val_main_call0_v4_apply, val_main_call0_v3_apply, val_main_call0_v2_apply, val_main_call0_v1_apply,
    val_main_call0_v0_apply, val_main_call0_cst_apply, val_main_call0_cst_0_apply, ref_gt]
  rw [Ideal.ofBits_def, Ideal.ofBits_one_f32]
  rfl

/-- The product rule's two terms are the one term of the kernel: at an infinite gate value the slope is zero or one. -/
theorem product_rule (p : ℝ) (g : EReal) :
    (p : EReal) * Ideal.logistic g + g * p * (Ideal.logistic g * (1 - Ideal.logistic g))
      = p * (Ideal.logistic g * (1 + g * (1 - Ideal.logistic g))) := by
  induction g with
  | bot => simp
  | top =>
    have h : (1 : EReal) - 1 = 0 := by rw [← EReal.coe_one, ← EReal.coe_sub, sub_self, EReal.coe_zero]
    simp [h]
  | coe r =>
    rw [Ideal.logistic_coe]
    generalize (1 + Real.exp (-r))⁻¹ = s
    norm_cast
    ring

/-- A sum of products of finite numbers, times a finite number, is a real number. -/
theorem prod_real (d : Vec Ideal S2048x2048 .bf16) (w : Vec Ideal S5632x2048 .bf16) (u : EReal) (hd : ∀ i, Fin1 (d i)) (hw : ∀ i, Fin1 (w i))
    (hu : Fin1 u) (i : S8x2048x704.Idx) : ∃ p : ℝ, (backBlocks d w i : EReal) * u = p := by
  obtain ⟨x, hx⟩ : ∃ x : ℝ, (backBlocks d w i : EReal) = x :=
    ⟨_, (Finset.sum_congr (M := EReal) rfl fun k _ =>
      (congrArg₂ (fun a b : EReal => a * b) (hd _).coe (hw _).coe).trans (EReal.coe_mul _ _).symm).trans (coe_sum _ _)⟩
  exact ⟨_, (congrArg₂ (fun a b : EReal => a * b) hx hu.coe).trans (EReal.coe_mul _ _).symm⟩

theorem ref_up (d : Vec Ideal S2048x2048 .bf16) (w : Vec Ideal S5632x2048 .bf16) (gt : Vec Ideal S8x2048x704 .bf16) :
    val_main_v20 (F := Ideal) d w gt = upGrad d w gt := by
  funext i
  rw [upGrad, mul_assoc, mul_comm, ← ref_prod, ← ref_logistic, ← ref_gt gt i]
  simp only [val_main_v20_apply, val_main_v19_apply, val_main_v18_apply, val_main_v12_apply, val_main_v6_0_apply]
  rfl

theorem ref_gate (d : Vec Ideal S2048x2048 .bf16) (w : Vec Ideal S5632x2048 .bf16) (gt up : Vec Ideal S8x2048x704 .bf16)
    (hd : ∀ i, Fin1 (d i)) (hw : ∀ i, Fin1 (w i)) (hu : ∀ i, Fin1 (up i)) : val_main_v17 (F := Ideal) d w gt up = gateGrad d w gt up := by
  funext i
  obtain ⟨p, hp⟩ := prod_real d w (up i) hd hw (hu i) i
  rw [gateGrad, hp, ← product_rule, ← hp]
  simp only [val_main_v17_apply, val_main_v16_apply, val_main_v15_apply, val_main_v14_apply, val_main_call1_v2_apply, val_main_call1_v1_apply,
    val_main_call1_v0_apply, val_main_v13_apply, val_main_v6_1_apply, val_main_call0_v7_apply, val_main_call0_v6_apply,
    val_main_call0_cst_1_apply, ref_prod, ref_gt, ref_upv, ref_logistic]
  rw [Ideal.ofBits_def, Ideal.ofBits_one_f32]
  rfl

end Cert.Ffn.Act

end
-- ==== Proof.Ffn.DwDown.lean ====
/- The gradient of the down projection's weights: the hidden layer's blocks of columns give blocks of rows. -/
module

public import proofs.«01_k».proof.Proof.Ffn.Spec
public import proofs.«01_k».proof.Proof.Gen.DwDownIdeal.Value
public import proofs.«01_k».proof.Proof.Gen.DwDownRefIdeal.Read

@[expose] public section

set_option maxRecDepth 16384

noncomputable section

namespace Cert.Ffn.DwDown

open Cert.DwDownIdeal Cert.DwDownIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0, 0] ∧ win0_1.index t = ![0, (grid0.coords t 1).val] ∧ win0_2.index t = ![(grid0.coords t 0).val, (grid0.coords t 1).val] :=
  (by decide +kernel : ∀ t : Fin grid0.N, win0_0.index t = ![(grid0.coords t 0).val, 0, 0] ∧ win0_1.index t = ![0, (grid0.coords t 1).val] ∧ win0_2.index t = ![(grid0.coords t 0).val, (grid0.coords t 1).val]) t

theorem pay_at (y : Vec Ideal S1x2048x704 .bf16) (x : Vec Ideal S2048x1024 .bf16) (j : S704x1024.Idx) :
    k0_pay1 y x j = ∑ k : Fin 2048, y (ix3 (n0 := 1) (n1 := 2048) (n2 := 704) 0 k (j 0)) * x (ix2 (n0 := 2048) (n1 := 1024) k (j 1)) := by
  rw [k0_pay1]
  pointwise

theorem arr (c : Dev nD) : (dats m 0 c).arrAt 2 cfg0.N = gradTall (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DwDown

namespace Cert.Ffn.DwDown

open Cert.DwDownRefIdeal Cert.DwDownRefIdeal.Read Idealize.ShloMosaic

theorem ref (y : Vec Ideal S8x2048x704 .bf16) (x : Vec Ideal S2048x2048 .bf16) : val_main_v8 (F := Ideal) y x = gradTall y x := by
  funext i
  simp only [val_main_v8_apply, val_main_v7_apply, val_main_v6_apply, val_main_v5_apply,
    val_main_v3_apply, val_main_v2_apply, val_main_v1_apply]
  rw [gradTall]
  refine Finset.sum_congr rfl fun k _ => ?_
  simp only [Ideal.extf_def]
  rw [mul_comm]
  congr 1 <;> blk_ext

end Cert.Ffn.DwDown

end
-- ==== Proof.Ffn.DwGate.lean ====
/- The gradient of the gate's weights: one product for each block of columns. -/
module

public import proofs.«01_k».proof.Proof.Ffn.Spec
public import proofs.«01_k».proof.Proof.Gen.DwGateIdeal.Value
public import proofs.«01_k».proof.Proof.Gen.DwGateRefIdeal.Read

@[expose] public section

set_option maxRecDepth 16384

noncomputable section

namespace Cert.Ffn.DwGate

open Cert.DwGateIdeal Cert.DwGateIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![0, (grid0.coords t 0).val] ∧ win0_1.index t = ![(grid0.coords t 1).val, 0, 0] ∧ win0_2.index t = ![(grid0.coords t 1).val, (grid0.coords t 0).val, 0] :=
  (by decide +kernel : ∀ t : Fin grid0.N, win0_0.index t = ![0, (grid0.coords t 0).val] ∧ win0_1.index t = ![(grid0.coords t 1).val, 0, 0] ∧ win0_2.index t = ![(grid0.coords t 1).val, (grid0.coords t 0).val, 0]) t

theorem pay_at (x : Vec Ideal S2048x1024 .bf16) (y : Vec Ideal S1x2048x704 .bf16) (j : S1x1024x704.Idx) :
    k0_pay1 x y j = ∑ k : Fin 2048, x (ix2 (n0 := 2048) (n1 := 1024) k (j 1)) * y (ix3 (n0 := 1) (n1 := 2048) (n2 := 704) 0 k (j 2)) := by
  rw [k0_pay1]
  pointwise

theorem arr (c : Dev nD) : (dats m 0 c).arrAt 2 cfg0.N = gradBlocks (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DwGate

namespace Cert.Ffn.DwGate

open Cert.DwGateRefIdeal Cert.DwGateRefIdeal.Read Idealize.ShloMosaic

theorem ref (x : Vec Ideal S2048x2048 .bf16) (y : Vec Ideal S8x2048x704 .bf16) : val_main_v10 (F := Ideal) x y = gradBlocks x y := by
  funext i
  simp only [val_main_v10_apply, val_main_v9_apply, val_main_v8_apply, val_main_v7_apply, val_main_v6_apply, val_main_v5_apply,
    val_main_v4_apply, val_main_v3_apply, val_main_v1_apply]
  rw [gradBlocks]
  refine Finset.sum_congr rfl fun k _ => ?_
  simp only [Ideal.extf_def]
  rw [mul_comm]
  congr 1 <;> blk_ext

end Cert.Ffn.DwGate

end
-- ==== Proof.Ffn.DwUp.lean ====
/- The gradient of the up projection's weights, as the gate's is; the last argument orders the calls and is not read. -/
module

public import proofs.«01_k».proof.Proof.Ffn.Spec
public import proofs.«01_k».proof.Proof.Gen.DwUpIdeal.Value
public import proofs.«01_k».proof.Proof.Gen.DwUpRefIdeal.Read

@[expose] public section

set_option maxRecDepth 16384

noncomputable section

namespace Cert.Ffn.DwUp

open Cert.DwUpIdeal Cert.DwUpIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![0, (grid0.coords t 0).val] ∧ win0_1.index t = ![(grid0.coords t 1).val, 0, 0] ∧ win0_3.index t = ![(grid0.coords t 1).val, (grid0.coords t 0).val, 0] :=
  (by decide +kernel : ∀ t : Fin grid0.N, win0_0.index t = ![0, (grid0.coords t 0).val] ∧ win0_1.index t = ![(grid0.coords t 1).val, 0, 0] ∧ win0_3.index t = ![(grid0.coords t 1).val, (grid0.coords t 0).val, 0]) t

theorem pay_at (x : Vec Ideal S2048x1024 .bf16) (y : Vec Ideal S1x2048x704 .bf16) (j : S1x1024x704.Idx) :
    k0_pay1 x y j = ∑ k : Fin 2048, x (ix2 (n0 := 2048) (n1 := 1024) k (j 1)) * y (ix3 (n0 := 1) (n1 := 2048) (n2 := 704) 0 k (j 2)) := by
  rw [k0_pay1]
  pointwise

theorem arr (c : Dev nD) : (dats m 0 c).arrAt 3 cfg0.N = gradBlocks (m ((c : Thread nD τ).loc main_arg0)) (m ((c : Thread nD τ).loc main_arg1)) := by
  refine (dats m 0 c).arrAt_eq_of_covers 3 _ (by decide +kernel) fun t hf y => ?_
  blk_simp [place t]
  rw [after0_3]
  frame_out
  refine (pay_at _ _ _).trans (Finset.sum_congr (M := EReal) rfl fun k _ => ?_)
  congr 1 <;> blk_ext [iblk, V, place t]

end Cert.Ffn.DwUp

namespace Cert.Ffn.DwUp

open Cert.DwUpRefIdeal Cert.DwUpRefIdeal.Read Idealize.ShloMosaic

theorem ref (x : Vec Ideal S2048x2048 .bf16) (y : Vec Ideal S8x2048x704 .bf16) : val_main_v10 (F := Ideal) x y = gradBlocks x y := by
  funext i
  simp only [val_main_v10_apply, val_main_v9_apply, val_main_v8_apply, val_main_v7_apply, val_main_v6_apply, val_main_v5_apply,
    val_main_v4_apply, val_main_v3_apply, val_main_v1_apply]
  rw [gradBlocks]
  refine Finset.sum_congr rfl fun k _ => ?_
  simp only [Ideal.extf_def]
  rw [mul_comm]
  congr 1 <;> blk_ext

end Cert.Ffn.DwUp

end
-- ==== Proof.Ffn.Halves.lean ====
/- The two blocks of columns that an operand brings to a grid point. -/
module

public import proofs.«01_k».proof.Proof.Ffn.Spec

@[expose] public section

noncomputable section

namespace Cert.Ffn

open Idealize.ShloMosaic

abbrev Pair : Shape := ⟨3, ![2, 1024, 704]⟩
abbrev Single : Shape := ⟨3, ![1, 1024, 704]⟩

/-- One of the two blocks. -/
def half (b : Fin 2) (x : Vec Ideal Pair .bf16) : Vec Ideal Single .bf16 :=
  fun i => x (ix3 (n0 := 2) (n1 := 1024) (n2 := 704) b (i 1) (i 2))

theorem ld_half (b : Fin 2) (x : Vec Ideal Pair .bf16) (inb : ∀ a, (![b.val, 0, 0] : Fin 3 → ℕ) a + (![1, 1024, 704] : Fin 3 → ℕ) a ≤ Pair.size a) :
    View.ld x (Rect.unit ![b.val, 0, 0] ![1, 1024, 704] inb) = half b x := by
  funext i
  have h0 : (i 0).val < 1 := (i 0).isLt
  refine View.ld_unit_apply_of x _ _ _ i _ fun a => ?_
  fin_cases a
  · change b.val = b.val + (i 0).val
    omega
  all_goals exact (Nat.zero_add _).symm

theorem ld_lo (x : Vec Ideal Pair .bf16) (inb : ∀ a, (![0, 0, 0] : Fin 3 → ℕ) a + (![1, 1024, 704] : Fin 3 → ℕ) a ≤ Pair.size a) :
    View.ld x (Rect.unit ![0, 0, 0] ![1, 1024, 704] inb) = half 0 x := ld_half 0 x inb

theorem ld_hi (x : Vec Ideal Pair .bf16) (inb : ∀ a, (![1, 0, 0] : Fin 3 → ℕ) a + (![1, 1024, 704] : Fin 3 → ℕ) a ≤ Pair.size a) :
    View.ld x (Rect.unit ![1, 0, 0] ![1, 1024, 704] inb) = half 1 x := ld_half 1 x inb

end Cert.Ffn

end
-- ==== Proof.Ffn.DnGate.lean ====
/- The gradient that the gate passes to the norm: the product is accumulated over four grid points of two blocks of columns each. -/
module

public import proofs.«01_k».proof.Proof.Ffn.Halves
public import proofs.«01_k».proof.Proof.Gen.DnGateIdeal.Value
public import proofs.«01_k».proof.Proof.Gen.DnGateRefIdeal.Read
public import Idealize.ShloMosaic.Lib.Pipeline.ReadBack

@[expose] public section

set_option maxRecDepth 16384

noncomputable section

namespace Cert.Ffn.DnGate

open Cert.DnGateIdeal Cert.DnGateIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![t.val % 4, t.val / 8, 0] ∧ win0_1.index t = ![t.val % 4, t.val / 4 % 2, 0]
    ∧ win0_3.index t = ![t.val / 8, t.val / 4 % 2] :=
  (by decide +kernel : ∀ t : Fin grid0.N, win0_0.index t = ![t.val % 4, t.val / 8, 0] ∧ win0_1.index t = ![t.val % 4, t.val / 4 % 2, 0]
    ∧ win0_3.index t = ![t.val / 8, t.val / 4 % 2]) t

theorem pay_at (x w x' w' : Vec Ideal S1x1024x704 .bf16) (j : S1024x1024.Idx) :
    k0_pay1 x w x' w' j = (∑ k : Fin 704, x (ix3 (n0 := 1) (n1 := 1024) (n2 := 704) 0 (j 0) k) * w (ix3 (n0 := 1) (n1 := 1024) (n2 := 704) 0 (j 1) k) : EReal)
      + ∑ k : Fin 704, x' (ix3 (n0 := 1) (n1 := 1024) (n2 := 704) 0 (j 0) k) * w' (ix3 (n0 := 1) (n1 := 1024) (n2 := 704) 0 (j 1) k) := by
  rw [k0_pay1]
  pointwise

theorem first_at (x w x' w' : Vec Ideal S1x1024x704 .bf16) (j : S1024x1024.Idx) : k0_pay2 x w x' w' j = k0_pay1 x w x' w' j := by
  rw [k0_pay2]
  generalize k0_pay1 x w x' w' = p
  pointwise

theorem next_at (x w x' w' : Vec Ideal S1x1024x704 .bf16) (s : Vec Ideal S1024x1024 .f32) (j : S1024x1024.Idx) :
    k0_pay3 x w x' w' s j = (s j : EReal) + k0_pay1 x w x' w' j := by
  rw [k0_pay3]
  generalize k0_pay1 x w x' w' = p
  pointwise

/-- What a grid point adds to the accumulator. -/
abbrev part (c : Dev nD) (t : Fin cfg0.N) : FVec Ideal S1024x1024 .f32 :=
  k0_pay1 (half 0 (iblk m c 0 t)) (half 0 (iblk m c 1 t)) (half 1 (iblk m c 0 t)) (half 1 (iblk m c 1 t))

/-- A grid point's product is two blocks of columns of the whole. -/
theorem part_at (c : Dev nD) (t : Fin cfg0.N) (j : S1024x1024.Idx) : part m c t j
      = blockRows (m ((c : Thread nD τ).loc main_arg0)) (m ((c : Thread nD τ).loc main_arg1)) (t.val / 8 * 1024 + (j 0).val) (t.val / 4 % 2 * 1024 + (j 1).val) (t.val % 4 * 2)
        + blockRows (m ((c : Thread nD τ).loc main_arg0)) (m ((c : Thread nD τ).loc main_arg1)) (t.val / 8 * 1024 + (j 0).val) (t.val / 4 % 2 * 1024 + (j 1).val) (t.val % 4 * 2 + 1) := by
  refine (pay_at _ _ _ _ _).trans (congrArg₂ (fun a b : EReal => a + b) ?_ ?_)
  all_goals
    refine Finset.sum_congr (M := EReal) rfl fun k _ => congrArg₂ (fun a b : EReal => a * b) ?_ ?_
    all_goals
      rw [half]
      blk_simp [iblk, V, place t]
      refine (at3_eq _ _ ?_ ?_ ?_).symm <;> blk_simp [place t] <;> rfl

theorem sum_A (c : Dev nD) (t : Fin cfg0.N) (h0 : t.val % 4 = 0) (j : S1024x1024.Idx) :
    (outsAt0 m c t.val t.isLt).2 j = part m c t j := by
  rw [outsAt0_A m c t h0 (by omega) (by omega)]
  dsimp only
  frame_open
  frame_out
  rw [ld_lo, ld_lo, ld_hi, ld_hi]
  exact first_at _ _ _ _ _

theorem sum_BC (c : Dev nD) (t : Fin cfg0.N) (h0 : ¬t.val % 4 = 0) {hp : t.val - 1 < cfg0.N} (j : S1024x1024.Idx) :
    (outsAt0 m c t.val t.isLt).2 j = ((outsAt0 m c (t.val - 1) hp).2 j : EReal) + part m c t j := by
  by_cases h1 : t.val % 4 = 3
  on_goal 1 => rw [outsAt0_C m c t h0 (by omega) h1]
  on_goal 2 => rw [outsAt0_B m c t h0 (by omega) h1]
  all_goals dsimp only
  all_goals frame_open
  all_goals frame_out
  all_goals rw [read_unread_whole]
  all_goals rw [ld_lo, ld_lo, ld_hi, ld_hi]
  all_goals exact next_at _ _ _ _ _ _

theorem out_C (c : Dev nD) (t : Fin cfg0.N) (h1 : t.val % 4 = 3) :
    (outsAt0 m c t.val t.isLt).1 = (outsAt0 m c t.val t.isLt).2 := by
  rw [outsAt0_C m c t (by omega) (by omega) h1]
  dsimp only
  frame_open
  frame_out

/-- After each point the accumulator holds the product over the columns so far. -/
theorem sum_at (c : Dev nD) : ∀ (n : ℕ) (h : n < cfg0.N) (j : S1024x1024.Idx), (outsAt0 m c n h).2 j
    = joined (m ((c : Thread nD τ).loc main_arg0)) (m ((c : Thread nD τ).loc main_arg1)) (n / 8 * 1024 + (j 0).val) (n / 4 % 2 * 1024 + (j 1).val)
        ((n % 4 * 2 + 1 + 1) * 704) := by
  intro n
  induction n using Nat.strong_induction_on with
  | _ n ih =>
    intro h j
    rw [joined_add, joined_add, add_assoc, ← part_at m c ⟨n, h⟩ j]
    by_cases h0 : n % 4 = 0
    · rw [sum_A m c ⟨n, h⟩ h0, h0, Nat.zero_mul, joined, Finset.range_zero, Finset.sum_empty, zero_add]
    · have hp : n - 1 < cfg0.N := by omega
      rw [sum_BC m c ⟨n, h⟩ h0 (hp := hp), ih (n - 1) (by omega) hp j, show (n - 1) / 8 = n / 8 by omega,
        show (n - 1) / 4 % 2 = n / 4 % 2 by omega, show (n - 1) % 4 * 2 + 1 + 1 = n % 4 * 2 by omega]

theorem arr (c : Dev nD) : (dats m 0 c).arrAt 3 cfg0.N
    = backJoined (m ((c : Thread nD τ).loc main_arg0)) (m ((c : Thread nD τ).loc main_arg1)) := by
  refine (dats m 0 c).arrAt_eq_of_covers 3 _ (by decide +kernel) fun t hf y => ?_
  have h4 : t.val % 4 = 3 := (flush0_3 t).mp hf
  blk_simp [place t]
  rw [after0_3, out_C m c t h4]
  refine (sum_at m c _ _ _).trans ?_
  rw [h4, backJoined]
  blk_simp [place t]

end Cert.Ffn.DnGate

namespace Cert.Ffn.DnGate

open Cert.DnGateRefIdeal Cert.DnGateRefIdeal.Read Idealize.ShloMosaic

theorem ref (d w : Vec Ideal S8x2048x704 .bf16) : val_main_v8 (F := Ideal) d w = backJoined d w := by
  funext i
  rw [val_main_v8_apply, backJoined, joined, Finset.sum_range]
  refine Finset.sum_congr (M := EReal) rfl fun k _ => ?_
  simp only [val_main_v7_apply, val_main_v6_apply, val_main_v5_apply, val_main_v3_apply, val_main_v2_apply, val_main_v1_apply,
    Ideal.extf_def]
  refine congrArg₂ (fun a b : EReal => a * b) (at3_eq d _ ?_ ?_ ?_).symm (at3_eq w _ ?_ ?_ ?_).symm
  all_goals have := k.isLt
  · change ((i 0).val * 5632 + k.val) / 704 % 8 = _
    omega
  · change ((i 0).val * 5632 + k.val) / 5632 = _
    omega
  · change ((i 0).val * 5632 + k.val) % 704 = _
    omega
  · change ((i 1).val * 5632 + k.val) / 704 % 8 = _
    omega
  · change ((i 1).val * 5632 + k.val) / 5632 = _
    omega
  · change ((i 1).val * 5632 + k.val) % 704 = _
    omega

end Cert.Ffn.DnGate

end
-- ==== Proof.Ffn.DnUp.lean ====
/- The gradient that the up projection passes to the norm, added to the gate's: the product is accumulated over four grid points of
   two blocks of columns each. -/
module

public import proofs.«01_k».proof.Proof.Ffn.Halves
public import proofs.«01_k».proof.Proof.Gen.DnUpIdeal.Value
public import proofs.«01_k».proof.Proof.Gen.DnUpRefIdeal.Read
public import Idealize.ShloMosaic.Lib.Pipeline.ReadBack

@[expose] public section

set_option maxRecDepth 16384

noncomputable section

namespace Cert.Ffn.DnUp

open Cert.DnUpIdeal Cert.DnUpIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![t.val % 4, t.val / 8, 0] ∧ win0_1.index t = ![t.val % 4, t.val / 4 % 2, 0]
    ∧ win0_2.index t = ![t.val / 8, t.val / 4 % 2] ∧ win0_4.index t = ![t.val / 8, t.val / 4 % 2] :=
  (by decide +kernel : ∀ t : Fin grid0.N, win0_0.index t = ![t.val % 4, t.val / 8, 0] ∧ win0_1.index t = ![t.val % 4, t.val / 4 % 2, 0]
    ∧ win0_2.index t = ![t.val / 8, t.val / 4 % 2] ∧ win0_4.index t = ![t.val / 8, t.val / 4 % 2]) t

theorem pay_at (x w x' w' : Vec Ideal S1x1024x704 .bf16) (j : S1024x1024.Idx) :
    k0_pay1 x w x' w' j = (∑ k : Fin 704, x (ix3 (n0 := 1) (n1 := 1024) (n2 := 704) 0 (j 0) k) * w (ix3 (n0 := 1) (n1 := 1024) (n2 := 704) 0 (j 1) k) : EReal)
      + ∑ k : Fin 704, x' (ix3 (n0 := 1) (n1 := 1024) (n2 := 704) 0 (j 0) k) * w' (ix3 (n0 := 1) (n1 := 1024) (n2 := 704) 0 (j 1) k) := by
  rw [k0_pay1]
  pointwise

theorem first_at (x w x' w' : Vec Ideal S1x1024x704 .bf16) (s : Vec Ideal S1024x1024 .f32) (j : S1024x1024.Idx) :
    k0_pay2 x w x' w' s j = (k0_pay1 x w x' w' j : EReal) + s j := by
  rw [k0_pay2]
  generalize k0_pay1 x w x' w' = p
  pointwise

theorem next_at (x w x' w' : Vec Ideal S1x1024x704 .bf16) (s : Vec Ideal S1024x1024 .f32) (j : S1024x1024.Idx) :
    k0_pay3 x w x' w' s j = (s j : EReal) + k0_pay1 x w x' w' j := by
  rw [k0_pay3]
  generalize k0_pay1 x w x' w' = p
  pointwise

/-- What a grid point adds to the accumulator. -/
abbrev part (c : Dev nD) (t : Fin cfg0.N) : FVec Ideal S1024x1024 .f32 :=
  k0_pay1 (half 0 (iblk m c 0 t)) (half 0 (iblk m c 1 t)) (half 1 (iblk m c 0 t)) (half 1 (iblk m c 1 t))

/-- A grid point's product is two blocks of columns of the whole. -/
theorem part_at (c : Dev nD) (t : Fin cfg0.N) (j : S1024x1024.Idx) : part m c t j
      = blockRows (m ((c : Thread nD τ).loc main_arg0)) (m ((c : Thread nD τ).loc main_arg1)) (t.val / 8 * 1024 + (j 0).val) (t.val / 4 % 2 * 1024 + (j 1).val) (t.val % 4 * 2)
        + blockRows (m ((c : Thread nD τ).loc main_arg0)) (m ((c : Thread nD τ).loc main_arg1)) (t.val / 8 * 1024 + (j 0).val) (t.val / 4 % 2 * 1024 + (j 1).val) (t.val % 4 * 2 + 1) := by
  refine (pay_at _ _ _ _ _).trans (congrArg₂ (fun a b : EReal => a + b) ?_ ?_)
  all_goals
    refine Finset.sum_congr (M := EReal) rfl fun k _ => congrArg₂ (fun a b : EReal => a * b) ?_ ?_
    all_goals
      rw [half]
      blk_simp [iblk, V, place t]
      refine (at3_eq _ _ ?_ ?_ ?_).symm <;> blk_simp [place t] <;> rfl

theorem sum_A (c : Dev nD) (t : Fin cfg0.N) (h0 : t.val % 4 = 0) (j : S1024x1024.Idx) :
    (outsAt0 m c t.val t.isLt).2 j = (part m c t j : EReal) + iblk m c 2 t j := by
  rw [outsAt0_A m c t h0 (by omega) (by omega)]
  dsimp only
  frame_open
  frame_out
  rw [ld_lo, ld_lo, ld_hi, ld_hi]
  exact first_at _ _ _ _ _ _

theorem sum_BC (c : Dev nD) (t : Fin cfg0.N) (h0 : ¬t.val % 4 = 0) {hp : t.val - 1 < cfg0.N} (j : S1024x1024.Idx) :
    (outsAt0 m c t.val t.isLt).2 j = ((outsAt0 m c (t.val - 1) hp).2 j : EReal) + part m c t j := by
  by_cases h1 : t.val % 4 = 3
  on_goal 1 => rw [outsAt0_C m c t h0 (by omega) h1]
  on_goal 2 => rw [outsAt0_B m c t h0 (by omega) h1]
  all_goals dsimp only
  all_goals frame_open
  all_goals frame_out
  all_goals rw [read_unread_whole]
  all_goals rw [ld_lo, ld_lo, ld_hi, ld_hi]
  all_goals exact next_at _ _ _ _ _ _

theorem out_C (c : Dev nD) (t : Fin cfg0.N) (h1 : t.val % 4 = 3) :
    (outsAt0 m c t.val t.isLt).1 = (outsAt0 m c t.val t.isLt).2 := by
  rw [outsAt0_C m c t (by omega) (by omega) h1]
  dsimp only
  frame_open
  frame_out

theorem acc_block (c : Dev nD) (t : Fin cfg0.N) (j : S1024x1024.Idx) : iblk m c 2 t j
    = at2 (m ((c : Thread nD τ).loc main_arg2)) (t.val / 8 * 1024 + (j 0).val) (t.val / 4 % 2 * 1024 + (j 1).val) := by
  blk_simp [iblk, V, place t]
  refine (at2_eq _ _ ?_ ?_).symm <;> blk_simp [place t]

/-- After each point the accumulator holds the block of `dn2` added to the product over the columns so far. -/
theorem sum_at (c : Dev nD) : ∀ (n : ℕ) (h : n < cfg0.N) (j : S1024x1024.Idx), (outsAt0 m c n h).2 j
    = (at2 (m ((c : Thread nD τ).loc main_arg2)) (n / 8 * 1024 + (j 0).val) (n / 4 % 2 * 1024 + (j 1).val) : EReal)
      + joined (m ((c : Thread nD τ).loc main_arg0)) (m ((c : Thread nD τ).loc main_arg1)) (n / 8 * 1024 + (j 0).val) (n / 4 % 2 * 1024 + (j 1).val)
          ((n % 4 * 2 + 1 + 1) * 704) := by
  intro n
  induction n using Nat.strong_induction_on with
  | _ n ih =>
    intro h j
    rw [joined_add, joined_add, add_assoc, ← part_at m c ⟨n, h⟩ j]
    by_cases h0 : n % 4 = 0
    · rw [sum_A m c ⟨n, h⟩ h0, acc_block m c ⟨n, h⟩, h0, Nat.zero_mul, joined, Finset.range_zero, Finset.sum_empty,
        zero_add]
      exact add_comm (G := EReal) _ _
    · have hp : n - 1 < cfg0.N := by omega
      rw [sum_BC m c ⟨n, h⟩ h0 (hp := hp), ih (n - 1) (by omega) hp j, show (n - 1) / 8 = n / 8 by omega,
        show (n - 1) / 4 % 2 = n / 4 % 2 by omega, show (n - 1) % 4 * 2 + 1 + 1 = n % 4 * 2 by omega, add_assoc]

theorem arr (c : Dev nD) : (dats m 0 c).arrAt 4 cfg0.N
    = addJoined (m ((c : Thread nD τ).loc main_arg2)) (m ((c : Thread nD τ).loc main_arg0)) (m ((c : Thread nD τ).loc main_arg1)) := by
  refine (dats m 0 c).arrAt_eq_of_covers 4 _ (by decide +kernel) fun t hf y => ?_
  have h4 : t.val % 4 = 3 := (flush0_4 t).mp hf
  blk_simp [place t]
  rw [after0_4, out_C m c t h4]
  refine (sum_at m c _ _ _).trans ?_
  rw [h4, addJoined, backJoined]
  refine congrArg₂ (fun a b : EReal => a + b) (at2_eq _ _ ?_ ?_) ?_
  all_goals blk_simp [place t]

end Cert.Ffn.DnUp

namespace Cert.Ffn.DnUp

open Cert.DnUpRefIdeal Cert.DnUpRefIdeal.Read Idealize.ShloMosaic

theorem ref (d w : Vec Ideal S8x2048x704 .bf16) (x : Vec Ideal S2048x2048 .f32) :
    val_main_v9 (F := Ideal) d w x = addJoined x d w := by
  funext i
  rw [val_main_v9_apply, val_main_v8_apply, addJoined, backJoined, joined, Finset.sum_range]
  refine congrArg (fun a : EReal => x i + a) (Finset.sum_congr (M := EReal) rfl fun k _ => ?_)
  simp only [val_main_v7_apply, val_main_v6_apply, val_main_v5_apply, val_main_v3_apply, val_main_v2_apply, val_main_v1_apply,
    Ideal.extf_def]
  refine congrArg₂ (fun a b : EReal => a * b) (at3_eq d _ ?_ ?_ ?_).symm (at3_eq w _ ?_ ?_ ?_).symm
  all_goals have := k.isLt
  · change ((i 0).val * 5632 + k.val) / 704 % 8 = _
    omega
  · change ((i 0).val * 5632 + k.val) / 5632 = _
    omega
  · change ((i 0).val * 5632 + k.val) % 704 = _
    omega
  · change ((i 1).val * 5632 + k.val) / 704 % 8 = _
    omega
  · change ((i 1).val * 5632 + k.val) / 5632 = _
    omega
  · change ((i 1).val * 5632 + k.val) % 704 = _
    omega

end Cert.Ffn.DnUp

end
-- ==== Proof.Ffn.GateUp.lean ====
/- The forward call of the unit: the gate's product, the up projection's product and the hidden layer made of them. -/
module

public import proofs.«01_k».proof.Proof.Ffn.Spec
public import Idealize.ShloMosaic.Lib.IdealHost
public import proofs.«01_k».proof.Proof.Gen.GateUpIdeal.Value
public import proofs.«01_k».proof.Proof.Gen.GateUpRefIdeal.Read

@[expose] public section

set_option maxRecDepth 16384

noncomputable section

namespace Cert.Ffn.GateUp

open Cert.GateUpIdeal Cert.GateUpIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![(grid0.coords t 1).val, 0, 0] ∧ win0_2.index t = ![(grid0.coords t 1).val, 0, 0] ∧ win0_4.index t = ![(grid0.coords t 1).val, (grid0.coords t 0).val, 0] ∧ win0_5.index t = ![(grid0.coords t 1).val, (grid0.coords t 0).val, 0] ∧ win0_6.index t = ![(grid0.coords t 1).val, (grid0.coords t 0).val, 0] :=
  (by decide +kernel : ∀ t : Fin grid0.N, win0_0.index t = ![(grid0.coords t 0).val, 0] ∧ win0_1.index t = ![(grid0.coords t 1).val, 0, 0] ∧ win0_2.index t = ![(grid0.coords t 1).val, 0, 0] ∧ win0_4.index t = ![(grid0.coords t 1).val, (grid0.coords t 0).val, 0] ∧ win0_5.index t = ![(grid0.coords t 1).val, (grid0.coords t 0).val, 0] ∧ win0_6.index t = ![(grid0.coords t 1).val, (grid0.coords t 0).val, 0]) t

theorem prod_at (x : Vec Ideal S1024x2048 .bf16) (w : Vec Ideal S1x2048x704 .bf16) (j : S1024x704.Idx) :
    k0_pay1 x w j = ∑ k : Fin 2048, x (ix2 (n0 := 1024) (n1 := 2048) (j 0) k) * w (ix3 (n0 := 1) (n1 := 2048) (n2 := 704) 0 k (j 1)) := by
  rw [k0_pay1]
  pointwise

theorem gate_at (x : Vec Ideal S1024x2048 .bf16) (w : Vec Ideal S1x2048x704 .bf16) (j : S1x1024x704.Idx) :
    k0_pay3 x w j = k0_pay1 x w (ix2 (n0 := 1024) (n1 := 704) (j 1) (j 2)) := by
  rw [k0_pay3]
  generalize k0_pay1 x w = p
  pointwise

theorem up_at (x : Vec Ideal S1024x2048 .bf16) (w : Vec Ideal S1x2048x704 .bf16) (j : S1x1024x704.Idx) :
    k0_pay4 x w j = k0_pay1 x w (ix2 (n0 := 1024) (n1 := 704) (j 1) (j 2)) := gate_at x w j

theorem hidden_at (x : Vec Ideal S1024x2048 .bf16) (wg wu : Vec Ideal S1x2048x704 .bf16) (j : S1x1024x704.Idx) :
    k0_pay5 x wg x wu j = (k0_pay1 x wg (ix2 (n0 := 1024) (n1 := 704) (j 1) (j 2)) : EReal)
      * Ideal.logistic (k0_pay1 x wg (ix2 (n0 := 1024) (n1 := 704) (j 1) (j 2))) * k0_pay1 x wu (ix2 (n0 := 1024) (n1 := 704) (j 1) (j 2)) := by
  rw [k0_pay5, show k0_pay2 x wu = k0_pay1 x wu from rfl]
  generalize k0_pay1 x wg = p
  generalize k0_pay1 x wu = q
  pointwise

/-- A point's product of its row block with its block of columns of the gate's weights is the whole product there. -/
theorem gate_block (c : Dev nD) (t : Fin cfg0.N) (j : S1x1024x704.Idx) (i : S8x2048x704.Idx)
    (hi : (i 0).val = (grid0.coords t 1).val ∧ (i 1).val = (grid0.coords t 0).val * 1024 + (j 1).val ∧ (i 2).val = (j 2).val) :
    k0_pay1 (iblk m c 0 t) (iblk m c 1 t) (ix2 (n0 := 1024) (n1 := 704) (j 1) (j 2))
      = timesBlocks (m ((c : Thread nD τ).loc main_arg0)) (m ((c : Thread nD τ).loc main_arg1)) i := by
  obtain ⟨h0, h1, h2⟩ := hi
  refine (prod_at _ _ _).trans (Finset.sum_congr (M := EReal) rfl fun k _ => ?_)
  congr 1 <;> blk_ext [iblk, V, place t]

theorem up_block (c : Dev nD) (t : Fin cfg0.N) (j : S1x1024x704.Idx) (i : S8x2048x704.Idx)
    (hi : (i 0).val = (grid0.coords t 1).val ∧ (i 1).val = (grid0.coords t 0).val * 1024 + (j 1).val ∧ (i 2).val = (j 2).val) :
    k0_pay1 (iblk m c 0 t) (iblk m c 2 t) (ix2 (n0 := 1024) (n1 := 704) (j 1) (j 2))
      = timesBlocks (m ((c : Thread nD τ).loc main_arg0)) (m ((c : Thread nD τ).loc main_arg2)) i := by
  obtain ⟨h0, h1, h2⟩ := hi
  refine (prod_at _ _ _).trans (Finset.sum_congr (M := EReal) rfl fun k _ => ?_)
  congr 1 <;> blk_ext [iblk, V, place t]

theorem arr4 (c : Dev nD) : (dats m 0 c).arrAt 4 cfg0.N = timesBlocks (m ((c : Thread nD τ).loc main_arg0)) (m ((c : Thread nD τ).loc main_arg1)) := by
  refine (dats m 0 c).arrAt_eq_of_covers 4 _ (by decide +kernel) fun t hf y => ?_
  blk_simp [place t]
  rw [after0_4]
  frame_out
  refine (gate_at _ _ _).trans (gate_block m c t y _ ?_)
  blk_simp [place t]
  exact ⟨trivial, trivial, trivial⟩

theorem arr5 (c : Dev nD) : (dats m 0 c).arrAt 5 cfg0.N = timesBlocks (m ((c : Thread nD τ).loc main_arg0)) (m ((c : Thread nD τ).loc main_arg2)) := by
  refine (dats m 0 c).arrAt_eq_of_covers 5 _ (by decide +kernel) fun t hf y => ?_
  blk_simp [place t]
  rw [after0_5]
  frame_out
  refine (up_at _ _ _).trans (up_block m c t y _ ?_)
  blk_simp [place t]
  exact ⟨trivial, trivial, trivial⟩

theorem arr6 (c : Dev nD) : (dats m 0 c).arrAt 6 cfg0.N
    = hidden (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp [place t]
  rw [after0_6]
  frame_out
  refine (hidden_at _ _ _ _).trans ?_
  rw [gate_block m c t y (((View.whole main_v0_2).slice (win0_6.rect t)).emb y) ?_, up_block m c t y (((View.whole main_v0_2).slice (win0_6.rect t)).emb y) ?_]
  · rfl
  all_goals
    blk_simp [place t]
    exact ⟨trivial, trivial, trivial⟩

end Cert.Ffn.GateUp

namespace Cert.Ffn.GateUp

open Cert.GateUpRefIdeal Cert.GateUpRefIdeal.Read Idealize.ShloMosaic

theorem ref_gate (x : Vec Ideal S2048x2048 .bf16) (w : Vec Ideal S8x2048x704 .bf16) : val_main_v13 (F := Ideal) x w = timesBlocks x w := by
  funext i
  simp only [val_main_v13_apply, val_main_v12_apply, val_main_v11_apply, val_main_v4_apply, val_main_v3_apply, val_main_v2_apply,
    val_main_v1_apply, val_main_v0_apply]
  rw [timesBlocks]
  refine Finset.sum_congr rfl fun k _ => ?_
  simp only [Ideal.extf_def]
  congr 1 <;> blk_ext

theorem ref_up (x : Vec Ideal S2048x2048 .bf16) (w : Vec Ideal S8x2048x704 .bf16) : val_main_v16 (F := Ideal) x w = timesBlocks x w :=
  ref_gate x w

theorem ref_hidden (x : Vec Ideal S2048x2048 .bf16) (wg wu : Vec Ideal S8x2048x704 .bf16) : val_main_v19 (F := Ideal) x wg wu = hidden x wg wu := by
  funext i
  rw [hidden, ← ref_gate x wg, ← ref_up x wu]
  simp only [val_main_v13_apply, val_main_v12_apply, val_main_v11_apply, val_main_v16_apply, val_main_v15_apply, val_main_v14_apply,
    val_main_v19_apply, val_main_v18_apply, val_main_v17_apply, val_main_v10_apply, val_main_v9_apply, val_main_call0_v5_apply,
    val_main_call0_v4_apply, val_main_call0_v3_apply, val_main_call0_v2_apply, val_main_call0_v1_apply, val_main_call0_v0_apply,
    val_main_call0_cst_apply, val_main_call0_cst_0_apply]
  rw [Ideal.ofBits_def, Ideal.ofBits_one_f32]
  rfl

end Cert.Ffn.GateUp

end
-- ==== Proof.Ffn.DwIn.lean ====
/- The gradient of the input projection's weights. -/
module

public import proofs.«01_k».proof.Proof.Ffn.Spec
public import proofs.«01_k».proof.Proof.Gen.DwInIdeal.Value
public import proofs.«01_k».proof.Proof.Gen.DwInRefIdeal.Read

@[expose] public section

set_option maxRecDepth 16384

noncomputable section

namespace Cert.Ffn.DwIn

open Cert.DwInIdeal Cert.DwInIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![0, (grid0.coords t 0).val] ∧ win0_1.index t = ![0, (grid0.coords t 1).val] ∧ win0_2.index t = ![(grid0.coords t 0).val, (grid0.coords t 1).val] :=
  (by decide +kernel : ∀ t : Fin grid0.N, win0_0.index t = ![0, (grid0.coords t 0).val] ∧ win0_1.index t = ![0, (grid0.coords t 1).val] ∧ win0_2.index t = ![(grid0.coords t 0).val, (grid0.coords t 1).val]) t

theorem pay_at (x : Vec Ideal S2048x1024 .bf16) (y : Vec Ideal S2048x1024 .bf16) (j : S1024x1024.Idx) :
    k0_pay1 x y j = ∑ k : Fin 2048, x (ix2 (n0 := 2048) (n1 := 1024) k (j 0)) * y (ix2 (n0 := 2048) (n1 := 1024) k (j 1)) := by
  rw [k0_pay1]
  pointwise

theorem arr (c : Dev nD) : (dats m 0 c).arrAt 2 cfg0.N = gradWide (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DwIn

namespace Cert.Ffn.DwIn

open Cert.DwInRefIdeal Cert.DwInRefIdeal.Read Idealize.ShloMosaic

theorem ref (x : Vec Ideal S2048x2048 .bf16) (y : Vec Ideal S2048x10240 .bf16) : val_main_v6 (F := Ideal) x y = gradWide x y := by
  funext i
  simp only [val_main_v6_apply, val_main_v5_apply, val_main_v4_apply, val_main_v3_apply, val_main_v1_apply]
  rw [gradWide]
  refine Finset.sum_congr rfl fun k _ => ?_
  simp only [Ideal.extf_def]
  rw [mul_comm]
  congr 1 <;> blk_ext

end Cert.Ffn.DwIn

end
-- ==== Proof.Ffn.Dn1.lean ====
/- The gradient that the input projection passes to the norm: the product is accumulated over five grid points. -/
module

public import proofs.«01_k».proof.Proof.Ffn.Spec
public import proofs.«01_k».proof.Proof.Gen.Dn1Ideal.Value
public import proofs.«01_k».proof.Proof.Gen.Dn1RefIdeal.Read
public import Idealize.ShloMosaic.Lib.Pipeline.ReadBack

@[expose] public section

set_option maxRecDepth 16384

noncomputable section

namespace Cert.Ffn.Dn1

open Cert.Dn1Ideal Cert.Dn1Ideal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![t.val / 10, t.val % 5] ∧ win0_1.index t = ![t.val / 5 % 2, t.val % 5] ∧ win0_3.index t = ![t.val / 10, t.val / 5 % 2] :=
  (by decide +kernel : ∀ t : Fin grid0.N, win0_0.index t = ![t.val / 10, t.val % 5] ∧ win0_1.index t = ![t.val / 5 % 2, t.val % 5] ∧ win0_3.index t = ![t.val / 10, t.val / 5 % 2]) t

theorem pay_at (x w : Vec Ideal S1024x2048 .bf16) (j : S1024x1024.Idx) :
    k0_pay1 x w j = ∑ k : Fin 2048, x (ix2 (n0 := 1024) (n1 := 2048) (j 0) k) * w (ix2 (n0 := 1024) (n1 := 2048) (j 1) k) := by
  rw [k0_pay1]
  pointwise

theorem first_at (x w : Vec Ideal S1024x2048 .bf16) (j : S1024x1024.Idx) : k0_pay2 x w j = k0_pay1 x w j := by
  rw [k0_pay2]
  generalize k0_pay1 x w = p
  pointwise

theorem next_at (x w : Vec Ideal S1024x2048 .bf16) (s : Vec Ideal S1024x1024 .f32) (j : S1024x1024.Idx) :
    k0_pay3 x w s j = (s j : EReal) + k0_pay1 x w j := by
  rw [k0_pay3]
  generalize k0_pay1 x w = p
  pointwise

/-- A grid point's product is one block of columns of the whole. -/
theorem pay_block (c : Dev nD) (t : Fin cfg0.N) (j : S1024x1024.Idx) :
    k0_pay1 (iblk m c 0 t) (iblk m c 1 t) j
      = ∑ k : Fin 2048, at2 (m ((c : Thread nD τ).loc main_arg0)) (t.val / 10 * 1024 + (j 0).val) (t.val % 5 * 2048 + k)
          * at2 (m ((c : Thread nD τ).loc main_arg1)) (t.val / 5 % 2 * 1024 + (j 1).val) (t.val % 5 * 2048 + k) := by
  refine (pay_at _ _ _).trans (Finset.sum_congr (M := EReal) rfl fun k _ => ?_)
  refine congrArg₂ (fun a b : EReal => a * b) ?_ ?_
  all_goals
    blk_simp [iblk, V, place t]
    refine (at2_eq _ _ ?_ ?_).symm <;> blk_simp [place t]

theorem sum_A (c : Dev nD) (t : Fin cfg0.N) (h0 : t.val % 5 = 0) :
    (outsAt0 m c t.val t.isLt).2 = k0_pay2 (iblk m c 0 t) (iblk m c 1 t) := by
  rw [outsAt0_A m c t h0 (by omega) (by omega)]
  dsimp only
  frame_open
  frame_out

theorem sum_BC (c : Dev nD) (t : Fin cfg0.N) (h0 : ¬t.val % 5 = 0) {hp : t.val - 1 < cfg0.N} :
    (outsAt0 m c t.val t.isLt).2 = k0_pay3 (iblk m c 0 t) (iblk m c 1 t) (outsAt0 m c (t.val - 1) hp).2 := by
  by_cases h1 : t.val % 5 = 4
  on_goal 1 => rw [outsAt0_C m c t h0 (by omega) h1]
  on_goal 2 => rw [outsAt0_B m c t h0 (by omega) h1]
  all_goals dsimp only
  all_goals frame_open
  all_goals frame_out
  all_goals rw [read_unread_whole]

theorem out_C (c : Dev nD) (t : Fin cfg0.N) (h1 : t.val % 5 = 4) :
    (outsAt0 m c t.val t.isLt).1 = (outsAt0 m c t.val t.isLt).2 := by
  rw [outsAt0_C m c t (by omega) (by omega) h1]
  dsimp only
  frame_open
  frame_out

/-- After each point the accumulator holds the product over the columns so far. -/
theorem sum_at (c : Dev nD) : ∀ (n : ℕ) (h : n < cfg0.N) (j : S1024x1024.Idx), (outsAt0 m c n h).2 j
    = rows (m ((c : Thread nD τ).loc main_arg0)) (m ((c : Thread nD τ).loc main_arg1)) (n / 10 * 1024 + (j 0).val) (n / 5 % 2 * 1024 + (j 1).val)
        ((n % 5 + 1) * 2048) := by
  intro n
  induction n using Nat.strong_induction_on with
  | _ n ih =>
    intro h j
    rw [Nat.add_one_mul, rows_add, ← pay_block m c ⟨n, h⟩ j]
    by_cases h0 : n % 5 = 0
    · rw [sum_A m c ⟨n, h⟩ h0, first_at, h0, rows]
      simp
    · have hp : n - 1 < cfg0.N := by omega
      rw [sum_BC m c ⟨n, h⟩ h0 (hp := hp), next_at, ih (n - 1) (by omega) hp j, show (n - 1) / 10 = n / 10 by omega,
        show (n - 1) / 5 % 2 = n / 5 % 2 by omega, show (n - 1) % 5 + 1 = n % 5 by omega]

theorem arr (c : Dev nD) : (dats m 0 c).arrAt 3 cfg0.N = backWide (m ((c : Thread nD τ).loc main_arg0)) (m ((c : Thread nD τ).loc main_arg1)) := by
  refine (dats m 0 c).arrAt_eq_of_covers 3 _ (by decide +kernel) fun t hf y => ?_
  have h4 : t.val % 5 = 4 := (flush0_3 t).mp hf
  blk_simp [place t]
  rw [after0_3, out_C m c t h4]
  refine (sum_at m c _ _ _).trans ?_
  rw [h4, backWide]
  blk_simp [place t]

end Cert.Ffn.Dn1

namespace Cert.Ffn.Dn1

open Cert.Dn1RefIdeal Cert.Dn1RefIdeal.Read Idealize.ShloMosaic

theorem ref (d w : Vec Ideal S2048x10240 .bf16) : val_main_v4 (F := Ideal) d w = backWide d w := by
  funext i
  rw [val_main_v4_apply, backWide, rows, Finset.sum_range]
  refine Finset.sum_congr (M := EReal) rfl fun k _ => ?_
  rw [val_main_v3_apply, val_main_v1_apply, at2_eq d (lidx_main_v4 i k) rfl rfl, at2_eq w (ridx_main_v4 i k) rfl rfl]
  rfl

end Cert.Ffn.Dn1

end
-- ==== Proof.Ffn.Claims.lean ====
/- The claims of the SwiGLU unit's and the input projection's calls: the references' frames and the equality of the results. -/
module

public import proofs.«01_k».proof.Defs
public import proofs.«01_k».proof.Proof.Sgu.Finite
public import proofs.«01_k».proof.Proof.Gen.Pre_finite_act
public import proofs.«01_k».proof.Proof.Ffn.Act
public import proofs.«01_k».proof.Proof.Gen.ActRefIdeal.Run
public import proofs.«01_k».proof.Proof.Ffn.DwDown
public import proofs.«01_k».proof.Proof.Gen.DwDownRefIdeal.Run
public import proofs.«01_k».proof.Proof.Ffn.DwGate
public import proofs.«01_k».proof.Proof.Gen.DwGateRefIdeal.Run
public import proofs.«01_k».proof.Proof.Ffn.DwUp
public import proofs.«01_k».proof.Proof.Gen.DwUpRefIdeal.Run
public import proofs.«01_k».proof.Proof.Ffn.DnGate
public import proofs.«01_k».proof.Proof.Gen.DnGateRefIdeal.Run
public import proofs.«01_k».proof.Proof.Ffn.DnUp
public import proofs.«01_k».proof.Proof.Gen.DnUpRefIdeal.Run
public import proofs.«01_k».proof.Proof.Ffn.GateUp
public import proofs.«01_k».proof.Proof.Gen.GateUpRefIdeal.Run
public import proofs.«01_k».proof.Proof.Ffn.DwIn
public import proofs.«01_k».proof.Proof.Gen.DwInRefIdeal.Run
public import proofs.«01_k».proof.Proof.Ffn.Dn1
public import proofs.«01_k».proof.Proof.Gen.Dn1RefIdeal.Run
public import Idealize.ShloMosaic.Lib.Claim
public import Idealize.ShloMosaic.Lib.Quiescent
public import Idealize.ShloMosaic.Adequacy
public import Idealize.ShloMosaic.Init

@[expose] public section

noncomputable section

namespace Cert.Ffn

open Idealize.ShloMosaic Idealize.SL.Sem

/-! The references run, their arguments end unchanged, and every semaphore counter ends at zero. -/

theorem Act.frame_ref : quiescent_ActRefIdeal (hActRefIdeal := Cert.ActRefIdeal.Gen.facts) := fun m g _ => by
  hlo_run
  exacts [fun _ => ⟨trivial, trivial, trivial, trivial⟩, sem_eq_zero_of_no_sems (sig := Cert.ActRefIdeal.sig) (by decide) _]

theorem DwDown.frame_ref : quiescent_DwDownRefIdeal (hDwDownRefIdeal := Cert.DwDownRefIdeal.Gen.facts) := fun m g _ => by
  hlo_run
  exacts [fun _ => ⟨trivial, trivial⟩, sem_eq_zero_of_no_sems (sig := Cert.DwDownRefIdeal.sig) (by decide) _]

theorem DwGate.frame_ref : quiescent_DwGateRefIdeal (hDwGateRefIdeal := Cert.DwGateRefIdeal.Gen.facts) := fun m g _ => by
  hlo_run
  exacts [fun _ => ⟨trivial, trivial⟩, sem_eq_zero_of_no_sems (sig := Cert.DwGateRefIdeal.sig) (by decide) _]

theorem DwUp.frame_ref : quiescent_DwUpRefIdeal (hDwUpRefIdeal := Cert.DwUpRefIdeal.Gen.facts) := fun m g _ => by
  hlo_run
  exacts [fun _ => ⟨trivial, trivial, trivial⟩, sem_eq_zero_of_no_sems (sig := Cert.DwUpRefIdeal.sig) (by decide) _]

theorem DnGate.frame_ref : quiescent_DnGateRefIdeal (hDnGateRefIdeal := Cert.DnGateRefIdeal.Gen.facts) := fun m g _ => by
  hlo_run
  exacts [fun _ => ⟨trivial, trivial, trivial⟩, sem_eq_zero_of_no_sems (sig := Cert.DnGateRefIdeal.sig) (by decide) _]

theorem DnUp.frame_ref : quiescent_DnUpRefIdeal (hDnUpRefIdeal := Cert.DnUpRefIdeal.Gen.facts) := fun m g _ => by
  hlo_run
  exacts [fun _ => ⟨trivial, trivial, trivial, trivial⟩, sem_eq_zero_of_no_sems (sig := Cert.DnUpRefIdeal.sig) (by decide) _]

theorem GateUp.frame_ref : quiescent_GateUpRefIdeal (hGateUpRefIdeal := Cert.GateUpRefIdeal.Gen.facts) := fun m g _ => by
  hlo_run
  exacts [fun _ => ⟨trivial, trivial, trivial, trivial⟩, sem_eq_zero_of_no_sems (sig := Cert.GateUpRefIdeal.sig) (by decide) _]

theorem DwIn.frame_ref : quiescent_DwInRefIdeal (hDwInRefIdeal := Cert.DwInRefIdeal.Gen.facts) := fun m g _ => by
  hlo_run
  exacts [fun _ => ⟨trivial, trivial⟩, sem_eq_zero_of_no_sems (sig := Cert.DwInRefIdeal.sig) (by decide) _]

theorem Dn1.frame_ref : quiescent_Dn1RefIdeal (hDn1RefIdeal := Cert.Dn1RefIdeal.Gen.facts) := fun m g _ => by
  hlo_run
  exacts [fun _ => ⟨trivial, trivial, trivial⟩, sem_eq_zero_of_no_sems (sig := Cert.Dn1RefIdeal.sig) (by decide) _]

/-! The kernels' results are the references'. -/

/-- The two gradients that reach the gate and the up projection. -/
theorem Act.values : algebraic_ActIdeal_ActRefIdeal_pre_finite_act (hActIdeal := Cert.ActIdeal.Gen.facts)
    (hActRefIdeal := Cert.ActRefIdeal.Gen.facts) (hPre_finite_act := Cert.Pre_finite_act.Gen.facts) := by
  intro m g m' g' hpre hagree
  refine ⟨_, _, Cert.ActIdeal.Value.run_blocks m g, (θ_run _ _ _).mono (fun r h c => ?_) (Cert.ActRefIdeal.Value.run m' g')⟩
  obtain ⟨a0, a1, a2, a3⟩ := hagree c
  obtain ⟨h0, h1, h2⟩ := hpre c
  obtain ⟨r0, r1, k⟩ := h c
  refine ⟨r0.trans ?_, r1.trans ?_, k⟩
  · rw [Cert.ActRefIdeal.Read.val_main_v17_eq, a0, a1, a2, a3]
    exact (Act.ref_gate _ _ _ _ (Sgu.fin1_of_lt _ _ h0) (Sgu.fin1_of_lt _ _ h1) (Sgu.fin1_of_lt _ _ h2)).trans (Act.arr4 m c).symm
  · rw [Cert.ActRefIdeal.Read.val_main_v20_eq, a0, a1, a2]
    exact (Act.ref_up _ _ _).trans (Act.arr5 m c).symm

/-- The gradient of the down projection's weights. -/
theorem DwDown.values : algebraic_DwDownIdeal_DwDownRefIdeal (hDwDownIdeal := Cert.DwDownIdeal.Gen.facts) (hDwDownRefIdeal := Cert.DwDownRefIdeal.Gen.facts) := by
  intro m g m' g' _ hagree
  refine ⟨_, Cert.DwDownIdeal.Value.run_blocks m g, (θ_run _ _ _).mono (fun r h c => ?_) (Cert.DwDownRefIdeal.Value.run m' g')⟩
  obtain ⟨a0, a1⟩ := hagree c
  obtain ⟨r0, k⟩ := h c
  refine ⟨r0.trans ?_, k⟩
  · rw [Cert.DwDownRefIdeal.Read.val_main_v8_eq, a0, a1]
    exact (DwDown.ref _ _).trans (DwDown.arr m c).symm

/-- The gradient of the gate's weights. -/
theorem DwGate.values : algebraic_DwGateIdeal_DwGateRefIdeal (hDwGateIdeal := Cert.DwGateIdeal.Gen.facts) (hDwGateRefIdeal := Cert.DwGateRefIdeal.Gen.facts) := by
  intro m g m' g' _ hagree
  refine ⟨_, Cert.DwGateIdeal.Value.run_blocks m g, (θ_run _ _ _).mono (fun r h c => ?_) (Cert.DwGateRefIdeal.Value.run m' g')⟩
  obtain ⟨a0, a1⟩ := hagree c
  obtain ⟨r0, k⟩ := h c
  refine ⟨r0.trans ?_, k⟩
  · rw [Cert.DwGateRefIdeal.Read.val_main_v10_eq, a0, a1]
    exact (DwGate.ref _ _).trans (DwGate.arr m c).symm

/-- The gradient of the up projection's weights. -/
theorem DwUp.values : algebraic_DwUpIdeal_DwUpRefIdeal (hDwUpIdeal := Cert.DwUpIdeal.Gen.facts) (hDwUpRefIdeal := Cert.DwUpRefIdeal.Gen.facts) := by
  intro m g m' g' _ hagree
  refine ⟨_, Cert.DwUpIdeal.Value.run_blocks m g, (θ_run _ _ _).mono (fun r h c => ?_) (Cert.DwUpRefIdeal.Value.run m' g')⟩
  obtain ⟨a0, a1, _⟩ := hagree c
  obtain ⟨r0, k⟩ := h c
  refine ⟨r0.trans ?_, k⟩
  · rw [Cert.DwUpRefIdeal.Read.val_main_v10_eq, a0, a1]
    exact (DwUp.ref _ _).trans (DwUp.arr m c).symm

/-- The gradient the gate passes to the norm. -/
theorem DnGate.values : algebraic_DnGateIdeal_DnGateRefIdeal (hDnGateIdeal := Cert.DnGateIdeal.Gen.facts) (hDnGateRefIdeal := Cert.DnGateRefIdeal.Gen.facts) := by
  intro m g m' g' _ hagree
  refine ⟨_, Cert.DnGateIdeal.Value.run_blocks m g, (θ_run _ _ _).mono (fun r h c => ?_) (Cert.DnGateRefIdeal.Value.run m' g')⟩
  obtain ⟨a0, a1, _⟩ := hagree c
  obtain ⟨r0, k⟩ := h c
  refine ⟨r0.trans ?_, k⟩
  · rw [Cert.DnGateRefIdeal.Read.val_main_v8_eq, a0, a1]
    exact (DnGate.ref _ _).trans (DnGate.arr m c).symm

/-- The gradient the up projection passes to the norm, added to the gate's. -/
theorem DnUp.values : algebraic_DnUpIdeal_DnUpRefIdeal (hDnUpIdeal := Cert.DnUpIdeal.Gen.facts) (hDnUpRefIdeal := Cert.DnUpRefIdeal.Gen.facts) := by
  intro m g m' g' _ hagree
  refine ⟨_, Cert.DnUpIdeal.Value.run_blocks m g, (θ_run _ _ _).mono (fun r h c => ?_) (Cert.DnUpRefIdeal.Value.run m' g')⟩
  obtain ⟨a0, a1, a2, _⟩ := hagree c
  obtain ⟨r0, k⟩ := h c
  refine ⟨r0.trans ?_, k⟩
  · rw [Cert.DnUpRefIdeal.Read.val_main_v9_eq, a0, a1, a2]
    exact (DnUp.ref _ _ _).trans (DnUp.arr m c).symm

/-- The gate, the up projection and the hidden layer. -/
theorem GateUp.values : algebraic_GateUpIdeal_GateUpRefIdeal (hGateUpIdeal := Cert.GateUpIdeal.Gen.facts) (hGateUpRefIdeal := Cert.GateUpRefIdeal.Gen.facts) := by
  intro m g m' g' _ hagree
  refine ⟨_, _, _, Cert.GateUpIdeal.Value.run_blocks m g, (θ_run _ _ _).mono (fun r h c => ?_) (Cert.GateUpRefIdeal.Value.run m' g')⟩
  obtain ⟨a0, a1, a2, a3⟩ := hagree c
  obtain ⟨r0, r1, r2, k⟩ := h c
  refine ⟨r0.trans ?_, r1.trans ?_, r2.trans ?_, k⟩
  · rw [Cert.GateUpRefIdeal.Read.val_main_v13_eq, a0, a1]
    exact (GateUp.ref_gate _ _).trans (GateUp.arr4 m c).symm
  · rw [Cert.GateUpRefIdeal.Read.val_main_v16_eq, a0, a2]
    exact (GateUp.ref_up _ _).trans (GateUp.arr5 m c).symm
  · rw [Cert.GateUpRefIdeal.Read.val_main_v19_eq, a0, a1, a2]
    exact (GateUp.ref_hidden _ _ _).trans (GateUp.arr6 m c).symm

/-- The gradient of the input projection's weights. -/
theorem DwIn.values : algebraic_DwInIdeal_DwInRefIdeal (hDwInIdeal := Cert.DwInIdeal.Gen.facts) (hDwInRefIdeal := Cert.DwInRefIdeal.Gen.facts) := by
  intro m g m' g' _ hagree
  refine ⟨_, Cert.DwInIdeal.Value.run_blocks m g, (θ_run _ _ _).mono (fun r h c => ?_) (Cert.DwInRefIdeal.Value.run m' g')⟩
  obtain ⟨a0, a1⟩ := hagree c
  obtain ⟨r0, k⟩ := h c
  refine ⟨r0.trans ?_, k⟩
  · rw [Cert.DwInRefIdeal.Read.val_main_v6_eq, a0, a1]
    exact (DwIn.ref _ _).trans (DwIn.arr m c).symm

/-- The gradient the input projection passes to the norm. -/
theorem Dn1.values : algebraic_Dn1Ideal_Dn1RefIdeal (hDn1Ideal := Cert.Dn1Ideal.Gen.facts) (hDn1RefIdeal := Cert.Dn1RefIdeal.Gen.facts) := by
  intro m g m' g' _ hagree
  refine ⟨_, Cert.Dn1Ideal.Value.run_blocks m g, (θ_run _ _ _).mono (fun r h c => ?_) (Cert.Dn1RefIdeal.Value.run m' g')⟩
  obtain ⟨a0, a1, _⟩ := hagree c
  obtain ⟨r0, k⟩ := h c
  refine ⟨r0.trans ?_, k⟩
  · rw [Cert.Dn1RefIdeal.Read.val_main_v4_eq, a0, a1]
    exact (Dn1.ref _ _).trans (Dn1.arr m c).symm

end Cert.Ffn

end
-- ==== Proof.Ffn.Dense.lean ====
/- The products of the projections into and out of the two branches, entry by entry. An array of 2048 columns in eight blocks has column
   `q` of block `b` where the joined array has column `b * 256 + q`. -/
module

public import proofs.«01_k».proof.Proof.Ffn.Spec

@[expose] public section

noncomputable section

namespace Cert.Ffn

open Idealize.ShloMosaic

abbrev Narrow : Shape := ⟨2, ![2048, 1024]⟩
abbrev Parts : Shape := ⟨3, ![8, 1024, 256]⟩

/-- The product of `x` with `w`. -/
def timesWide (x : Vec Ideal Square .bf16) (w : Vec Ideal Wide .bf16) : Vec Ideal Wide .f32 := fun i =>
  ∑ k : Fin 2048, x (ix2 (n0 := 2048) (n1 := 2048) (i 0) k) * w (ix2 (n0 := 2048) (n1 := 10240) k (i 1))

/-- The product of `y` with `w`. -/
def timesSquare (y w : Vec Ideal Square .bf16) : Vec Ideal Square .f32 := fun i =>
  ∑ k : Fin 2048, y (ix2 (n0 := 2048) (n1 := 2048) (i 0) k) * w (ix2 (n0 := 2048) (n1 := 2048) k (i 1))

/-- The same product, added to `x`. -/
def addSquare (x : Vec Ideal Square .f32) (y w : Vec Ideal Square .bf16) : Vec Ideal Square .f32 := fun i =>
  (x i : EReal) + timesSquare y w i

/-- The product of `d` with the transpose of `w`. -/
def backSquare (d w : Vec Ideal Square .bf16) : Vec Ideal Square .f32 := fun i =>
  ∑ k : Fin 2048, d (ix2 (n0 := 2048) (n1 := 2048) (i 0) k) * w (ix2 (n0 := 2048) (n1 := 2048) (i 1) k)

/-- The product of the transpose of `x` with `y`. -/
def gradSquare (x y : Vec Ideal Square .bf16) : Vec Ideal Square .bf16 := fun i =>
  ∑ k : Fin 2048, x (ix2 (n0 := 2048) (n1 := 2048) k (i 0)) * y (ix2 (n0 := 2048) (n1 := 2048) k (i 1))

/-- The product of `y` with `w`, the blocks of `w` joined. -/
def timesParts (y : Vec Ideal Narrow .bf16) (w : Vec Ideal Parts .bf16) : Vec Ideal Square .f32 := fun i =>
  ∑ k : Fin 1024, y (ix2 (n0 := 2048) (n1 := 1024) (i 0) k) * w (ix3 (n0 := 8) (n1 := 1024) (n2 := 256)
    ⟨(i 1).val / 256, by have := (i 1).isLt; change (i 1).val < 2048 at this; omega⟩ k ⟨(i 1).val % 256, Nat.mod_lt _ (by decide)⟩)

/-- Both branches, each through the logistic function of its gate: the gates are the columns of `p` from 4096 and from 6144 on. -/
def merged (y : Vec Ideal Narrow .bf16) (w : Vec Ideal Parts .bf16) (a : Vec Ideal Square .f32) (p : Vec Ideal Wide .f32) :
    Vec Ideal Square .bf16 := fun i =>
  (Ideal.logistic (p (ix2 (n0 := 2048) (n1 := 10240) (i 0) ⟨4096 + (i 1).val, by have := (i 1).isLt; change (i 1).val < 2048 at this; omega⟩)) : EReal) * a i
    + Ideal.logistic (p (ix2 (n0 := 2048) (n1 := 10240) (i 0) ⟨6144 + (i 1).val, by have := (i 1).isLt; change (i 1).val < 2048 at this; omega⟩))
      * timesParts y w i

/-- The product of the transpose of `y` with `d`, block of columns by block of columns. -/
def gradParts (y : Vec Ideal Narrow .bf16) (d : Vec Ideal Square .bf16) : Vec Ideal Parts .bf16 := fun i =>
  ∑ k : Fin 2048, y (ix2 (n0 := 2048) (n1 := 1024) k (i 1)) * d (ix2 (n0 := 2048) (n1 := 2048) k
    ⟨(i 0).val * 256 + (i 2).val, by have h0 := (i 0).isLt; have h2 := (i 2).isLt; change (i 0).val < 8 at h0; change (i 2).val < 256 at h2; omega⟩)

/-! Products summed over several grid points, their terms numbered by the column of the joined array. -/

/-- A sum over a further block of `l` terms. -/
theorem sum_block (f : ℕ → EReal) (b l : ℕ) :
    ∑ k ∈ Finset.range ((b + 1) * l), f k = (∑ k ∈ Finset.range (b * l), f k) + ∑ k : Fin l, f (b * l + k) := by
  rw [Nat.add_one_mul, Finset.sum_range_add, Finset.sum_range (fun k => f (b * l + k))]

/-- Term `k` of row `r` of `x`, its blocks joined, with column `s` of `w`. -/
def downTerm (x : Vec Ideal Blocked .bf16) (w : Vec Ideal Tall .bf16) (r s k : ℕ) : EReal :=
  at3 x (k / 704) r (k % 704) * at2 w k s

/-- The product of `x`, its blocks joined, with `w`, added to `h`. -/
def addDown (h : Vec Ideal Square .f32) (x : Vec Ideal Blocked .bf16) (w : Vec Ideal Tall .bf16) : Vec Ideal Square .f32 := fun i =>
  (h i : EReal) + ∑ k ∈ Finset.range 5632, downTerm x w (i 0).val (i 1).val k

/-- Term `k` of row `r` of `d` with row `s` of `w`, its blocks joined. -/
def partTerm (d : Vec Ideal Square .bf16) (w : Vec Ideal Parts .bf16) (r s k : ℕ) : EReal :=
  at2 d r k * at3 w (k / 256) s (k % 256)

/-- The product of `d` with the transpose of `w`, the blocks of `w` joined. -/
def backParts (d : Vec Ideal Square .bf16) (w : Vec Ideal Parts .bf16) : Vec Ideal Narrow .f32 := fun i =>
  ∑ k ∈ Finset.range 2048, partTerm d w (i 0).val (i 1).val k

/-! What a load takes of a block that a grid point works on. -/

/-- Block `p` of an array in blocks. -/
def slab {n a b : ℕ} (p : ℕ) (h : p < n) (x : Vec Ideal ⟨3, ![n, a, b]⟩ .bf16) : Vec Ideal ⟨3, ![1, a, b]⟩ .bf16 :=
  fun i => x (ix3 ⟨p, h⟩ (i 1) (i 2))

theorem ld_slab {n a b : ℕ} (p : ℕ) (h : p < n) (x : Vec Ideal ⟨3, ![n, a, b]⟩ .bf16)
    (inb : ∀ e, (![p, 0, 0] : Fin 3 → ℕ) e + (![1, a, b] : Fin 3 → ℕ) e ≤ (⟨3, ![n, a, b]⟩ : Shape).size e) :
    View.ld x (Rect.unit ![p, 0, 0] ![1, a, b] inb) = slab p h x := by
  funext i
  have h0 : (i 0).val < 1 := (i 0).isLt
  refine View.ld_unit_apply_of x _ _ _ i _ fun e => ?_
  fin_cases e
  · change p = p + (i 0).val
    omega
  all_goals exact (Nat.zero_add _).symm

/-- The rows of an array from row `o` on. -/
def rowsFrom {n a b : ℕ} (o : ℕ) (h : o + a ≤ n) (x : Vec Ideal ⟨2, ![n, b]⟩ .bf16) : Vec Ideal ⟨2, ![a, b]⟩ .bf16 :=
  fun i => x (ix2 ⟨o + (i 0).val, (Nat.add_lt_add_left (i 0).isLt o).trans_le h⟩ (i 1))

theorem ld_rows {n a b : ℕ} (o : ℕ) (h : o + a ≤ n) (x : Vec Ideal ⟨2, ![n, b]⟩ .bf16)
    (inb : ∀ e, (![o, 0] : Fin 2 → ℕ) e + (![a, b] : Fin 2 → ℕ) e ≤ (⟨2, ![n, b]⟩ : Shape).size e) :
    View.ld x (Rect.unit ![o, 0] ![a, b] inb) = rowsFrom o h x := by
  funext i
  refine View.ld_unit_apply_of x _ _ _ i _ fun e => ?_
  fin_cases e
  · rfl
  · exact (Nat.zero_add _).symm

/-- The columns of an array from column `o` on. -/
def colsFrom {n a b : ℕ} (o : ℕ) (h : o + b ≤ n) (x : Vec Ideal ⟨2, ![a, n]⟩ .bf16) : Vec Ideal ⟨2, ![a, b]⟩ .bf16 :=
  fun i => x (ix2 (i 0) ⟨o + (i 1).val, (Nat.add_lt_add_left (i 1).isLt o).trans_le h⟩)

theorem ld_cols {n a b : ℕ} (o : ℕ) (h : o + b ≤ n) (x : Vec Ideal ⟨2, ![a, n]⟩ .bf16)
    (inb : ∀ e, (![0, o] : Fin 2 → ℕ) e + (![a, b] : Fin 2 → ℕ) e ≤ (⟨2, ![a, n]⟩ : Shape).size e) :
    View.ld x (Rect.unit ![0, o] ![a, b] inb) = colsFrom o h x := by
  funext i
  refine View.ld_unit_apply_of x _ _ _ i _ fun e => ?_
  fin_cases e
  · exact (Nat.zero_add _).symm
  · rfl

end Cert.Ffn

end
-- ==== Proof.Ffn.ProjIn.lean ====
/- The input projection: the product of the normed input with the weights. -/
module

public import proofs.«01_k».proof.Proof.Ffn.Dense
public import proofs.«01_k».proof.Proof.Gen.ProjInIdeal.Value
public import proofs.«01_k».proof.Proof.Gen.ProjInRefIdeal.Read

@[expose] public section

set_option maxRecDepth 16384

noncomputable section

namespace Cert.Ffn.ProjIn

open Cert.ProjInIdeal Cert.ProjInIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![0, (grid0.coords t 1).val] ∧ win0_2.index t = ![(grid0.coords t 0).val, (grid0.coords t 1).val] :=
  (by decide +kernel : ∀ t : Fin grid0.N, win0_0.index t = ![(grid0.coords t 0).val, 0] ∧ win0_1.index t = ![0, (grid0.coords t 1).val] ∧ win0_2.index t = ![(grid0.coords t 0).val, (grid0.coords t 1).val]) t

theorem pay_at (x : Vec Ideal S1024x2048 .bf16) (w : Vec Ideal S2048x1024 .bf16) (j : S1024x1024.Idx) :
    k0_pay1 x w j = ∑ k : Fin 2048, x (ix2 (n0 := 1024) (n1 := 2048) (j 0) k) * w (ix2 (n0 := 2048) (n1 := 1024) k (j 1)) := by
  rw [k0_pay1]
  pointwise

theorem arr (c : Dev nD) : (dats m 0 c).arrAt 2 cfg0.N = timesWide (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.ProjIn

namespace Cert.Ffn.ProjIn

open Cert.ProjInRefIdeal Cert.ProjInRefIdeal.Read Idealize.ShloMosaic

theorem ref (x : Vec Ideal S2048x2048 .bf16) (w : Vec Ideal S2048x10240 .bf16) : val_main_v2 (F := Ideal) x w = timesWide x w := by
  funext i
  simp only [val_main_v2_apply, val_main_v1_apply, val_main_v0_apply]
  rw [timesWide]
  refine Finset.sum_congr rfl fun k _ => ?_
  simp only [Ideal.extf_def]
  congr 1 <;> blk_ext

end Cert.Ffn.ProjIn

end
-- ==== Proof.Ffn.FfnDown.lean ====
/- The down projection, added to what the layer has so far: the product is accumulated over four grid points of two blocks of columns each. -/
module

public import proofs.«01_k».proof.Proof.Ffn.Dense
public import Idealize.ShloMosaic.Lib.Pipeline.ReadBack
public import proofs.«01_k».proof.Proof.Gen.FfnDownIdeal.Value
public import proofs.«01_k».proof.Proof.Gen.FfnDownRefIdeal.Read

@[expose] public section

set_option maxRecDepth 16384

noncomputable section

namespace Cert.Ffn.FfnDown

open Cert.FfnDownIdeal Cert.FfnDownIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![t.val % 4, t.val / 8, 0] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, win0_0.index t = ![t.val % 4, t.val / 8, 0] ∧ win0_1.index t = ![t.val % 4, t.val / 4 % 2]
    ∧ win0_2.index t = ![t.val / 8, t.val / 4 % 2] ∧ win0_3.index t = ![t.val / 8, t.val / 4 % 2]) t

theorem pay_at (x x' : Vec Ideal S1x1024x704 .bf16) (w w' : Vec Ideal S704x1024 .bf16) (j : S1024x1024.Idx) :
    k0_pay1 x w x' w' j = (∑ k : Fin 704, x (ix3 (n0 := 1) (n1 := 1024) (n2 := 704) 0 (j 0) k) * w (ix2 (n0 := 704) (n1 := 1024) k (j 1)) : EReal)
      + ∑ k : Fin 704, x' (ix3 (n0 := 1) (n1 := 1024) (n2 := 704) 0 (j 0) k) * w' (ix2 (n0 := 704) (n1 := 1024) k (j 1)) := by
  rw [k0_pay1]
  pointwise

theorem first_at (x x' : Vec Ideal S1x1024x704 .bf16) (w w' : Vec Ideal S704x1024 .bf16) (s : Vec Ideal S1024x1024 .f32) (j : S1024x1024.Idx) :
    k0_pay2 x w x' w' s j = (k0_pay1 x w x' w' j : EReal) + s j := by
  rw [k0_pay2]
  generalize k0_pay1 x w x' w' = p
  pointwise

theorem next_at (x x' : Vec Ideal S1x1024x704 .bf16) (w w' : Vec Ideal S704x1024 .bf16) (s : Vec Ideal S1024x1024 .f32) (j : S1024x1024.Idx) :
    k0_pay3 x w x' w' s j = (s j : EReal) + k0_pay1 x w x' w' j := by
  rw [k0_pay3]
  generalize k0_pay1 x w x' w' = p
  pointwise

/-- What a grid point adds to the accumulator. -/
abbrev part (c : Dev nD) (t : Fin cfg0.N) : FVec Ideal S1024x1024 .f32 :=
  k0_pay1 (slab (n := 2) (a := 1024) (b := 704) 0 (by decide) (iblk m c 0 t)) (rowsFrom (n := 1408) (a := 704) (b := 1024) 0 (by decide) (iblk m c 1 t))
    (slab (n := 2) (a := 1024) (b := 704) 1 (by decide) (iblk m c 0 t)) (rowsFrom (n := 1408) (a := 704) (b := 1024) 704 (by decide) (iblk m c 1 t))

/-- The whole product's term `k` in row `r` and column `s`. -/
abbrev term (c : Dev nD) (r s k : ℕ) : EReal :=
  downTerm (m ((c : Thread nD τ).loc main_arg0)) (m ((c : Thread nD τ).loc main_arg1)) r s k

/-- A grid point's product is two blocks of terms of the whole. -/
theorem part_at (c : Dev nD) (t : Fin cfg0.N) (j : S1024x1024.Idx) : part m c t j
      = (∑ k : Fin 704, term m c (t.val / 8 * 1024 + (j 0).val) (t.val / 4 % 2 * 1024 + (j 1).val) (t.val % 4 * 2 * 704 + k) : EReal)
        + ∑ k : Fin 704, term m c (t.val / 8 * 1024 + (j 0).val) (t.val / 4 % 2 * 1024 + (j 1).val) ((t.val % 4 * 2 + 1) * 704 + k) := by
  refine (pay_at _ _ _ _ _).trans (congrArg₂ (fun a b : EReal => a + b) ?_ ?_)
  all_goals
    refine Finset.sum_congr (M := EReal) rfl fun k _ => congrArg₂ (fun a b : EReal => a * b) ?_ ?_
    all_goals
      have hk : k.val < 704 := k.isLt
      first | rw [slab] | rw [rowsFrom]
      blk_simp [iblk, V, place t]
      first | refine (at3_eq _ _ ?_ ?_ ?_).symm | refine (at2_eq _ _ ?_ ?_).symm
      all_goals blk_simp [place t]
      all_goals first | omega | (dsimp only; omega)

theorem sum_A (c : Dev nD) (t : Fin cfg0.N) (h0 : t.val % 4 = 0) (j : S1024x1024.Idx) :
    (outsAt0 m c t.val t.isLt).2 j = (part m c t j : EReal) + iblk m c 2 t j := by
  rw [outsAt0_A m c t h0 (by omega) (by omega)]
  dsimp only
  frame_open
  frame_out
  rw [ld_slab 0 (by decide), ld_slab 1 (by decide), ld_rows 0 (by decide), ld_rows 704 (by decide)]
  exact first_at _ _ _ _ _ _

theorem sum_BC (c : Dev nD) (t : Fin cfg0.N) (h0 : ¬t.val % 4 = 0) {hp : t.val - 1 < cfg0.N} (j : S1024x1024.Idx) :
    (outsAt0 m c t.val t.isLt).2 j = ((outsAt0 m c (t.val - 1) hp).2 j : EReal) + part m c t j := by
  by_cases h1 : t.val % 4 = 3
  on_goal 1 => rw [outsAt0_C m c t h0 (by omega) h1]
  on_goal 2 => rw [outsAt0_B m c t h0 (by omega) h1]
  all_goals dsimp only
  all_goals frame_open
  all_goals frame_out
  all_goals rw [read_unread_whole]
  all_goals rw [ld_slab 0 (by decide), ld_slab 1 (by decide), ld_rows 0 (by decide), ld_rows 704 (by decide)]
  all_goals exact next_at _ _ _ _ _ _

theorem out_C (c : Dev nD) (t : Fin cfg0.N) (h1 : t.val % 4 = 3) :
    (outsAt0 m c t.val t.isLt).1 = (outsAt0 m c t.val t.isLt).2 := by
  rw [outsAt0_C m c t (by omega) (by omega) h1]
  dsimp only
  frame_open
  frame_out

theorem acc_block (c : Dev nD) (t : Fin cfg0.N) (j : S1024x1024.Idx) : iblk m c 2 t j
    = at2 (m ((c : Thread nD τ).loc main_arg2)) (t.val / 8 * 1024 + (j 0).val) (t.val / 4 % 2 * 1024 + (j 1).val) := by
  blk_simp [iblk, V, place t]
  refine (at2_eq _ _ ?_ ?_).symm <;> blk_simp [place t]

/-- After each point the accumulator holds the block of the array added to, with the product's terms so far. -/
theorem sum_at (c : Dev nD) : ∀ (n : ℕ) (h : n < cfg0.N) (j : S1024x1024.Idx), (outsAt0 m c n h).2 j
    = (at2 (m ((c : Thread nD τ).loc main_arg2)) (n / 8 * 1024 + (j 0).val) (n / 4 % 2 * 1024 + (j 1).val) : EReal)
      + ∑ k ∈ Finset.range ((n % 4 * 2 + 1 + 1) * 704), term m c (n / 8 * 1024 + (j 0).val) (n / 4 % 2 * 1024 + (j 1).val) k := by
  intro n
  induction n using Nat.strong_induction_on with
  | _ n ih =>
    intro h j
    rw [sum_block, sum_block, add_assoc, ← part_at m c ⟨n, h⟩ j]
    by_cases h0 : n % 4 = 0
    · rw [sum_A m c ⟨n, h⟩ h0, acc_block m c ⟨n, h⟩, h0, Nat.zero_mul, Finset.range_zero, Finset.sum_empty, zero_add]
      exact add_comm (G := EReal) _ _
    · have hp : n - 1 < cfg0.N := by omega
      rw [sum_BC m c ⟨n, h⟩ h0 (hp := hp), ih (n - 1) (by omega) hp j, show (n - 1) / 8 = n / 8 by omega,
        show (n - 1) / 4 % 2 = n / 4 % 2 by omega, show (n - 1) % 4 * 2 + 1 + 1 = n % 4 * 2 by omega, add_assoc]

theorem arr (c : Dev nD) : (dats m 0 c).arrAt 3 cfg0.N
    = addDown (m ((c : Thread nD τ).loc main_arg2)) (m ((c : Thread nD τ).loc main_arg0)) (m ((c : Thread nD τ).loc main_arg1)) := by
  refine (dats m 0 c).arrAt_eq_of_covers 3 _ (by decide +kernel) fun t hf y => ?_
  have h4 : t.val % 4 = 3 := (flush0_3 t).mp hf
  blk_simp [place t]
  rw [after0_3, out_C m c t h4]
  refine (sum_at m c _ _ _).trans ?_
  rw [h4, addDown]
  refine congrArg₂ (fun a b : EReal => a + b) (at2_eq _ _ ?_ ?_) ?_
  all_goals blk_simp [place t]

end Cert.Ffn.FfnDown

namespace Cert.Ffn.FfnDown

open Cert.FfnDownRefIdeal Cert.FfnDownRefIdeal.Read Idealize.ShloMosaic

theorem ref (x : Vec Ideal S8x2048x704 .bf16) (w : Vec Ideal S5632x2048 .bf16) (h : Vec Ideal S2048x2048 .f32) :
    val_main_v5 (F := Ideal) x w h = addDown h x w := by
  funext i
  rw [val_main_v5_apply, val_main_v4_apply, addDown, Finset.sum_range]
  refine congrArg (fun a : EReal => h i + a) (Finset.sum_congr (M := EReal) rfl fun k _ => ?_)
  simp only [val_main_v3_apply, val_main_v2_apply, val_main_v1_apply, val_main_v0_apply, Ideal.extf_def]
  refine congrArg₂ (fun a b : EReal => a * b) (at3_eq x _ ?_ ?_ ?_).symm (at2_eq w (ridx_main_v4 i k) rfl rfl).symm
  all_goals have := k.isLt
  · change ((i 0).val * 5632 + k.val) / 704 % 8 = _
    omega
  · change ((i 0).val * 5632 + k.val) / 5632 = _
    omega
  · change ((i 0).val * 5632 + k.val) % 704 = _
    omega

end Cert.Ffn.FfnDown

end
-- ==== Proof.Ffn.OutProj.lean ====
/- The output projection of the merged branches, added to the layer's input. -/
module

public import proofs.«01_k».proof.Proof.Ffn.Dense
public import proofs.«01_k».proof.Proof.Gen.OutProjIdeal.Value
public import proofs.«01_k».proof.Proof.Gen.OutProjRefIdeal.Read

@[expose] public section

set_option maxRecDepth 16384

noncomputable section

namespace Cert.Ffn.OutProj

open Cert.OutProjIdeal Cert.OutProjIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val]) t

theorem pay_at (y : Vec Ideal S1024x2048 .bf16) (w : Vec Ideal S2048x1024 .bf16) (x : Vec Ideal S1024x1024 .f32) (j : S1024x1024.Idx) :
    k0_pay1 y w x j = (∑ k : Fin 2048, y (ix2 (n0 := 1024) (n1 := 2048) (j 0) k) * w (ix2 (n0 := 2048) (n1 := 1024) k (j 1)) : EReal) + x j := by
  rw [k0_pay1]
  pointwise

theorem arr (c : Dev nD) : (dats m 0 c).arrAt 3 cfg0.N = addSquare (m ((c : Thread nD τ).loc main_arg2)) (m ((c : Thread nD τ).loc main_arg0)) (m ((c : Thread nD τ).loc main_arg1)) := by
  refine (dats m 0 c).arrAt_eq_of_covers 3 _ (by decide +kernel) fun t hf y => ?_
  blk_simp [place t]
  rw [after0_3]
  frame_out
  refine (pay_at _ _ _ _).trans ((add_comm (G := EReal) _ _).trans (congrArg₂ (fun a b : EReal => a + b) ?_ (Finset.sum_congr (M := EReal) rfl fun k _ => ?_)))
  · blk_ext [iblk, V, place t]
  · congr 1 <;> blk_ext [iblk, V, place t]

end Cert.Ffn.OutProj

namespace Cert.Ffn.OutProj

open Cert.OutProjRefIdeal Cert.OutProjRefIdeal.Read Idealize.ShloMosaic

theorem ref (y w : Vec Ideal S2048x2048 .bf16) (x : Vec Ideal S2048x2048 .f32) : val_main_v3 (F := Ideal) y w x = addSquare x y w := by
  funext i
  rw [val_main_v3_apply, val_main_v2_apply, addSquare, timesSquare]
  refine congrArg (fun a : EReal => x i + a) (Finset.sum_congr (M := EReal) rfl fun k _ => ?_)
  simp only [val_main_v1_apply, val_main_v0_apply, Ideal.extf_def]
  congr 1 <;> blk_ext

end Cert.Ffn.OutProj

end
-- ==== Proof.Ffn.DMerged.lean ====
/- The gradient that the output projection passes to the merged branches. -/
module

public import proofs.«01_k».proof.Proof.Ffn.Dense
public import proofs.«01_k».proof.Proof.Gen.DMergedIdeal.Value
public import proofs.«01_k».proof.Proof.Gen.DMergedRefIdeal.Read

@[expose] public section

set_option maxRecDepth 16384

noncomputable section

namespace Cert.Ffn.DMerged

open Cert.DMergedIdeal Cert.DMergedIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![(grid0.coords t 1).val, 0] ∧ win0_2.index t = ![(grid0.coords t 0).val, (grid0.coords t 1).val] :=
  (by decide +kernel : ∀ t : Fin grid0.N, win0_0.index t = ![(grid0.coords t 0).val, 0] ∧ win0_1.index t = ![(grid0.coords t 1).val, 0] ∧ win0_2.index t = ![(grid0.coords t 0).val, (grid0.coords t 1).val]) t

theorem pay_at (d w : Vec Ideal S1024x2048 .bf16) (j : S1024x1024.Idx) :
    k0_pay1 d w j = ∑ k : Fin 2048, d (ix2 (n0 := 1024) (n1 := 2048) (j 0) k) * w (ix2 (n0 := 1024) (n1 := 2048) (j 1) k) := by
  rw [k0_pay1]
  pointwise

theorem arr (c : Dev nD) : (dats m 0 c).arrAt 2 cfg0.N = backSquare (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DMerged

namespace Cert.Ffn.DMerged

open Cert.DMergedRefIdeal Cert.DMergedRefIdeal.Read Idealize.ShloMosaic

theorem ref (d w : Vec Ideal S2048x2048 .bf16) : val_main_v4 (F := Ideal) d w = backSquare d w := by
  funext i
  simp only [val_main_v4_apply, val_main_v3_apply, val_main_v1_apply]
  rw [backSquare]
  refine Finset.sum_congr rfl fun k _ => ?_
  simp only [Ideal.extf_def]
  congr 1 <;> blk_ext

end Cert.Ffn.DMerged

end
-- ==== Proof.Ffn.DwOut.lean ====
/- The gradient of the output projection's weights. -/
module

public import proofs.«01_k».proof.Proof.Ffn.Dense
public import proofs.«01_k».proof.Proof.Gen.DwOutIdeal.Value
public import proofs.«01_k».proof.Proof.Gen.DwOutRefIdeal.Read

@[expose] public section

set_option maxRecDepth 16384

noncomputable section

namespace Cert.Ffn.DwOut

open Cert.DwOutIdeal Cert.DwOutIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![0, (grid0.coords t 0).val] ∧ win0_1.index t = ![0, (grid0.coords t 1).val] ∧ win0_2.index t = ![(grid0.coords t 0).val, (grid0.coords t 1).val] :=
  (by decide +kernel : ∀ t : Fin grid0.N, win0_0.index t = ![0, (grid0.coords t 0).val] ∧ win0_1.index t = ![0, (grid0.coords t 1).val] ∧ win0_2.index t = ![(grid0.coords t 0).val, (grid0.coords t 1).val]) t

theorem pay_at (x y : Vec Ideal S2048x1024 .bf16) (j : S1024x1024.Idx) :
    k0_pay1 x y j = ∑ k : Fin 2048, x (ix2 (n0 := 2048) (n1 := 1024) k (j 0)) * y (ix2 (n0 := 2048) (n1 := 1024) k (j 1)) := by
  rw [k0_pay1]
  pointwise

theorem arr (c : Dev nD) : (dats m 0 c).arrAt 2 cfg0.N = gradSquare (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DwOut

namespace Cert.Ffn.DwOut

open Cert.DwOutRefIdeal Cert.DwOutRefIdeal.Read Idealize.ShloMosaic

theorem ref (x y : Vec Ideal S2048x2048 .bf16) : val_main_v6 (F := Ideal) x y = gradSquare x y := by
  funext i
  simp only [val_main_v6_apply, val_main_v5_apply, val_main_v4_apply, val_main_v3_apply, val_main_v1_apply]
  rw [gradSquare]
  refine Finset.sum_congr rfl fun k _ => ?_
  simp only [Ideal.extf_def]
  rw [mul_comm]
  congr 1 <;> blk_ext

end Cert.Ffn.DwOut

end
-- ==== Proof.Ffn.ProjA.lean ====
/- The projection of the recurrent branch: each block of columns of the weights gives a block of columns of the product. -/
module

public import proofs.«01_k».proof.Proof.Ffn.Dense
public import proofs.«01_k».proof.Proof.Gen.ProjAIdeal.Value
public import proofs.«01_k».proof.Proof.Gen.ProjARefIdeal.Read

@[expose] public section

set_option maxRecDepth 16384

noncomputable section

namespace Cert.Ffn.ProjA

open Cert.ProjAIdeal Cert.ProjAIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![(grid0.coords t 1).val, 0, 0] ∧ win0_3.index t = ![(grid0.coords t 0).val, (grid0.coords t 1).val] :=
  (by decide +kernel : ∀ t : Fin grid0.N, win0_0.index t = ![(grid0.coords t 0).val, 0] ∧ win0_1.index t = ![(grid0.coords t 1).val, 0, 0] ∧ win0_3.index t = ![(grid0.coords t 0).val, (grid0.coords t 1).val]) t

theorem prod_at (y : Vec Ideal S1024x1024 .bf16) (w : Vec Ideal S1x1024x256 .bf16) (j : S1024x256.Idx) :
    k0_pay1 y w j = ∑ k : Fin 1024, y (ix2 (n0 := 1024) (n1 := 1024) (j 0) k) * w (ix3 (n0 := 1) (n1 := 1024) (n2 := 256) 0 k (j 1)) := by
  rw [k0_pay1]
  pointwise

theorem arr (c : Dev nD) : (dats m 0 c).arrAt 3 cfg0.N = timesParts (m ((c : Thread nD τ).loc main_arg0)) (m ((c : Thread nD τ).loc main_arg1)) := by
  refine (dats m 0 c).arrAt_eq_of_covers 3 _ (by decide +kernel) fun t hf y => ?_
  blk_simp [place t]
  rw [after0_3]
  frame_out
  refine (prod_at _ _ _).trans (Finset.sum_congr (M := EReal) rfl fun k _ => ?_)
  congr 1 <;> blk_ext [iblk, V, place t]

end Cert.Ffn.ProjA

namespace Cert.Ffn.ProjA

open Cert.ProjARefIdeal Cert.ProjARefIdeal.Read Idealize.ShloMosaic

theorem ref (y : Vec Ideal S2048x1024 .bf16) (w : Vec Ideal S8x1024x256 .bf16) : val_main_v4 (F := Ideal) y w = timesParts y w := by
  funext i
  simp only [val_main_v4_apply, val_main_v3_apply, val_main_v2_apply, val_main_v1_apply, val_main_v0_apply]
  rw [timesParts]
  refine Finset.sum_congr rfl fun k _ => ?_
  simp only [Ideal.extf_def]
  congr 1 <;> blk_ext

end Cert.Ffn.ProjA

end
-- ==== Proof.Ffn.Merge.lean ====
/- The projection of the gating branch and the merging of the two branches through their gates. -/
module

public import proofs.«01_k».proof.Proof.Ffn.Dense
public import Idealize.ShloMosaic.Lib.IdealHost
public import proofs.«01_k».proof.Proof.Gen.MergeIdeal.Value
public import proofs.«01_k».proof.Proof.Gen.MergeRefIdeal.Read

@[expose] public section

set_option maxRecDepth 16384

noncomputable section

namespace Cert.Ffn.Merge

open Cert.MergeIdeal Cert.MergeIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![(grid0.coords t 0).val, 0] ∧ win0_1.index t = ![(grid0.coords t 1).val, 0, 0] ∧ win0_2.index t = ![(grid0.coords t 0).val, (grid0.coords t 1).val] ∧ win0_3.index t = ![(grid0.coords t 0).val, 16 + (grid0.coords t 1).val] ∧ win0_4.index t = ![(grid0.coords t 0).val, 24 + (grid0.coords t 1).val] ∧ win0_5.index t = ![(grid0.coords t 0).val, (grid0.coords t 1).val] ∧ win0_6.index t = ![(grid0.coords t 0).val, (grid0.coords t 1).val] :=
  (by decide +kernel : ∀ t : Fin grid0.N, win0_0.index t = ![(grid0.coords t 0).val, 0] ∧ win0_1.index t = ![(grid0.coords t 1).val, 0, 0] ∧ win0_2.index t = ![(grid0.coords t 0).val, (grid0.coords t 1).val] ∧ win0_3.index t = ![(grid0.coords t 0).val, 16 + (grid0.coords t 1).val] ∧ win0_4.index t = ![(grid0.coords t 0).val, 24 + (grid0.coords t 1).val] ∧ win0_5.index t = ![(grid0.coords t 0).val, (grid0.coords t 1).val] ∧ win0_6.index t = ![(grid0.coords t 0).val, (grid0.coords t 1).val]) t

theorem prod_at (y : Vec Ideal S1024x1024 .bf16) (w : Vec Ideal S1x1024x256 .bf16) (j : S1024x256.Idx) :
    k0_pay1 y w j = ∑ k : Fin 1024, y (ix2 (n0 := 1024) (n1 := 1024) (j 0) k) * w (ix3 (n0 := 1) (n1 := 1024) (n2 := 256) 0 k (j 1)) := by
  rw [k0_pay1]
  pointwise

theorem merge_at (y : Vec Ideal S1024x1024 .bf16) (w : Vec Ideal S1x1024x256 .bf16) (a ga gb : Vec Ideal S1024x256 .f32) (j : S1024x256.Idx) :
    k0_pay2 y w a ga gb j = (Ideal.logistic (ga j) : EReal) * a j + Ideal.logistic (gb j) * k0_pay1 y w j := by
  rw [k0_pay2]
  generalize k0_pay1 y w = p
  pointwise

/-- A point's product is a block of the whole. -/
theorem prod_block (c : Dev nD) (t : Fin cfg0.N) (j : S1024x256.Idx) (i : S2048x2048.Idx)
    (hi : (i 0).val = (grid0.coords t 0).val * 1024 + (j 0).val ∧ (i 1).val = (grid0.coords t 1).val * 256 + (j 1).val) :
    k0_pay1 (iblk m c 0 t) (iblk m c 1 t) j = timesParts (m ((c : Thread nD τ).loc main_arg0)) (m ((c : Thread nD τ).loc main_arg1)) i := by
  obtain ⟨h0, h1⟩ := hi
  refine (prod_at _ _ _).trans (Finset.sum_congr (M := EReal) rfl fun k _ => ?_)
  congr 1 <;> blk_ext [iblk, V, place t]

theorem arr5 (c : Dev nD) : (dats m 0 c).arrAt 5 cfg0.N = timesParts (m ((c : Thread nD τ).loc main_arg0)) (m ((c : Thread nD τ).loc main_arg1)) := by
  refine (dats m 0 c).arrAt_eq_of_covers 5 _ (by decide +kernel) fun t hf y => ?_
  blk_simp [place t]
  rw [after0_5]
  frame_out
  refine prod_block m c t y _ ?_
  blk_simp [place t]
  exact ⟨trivial, trivial⟩

theorem arr6 (c : Dev nD) : (dats m 0 c).arrAt 6 cfg0.N = merged (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp [place t]
  rw [after0_6]
  frame_out
  refine (merge_at _ _ _ _ _ _).trans ?_
  rw [merged, prod_block m c t y (((View.whole main_v0_1).slice (win0_6.rect t)).emb y) ?_]
  · refine congrArg₂ (fun a b : EReal => a + b) (congrArg₂ (fun a b : EReal => Ideal.logistic a * b) ?_ ?_)
      (congrArg (fun a : EReal => Ideal.logistic a * _) ?_)
    all_goals blk_ext [iblk, V, place t]
  · blk_simp [place t]
    exact ⟨trivial, trivial⟩

end Cert.Ffn.Merge

namespace Cert.Ffn.Merge

open Cert.MergeRefIdeal Cert.MergeRefIdeal.Read Idealize.ShloMosaic

theorem ref_prod (y : Vec Ideal S2048x1024 .bf16) (w : Vec Ideal S8x1024x256 .bf16) : val_main_v6 (F := Ideal) y w = timesParts y w := by
  funext i
  simp only [val_main_v6_apply, val_main_v5_apply, val_main_v4_apply, val_main_v3_apply, val_main_v2_apply]
  rw [timesParts]
  refine Finset.sum_congr rfl fun k _ => ?_
  simp only [Ideal.extf_def]
  congr 1 <;> blk_ext

theorem ref_merged (y : Vec Ideal S2048x1024 .bf16) (w : Vec Ideal S8x1024x256 .bf16) (a : Vec Ideal S2048x2048 .f32)
    (p : Vec Ideal S2048x10240 .f32) : val_main_v22 (F := Ideal) y w a p = merged y w a p := by
  funext i
  rw [merged, ← ref_prod y w]
  generalize hq : val_main_v6 (F := Ideal) y w = q
  simp only [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v1_apply, val_main_v0_apply,
    val_main_cst_apply, val_main_cst_0_apply, val_main_cst_1_apply, val_main_cst_2_apply, hq]
  rw [Ideal.ofBits_def, Ideal.ofBits_one_f32]
  refine congrArg₂ (fun a b : EReal => a + b) (congrArg (fun b : EReal => Ideal.logistic b * _) ?_)
    (congrArg (fun b : EReal => Ideal.logistic b * _) ?_)
  all_goals blk_ext

end Cert.Ffn.Merge

end
-- ==== Proof.Ffn.Dy.lean ====
/- The gradient that a branch's projection passes to the branch: the product is accumulated over two grid points of four blocks of columns each. -/
module

public import proofs.«01_k».proof.Proof.Ffn.Dense
public import Idealize.ShloMosaic.Lib.Pipeline.ReadBack
public import proofs.«01_k».proof.Proof.Gen.DyIdeal.Value
public import proofs.«01_k».proof.Proof.Gen.DyRefIdeal.Read

@[expose] public section

set_option maxRecDepth 16384

noncomputable section

namespace Cert.Ffn.Dy

open Cert.DyIdeal Cert.DyIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![t.val / 2, t.val % 2] ∧ win0_1.index t = ![t.val % 2, 0, 0] ∧ win0_2.index t = ![t.val / 2, 0] :=
  (by decide +kernel : ∀ t : Fin grid0.N, win0_0.index t = ![t.val / 2, t.val % 2] ∧ win0_1.index t = ![t.val % 2, 0, 0] ∧ win0_2.index t = ![t.val / 2, 0]) t

/-- Row `r` of `d` with row `s` of the one block of `w`. -/
def dot (d : Vec Ideal S1024x256 .bf16) (w : Vec Ideal S1x1024x256 .bf16) (r s : Fin 1024) : EReal :=
  ∑ k : Fin 256, d (ix2 (n0 := 1024) (n1 := 256) r k) * w (ix3 (n0 := 1) (n1 := 1024) (n2 := 256) 0 s k)

theorem pay_at (d0 d1 d2 d3 : Vec Ideal S1024x256 .bf16) (w0 w1 w2 w3 : Vec Ideal S1x1024x256 .bf16) (j : S1024x1024.Idx) :
    k0_pay1 d0 w0 d1 w1 d2 w2 d3 w3 j
      = dot d0 w0 (j 0) (j 1) + dot d1 w1 (j 0) (j 1) + dot d2 w2 (j 0) (j 1) + dot d3 w3 (j 0) (j 1) := by
  rw [k0_pay1]
  unfold dot
  pointwise

theorem first_at (d0 d1 d2 d3 : Vec Ideal S1024x256 .bf16) (w0 w1 w2 w3 : Vec Ideal S1x1024x256 .bf16) (j : S1024x1024.Idx) :
    k0_pay2 d0 w0 d1 w1 d2 w2 d3 w3 j = k0_pay1 d0 w0 d1 w1 d2 w2 d3 w3 j := by
  rw [k0_pay2]
  generalize k0_pay1 d0 w0 d1 w1 d2 w2 d3 w3 = p
  pointwise

theorem next_at (d0 d1 d2 d3 : Vec Ideal S1024x256 .bf16) (w0 w1 w2 w3 : Vec Ideal S1x1024x256 .bf16) (s : Vec Ideal S1024x1024 .f32)
    (j : S1024x1024.Idx) : k0_pay3 d0 w0 d1 w1 d2 w2 d3 w3 s j = (s j : EReal) + k0_pay1 d0 w0 d1 w1 d2 w2 d3 w3 j := by
  rw [k0_pay3]
  generalize k0_pay1 d0 w0 d1 w1 d2 w2 d3 w3 = p
  pointwise

/-- The four blocks of columns of `d`, and of `w`, at a grid point. -/
abbrev dcols (c : Dev nD) (t : Fin cfg0.N) (p : Fin 4) : Vec Ideal S1024x256 .bf16 :=
  colsFrom (n := 1024) (a := 1024) (b := 256) (p.val * 256) (by omega) (iblk m c 0 t)

abbrev wblock (c : Dev nD) (t : Fin cfg0.N) (p : Fin 4) : Vec Ideal S1x1024x256 .bf16 :=
  slab (n := 4) (a := 1024) (b := 256) p.val p.isLt (iblk m c 1 t)

/-- What a grid point adds to the accumulator. -/
abbrev part (c : Dev nD) (t : Fin cfg0.N) : FVec Ideal S1024x1024 .f32 :=
  k0_pay1 (dcols m c t 0) (wblock m c t 0) (dcols m c t 1) (wblock m c t 1) (dcols m c t 2) (wblock m c t 2) (dcols m c t 3) (wblock m c t 3)

/-- The whole product's term `k` in row `r` and column `s`. -/
abbrev term (c : Dev nD) (r s k : ℕ) : EReal :=
  partTerm (m ((c : Thread nD τ).loc main_arg0)) (m ((c : Thread nD τ).loc main_arg1)) r s k

/-- Each of the four is a block of terms of the whole. -/
theorem dot_at (c : Dev nD) (t : Fin cfg0.N) (p : Fin 4) (r s : Fin 1024) : dot (dcols m c t p) (wblock m c t p) r s
    = ∑ k : Fin 256, term m c (t.val / 2 * 1024 + r.val) s.val ((t.val % 2 * 4 + p.val) * 256 + k) := by
  rw [dot]
  refine Finset.sum_congr (M := EReal) rfl fun k _ => congrArg₂ (fun a b : EReal => a * b) ?_ ?_
  all_goals
    have hk : k.val < 256 := k.isLt
    first | rw [wblock, slab] | rw [dcols, colsFrom]
    blk_simp [iblk, V, place t]
    first | refine (at3_eq _ _ ?_ ?_ ?_).symm | refine (at2_eq _ _ ?_ ?_).symm
    all_goals blk_simp [place t]
    all_goals first | omega | (dsimp only; omega)

/-- A grid point's product is four blocks of terms of the whole. -/
theorem part_at (c : Dev nD) (t : Fin cfg0.N) (j : S1024x1024.Idx) : part m c t j
    = (∑ k : Fin 256, term m c (t.val / 2 * 1024 + (j 0).val) (j 1).val ((t.val % 2 * 4) * 256 + k) : EReal)
      + ((∑ k : Fin 256, term m c (t.val / 2 * 1024 + (j 0).val) (j 1).val ((t.val % 2 * 4 + 1) * 256 + k))
      + ((∑ k : Fin 256, term m c (t.val / 2 * 1024 + (j 0).val) (j 1).val ((t.val % 2 * 4 + 2) * 256 + k))
      + ∑ k : Fin 256, term m c (t.val / 2 * 1024 + (j 0).val) (j 1).val ((t.val % 2 * 4 + 3) * 256 + k))) := by
  refine (pay_at _ _ _ _ _ _ _ _ _).trans (Eq.trans ?_ ((add_assoc (G := EReal) _ _ _).trans (add_assoc (G := EReal) _ _ _)))
  exact congrArg₂ (fun a b : EReal => a + b) (congrArg₂ (fun a b : EReal => a + b) (congrArg₂ (fun a b : EReal => a + b)
    (dot_at m c t 0 _ _) (dot_at m c t 1 _ _)) (dot_at m c t 2 _ _)) (dot_at m c t 3 _ _)

theorem sum_A (c : Dev nD) (t : Fin cfg0.N) (h0 : t.val % 2 = 0) (j : S1024x1024.Idx) :
    (outsAt0 m c t.val t.isLt).2 j = part m c t j := by
  rw [outsAt0_A m c t h0 (by omega) (by omega)]
  dsimp only
  frame_open
  frame_out
  rw [ld_cols 0 (by decide), ld_cols 256 (by decide), ld_cols 512 (by decide), ld_cols 768 (by decide),
    ld_slab 0 (by decide), ld_slab 1 (by decide), ld_slab 2 (by decide), ld_slab 3 (by decide)]
  exact first_at _ _ _ _ _ _ _ _ _

theorem sum_B (c : Dev nD) (t : Fin cfg0.N) (h0 : t.val % 2 = 1) {hp : t.val - 1 < cfg0.N} (j : S1024x1024.Idx) :
    (outsAt0 m c t.val t.isLt).2 j = ((outsAt0 m c (t.val - 1) hp).2 j : EReal) + part m c t j := by
  rw [outsAt0_B m c t (by omega) h0 h0]
  dsimp only
  frame_open
  frame_out
  rw [read_unread_whole]
  rw [ld_cols 0 (by decide), ld_cols 256 (by decide), ld_cols 512 (by decide), ld_cols 768 (by decide),
    ld_slab 0 (by decide), ld_slab 1 (by decide), ld_slab 2 (by decide), ld_slab 3 (by decide)]
  exact next_at _ _ _ _ _ _ _ _ _ _

theorem out_B (c : Dev nD) (t : Fin cfg0.N) (h0 : t.val % 2 = 1) :
    (outsAt0 m c t.val t.isLt).1 = (outsAt0 m c t.val t.isLt).2 := by
  rw [outsAt0_B m c t (by omega) h0 h0]
  dsimp only
  frame_open
  frame_out

/-- After each point the accumulator holds the product's terms so far. -/
theorem sum_at (c : Dev nD) : ∀ (n : ℕ) (h : n < cfg0.N) (j : S1024x1024.Idx), (outsAt0 m c n h).2 j
    = ∑ k ∈ Finset.range ((n % 2 * 4 + 3 + 1) * 256), term m c (n / 2 * 1024 + (j 0).val) (j 1).val k := by
  intro n
  induction n using Nat.strong_induction_on with
  | _ n ih =>
    intro h j
    rw [sum_block, sum_block _ (n % 2 * 4 + 2), sum_block _ (n % 2 * 4 + 1), sum_block, add_assoc, add_assoc, add_assoc,
      ← part_at m c ⟨n, h⟩ j]
    by_cases h0 : n % 2 = 0
    · rw [sum_A m c ⟨n, h⟩ h0, h0, Nat.zero_mul, Finset.range_zero, Finset.sum_empty, zero_add]
    · have hp : n - 1 < cfg0.N := by omega
      have h1 : n % 2 = 1 := by omega
      rw [sum_B m c ⟨n, h⟩ h1 (hp := hp), ih (n - 1) (by omega) hp j, show (n - 1) / 2 = n / 2 by omega,
        show (n - 1) % 2 * 4 + 3 + 1 = n % 2 * 4 by omega]

theorem arr (c : Dev nD) : (dats m 0 c).arrAt 2 cfg0.N
    = backParts (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  blk_simp [place t]
  rw [after0_2, out_B m c t h1]
  refine (sum_at m c _ _ _).trans ?_
  rw [h1, backParts]
  blk_simp [place t]

end Cert.Ffn.Dy

namespace Cert.Ffn.Dy

open Cert.DyRefIdeal Cert.DyRefIdeal.Read Idealize.ShloMosaic

theorem ref (d : Vec Ideal S2048x2048 .bf16) (w : Vec Ideal S8x1024x256 .bf16) : val_main_v6 (F := Ideal) d w = backParts d w := by
  funext i
  rw [val_main_v6_apply, backParts, Finset.sum_range]
  refine Finset.sum_congr (M := EReal) rfl fun k _ => ?_
  simp only [val_main_v5_apply, val_main_v3_apply, val_main_v2_apply, val_main_v1_apply, Ideal.extf_def]
  refine congrArg₂ (fun a b : EReal => a * b) (at2_eq d (lidx_main_v6 i k) rfl rfl).symm (at3_eq w _ ?_ ?_ ?_).symm
  all_goals have := k.isLt
  · change ((i 1).val * 2048 + k.val) / 256 % 8 = _
    omega
  · change ((i 1).val * 2048 + k.val) / 2048 = _
    omega
  · change ((i 1).val * 2048 + k.val) % 256 = _
    omega

end Cert.Ffn.Dy

end
-- ==== Proof.Ffn.DwProj.lean ====
/- The gradient of a branch's projection weights, in blocks of columns. -/
module

public import proofs.«01_k».proof.Proof.Ffn.Dense
public import proofs.«01_k».proof.Proof.Gen.DwProjIdeal.Value
public import proofs.«01_k».proof.Proof.Gen.DwProjRefIdeal.Read

@[expose] public section

set_option maxRecDepth 16384

noncomputable section

namespace Cert.Ffn.DwProj

open Cert.DwProjIdeal Cert.DwProjIdeal.Gen Idealize.ShloMosaic Idealize.ShloMosaic.TcCoe
open Idealize.ShloMosaic.Pipeline (Dat)

variable (m : (ℓ : Loc nD τ sig) → Buf (Elt Ideal) ℓ)

theorem place (t : Fin cfg0.N) : win0_0.index t = ![0, (grid0.coords t 0).val] ∧ win0_1.index t = ![0, (grid0.coords t 1).val] ∧ win0_2.index t = ![(grid0.coords t 1).val, (grid0.coords t 0).val, 0] :=
  (by decide +kernel : ∀ t : Fin grid0.N, win0_0.index t = ![0, (grid0.coords t 0).val] ∧ win0_1.index t = ![0, (grid0.coords t 1).val] ∧ win0_2.index t = ![(grid0.coords t 1).val, (grid0.coords t 0).val, 0]) t

theorem pay_at (y : Vec Ideal S2048x1024 .bf16) (d : Vec Ideal S2048x256 .bf16) (j : S1x1024x256.Idx) :
    k0_pay1 y d j = ∑ k : Fin 2048, y (ix2 (n0 := 2048) (n1 := 1024) k (j 1)) * d (ix2 (n0 := 2048) (n1 := 256) k (j 2)) := by
  rw [k0_pay1]
  pointwise

theorem arr (c : Dev nD) : (dats m 0 c).arrAt 2 cfg0.N = gradParts (m ((c : Thread nD τ).loc main_arg0)) (m ((c : Thread nD τ).loc main_arg1)) := by
  refine (dats m 0 c).arrAt_eq_of_covers 2 _ (by decide +kernel) fun t hf y => ?_
  blk_simp [place t]
  rw [after0_2]
  frame_out
  refine (pay_at _ _ _).trans (Finset.sum_congr (M := EReal) rfl fun k _ => ?_)
  congr 1 <;> blk_ext [iblk, V, place t]

end Cert.Ffn.DwProj

namespace Cert.Ffn.DwProj

open Cert.DwProjRefIdeal Cert.DwProjRefIdeal.Read Idealize.ShloMosaic

theorem ref (y : Vec Ideal S2048x1024 .bf16) (d : Vec Ideal S2048x2048 .bf16) : val_main_v8 (F := Ideal) y d = gradParts y d := by
  funext i
  simp only [val_main_v8_apply, val_main_v7_apply, val_main_v6_apply, val_main_v5_apply, val_main_v4_apply, val_main_v3_apply,
    val_main_v1_apply]
  rw [gradParts]
  refine Finset.sum_congr rfl fun k _ => ?_
  simp only [Ideal.extf_def]
  rw [mul_comm]
  congr 1 <;> blk_ext

end Cert.Ffn.DwProj

end
-- ==== Proof.Ffn.DenseClaims.lean ====
/- The claims of the projections into and out of the branches: the references' frames and the equality of the results. -/
module

public import proofs.«01_k».proof.Defs
public import proofs.«01_k».proof.Proof.Ffn.ProjIn
public import proofs.«01_k».proof.Proof.Gen.ProjInRefIdeal.Run
public import proofs.«01_k».proof.Proof.Ffn.FfnDown
public import proofs.«01_k».proof.Proof.Gen.FfnDownRefIdeal.Run
public import proofs.«01_k».proof.Proof.Ffn.OutProj
public import proofs.«01_k».proof.Proof.Gen.OutProjRefIdeal.Run
public import proofs.«01_k».proof.Proof.Ffn.DMerged
public import proofs.«01_k».proof.Proof.Gen.DMergedRefIdeal.Run
public import proofs.«01_k».proof.Proof.Ffn.DwOut
public import proofs.«01_k».proof.Proof.Gen.DwOutRefIdeal.Run
public import proofs.«01_k».proof.Proof.Ffn.ProjA
public import proofs.«01_k».proof.Proof.Gen.ProjARefIdeal.Run
public import proofs.«01_k».proof.Proof.Ffn.Merge
public import proofs.«01_k».proof.Proof.Gen.MergeRefIdeal.Run
public import proofs.«01_k».proof.Proof.Ffn.Dy
public import proofs.«01_k».proof.Proof.Gen.DyRefIdeal.Run
public import proofs.«01_k».proof.Proof.Ffn.DwProj
public import proofs.«01_k».proof.Proof.Gen.DwProjRefIdeal.Run
public import Idealize.ShloMosaic.Lib.Claim
public import Idealize.ShloMosaic.Lib.Quiescent
public import Idealize.ShloMosaic.Adequacy
public import Idealize.ShloMosaic.Init

@[expose] public section

noncomputable section

namespace Cert.Ffn

open Idealize.ShloMosaic Idealize.SL.Sem

/-! The references run, their arguments end unchanged, and every semaphore counter ends at zero. -/

theorem ProjIn.frame_ref : quiescent_ProjInRefIdeal (hProjInRefIdeal := Cert.ProjInRefIdeal.Gen.facts) := fun m g _ => by
  hlo_run
  exacts [fun _ => ⟨trivial, trivial⟩, sem_eq_zero_of_no_sems (sig := Cert.ProjInRefIdeal.sig) (by decide) _]

theorem FfnDown.frame_ref : quiescent_FfnDownRefIdeal (hFfnDownRefIdeal := Cert.FfnDownRefIdeal.Gen.facts) := fun m g _ => by
  hlo_run
  exacts [fun _ => ⟨trivial, trivial, trivial⟩, sem_eq_zero_of_no_sems (sig := Cert.FfnDownRefIdeal.sig) (by decide) _]

theorem OutProj.frame_ref : quiescent_OutProjRefIdeal (hOutProjRefIdeal := Cert.OutProjRefIdeal.Gen.facts) := fun m g _ => by
  hlo_run
  exacts [fun _ => ⟨trivial, trivial, trivial⟩, sem_eq_zero_of_no_sems (sig := Cert.OutProjRefIdeal.sig) (by decide) _]

theorem DMerged.frame_ref : quiescent_DMergedRefIdeal (hDMergedRefIdeal := Cert.DMergedRefIdeal.Gen.facts) := fun m g _ => by
  hlo_run
  exacts [fun _ => ⟨trivial, trivial⟩, sem_eq_zero_of_no_sems (sig := Cert.DMergedRefIdeal.sig) (by decide) _]

theorem DwOut.frame_ref : quiescent_DwOutRefIdeal (hDwOutRefIdeal := Cert.DwOutRefIdeal.Gen.facts) := fun m g _ => by
  hlo_run
  exacts [fun _ => ⟨trivial, trivial⟩, sem_eq_zero_of_no_sems (sig := Cert.DwOutRefIdeal.sig) (by decide) _]

theorem ProjA.frame_ref : quiescent_ProjARefIdeal (hProjARefIdeal := Cert.ProjARefIdeal.Gen.facts) := fun m g _ => by
  hlo_run
  exacts [fun _ => ⟨trivial, trivial, trivial⟩, sem_eq_zero_of_no_sems (sig := Cert.ProjARefIdeal.sig) (by decide) _]

theorem Merge.frame_ref : quiescent_MergeRefIdeal (hMergeRefIdeal := Cert.MergeRefIdeal.Gen.facts) := fun m g _ => by
  hlo_run
  exacts [fun _ => ⟨trivial, trivial, trivial, trivial⟩, sem_eq_zero_of_no_sems (sig := Cert.MergeRefIdeal.sig) (by decide) _]

theorem Dy.frame_ref : quiescent_DyRefIdeal (hDyRefIdeal := Cert.DyRefIdeal.Gen.facts) := fun m g _ => by
  hlo_run
  exacts [fun _ => ⟨trivial, trivial⟩, sem_eq_zero_of_no_sems (sig := Cert.DyRefIdeal.sig) (by decide) _]

theorem DwProj.frame_ref : quiescent_DwProjRefIdeal (hDwProjRefIdeal := Cert.DwProjRefIdeal.Gen.facts) := fun m g _ => by
  hlo_run
  exacts [fun _ => ⟨trivial, trivial⟩, sem_eq_zero_of_no_sems (sig := Cert.DwProjRefIdeal.sig) (by decide) _]

/-! The kernels' results are the references'. -/

/-- The input projection. -/
theorem ProjIn.values : algebraic_ProjInIdeal_ProjInRefIdeal (hProjInIdeal := Cert.ProjInIdeal.Gen.facts) (hProjInRefIdeal := Cert.ProjInRefIdeal.Gen.facts) := by
  intro m g m' g' _ hagree
  refine ⟨_, Cert.ProjInIdeal.Value.run_blocks m g, (θ_run _ _ _).mono (fun r h c => ?_) (Cert.ProjInRefIdeal.Value.run m' g')⟩
  obtain ⟨a0, a1⟩ := hagree c
  obtain ⟨r0, k⟩ := h c
  refine ⟨r0.trans ?_, k⟩
  · rw [Cert.ProjInRefIdeal.Read.val_main_v2_eq, a0, a1]
    exact (ProjIn.ref _ _).trans (ProjIn.arr m c).symm

/-- The down projection, added to what the layer has so far. -/
theorem FfnDown.values : algebraic_FfnDownIdeal_FfnDownRefIdeal (hFfnDownIdeal := Cert.FfnDownIdeal.Gen.facts) (hFfnDownRefIdeal := Cert.FfnDownRefIdeal.Gen.facts) := by
  intro m g m' g' _ hagree
  refine ⟨_, Cert.FfnDownIdeal.Value.run_blocks m g, (θ_run _ _ _).mono (fun r h c => ?_) (Cert.FfnDownRefIdeal.Value.run m' g')⟩
  obtain ⟨a0, a1, a2⟩ := hagree c
  obtain ⟨r0, k⟩ := h c
  refine ⟨r0.trans ?_, k⟩
  · rw [Cert.FfnDownRefIdeal.Read.val_main_v5_eq, a0, a1, a2]
    exact (FfnDown.ref _ _ _).trans (FfnDown.arr m c).symm

/-- The output projection, added to the layer's input. -/
theorem OutProj.values : algebraic_OutProjIdeal_OutProjRefIdeal (hOutProjIdeal := Cert.OutProjIdeal.Gen.facts) (hOutProjRefIdeal := Cert.OutProjRefIdeal.Gen.facts) := by
  intro m g m' g' _ hagree
  refine ⟨_, Cert.OutProjIdeal.Value.run_blocks m g, (θ_run _ _ _).mono (fun r h c => ?_) (Cert.OutProjRefIdeal.Value.run m' g')⟩
  obtain ⟨a0, a1, a2⟩ := hagree c
  obtain ⟨r0, k⟩ := h c
  refine ⟨r0.trans ?_, k⟩
  · rw [Cert.OutProjRefIdeal.Read.val_main_v3_eq, a0, a1, a2]
    exact (OutProj.ref _ _ _).trans (OutProj.arr m c).symm

/-- The gradient the output projection passes to the merged branches. -/
theorem DMerged.values : algebraic_DMergedIdeal_DMergedRefIdeal (hDMergedIdeal := Cert.DMergedIdeal.Gen.facts) (hDMergedRefIdeal := Cert.DMergedRefIdeal.Gen.facts) := by
  intro m g m' g' _ hagree
  refine ⟨_, Cert.DMergedIdeal.Value.run_blocks m g, (θ_run _ _ _).mono (fun r h c => ?_) (Cert.DMergedRefIdeal.Value.run m' g')⟩
  obtain ⟨a0, a1⟩ := hagree c
  obtain ⟨r0, k⟩ := h c
  refine ⟨r0.trans ?_, k⟩
  · rw [Cert.DMergedRefIdeal.Read.val_main_v4_eq, a0, a1]
    exact (DMerged.ref _ _).trans (DMerged.arr m c).symm

/-- The gradient of the output projection's weights. -/
theorem DwOut.values : algebraic_DwOutIdeal_DwOutRefIdeal (hDwOutIdeal := Cert.DwOutIdeal.Gen.facts) (hDwOutRefIdeal := Cert.DwOutRefIdeal.Gen.facts) := by
  intro m g m' g' _ hagree
  refine ⟨_, Cert.DwOutIdeal.Value.run_blocks m g, (θ_run _ _ _).mono (fun r h c => ?_) (Cert.DwOutRefIdeal.Value.run m' g')⟩
  obtain ⟨a0, a1⟩ := hagree c
  obtain ⟨r0, k⟩ := h c
  refine ⟨r0.trans ?_, k⟩
  · rw [Cert.DwOutRefIdeal.Read.val_main_v6_eq, a0, a1]
    exact (DwOut.ref _ _).trans (DwOut.arr m c).symm

/-- The projection of the recurrent branch. -/
theorem ProjA.values : algebraic_ProjAIdeal_ProjARefIdeal (hProjAIdeal := Cert.ProjAIdeal.Gen.facts) (hProjARefIdeal := Cert.ProjARefIdeal.Gen.facts) := by
  intro m g m' g' _ hagree
  refine ⟨_, Cert.ProjAIdeal.Value.run_blocks m g, (θ_run _ _ _).mono (fun r h c => ?_) (Cert.ProjARefIdeal.Value.run m' g')⟩
  obtain ⟨a0, a1, _⟩ := hagree c
  obtain ⟨r0, k⟩ := h c
  refine ⟨r0.trans ?_, k⟩
  · rw [Cert.ProjARefIdeal.Read.val_main_v4_eq, a0, a1]
    exact (ProjA.ref _ _).trans (ProjA.arr m c).symm

/-- The projection of the gating branch and the merged branches. -/
theorem Merge.values : algebraic_MergeIdeal_MergeRefIdeal (hMergeIdeal := Cert.MergeIdeal.Gen.facts) (hMergeRefIdeal := Cert.MergeRefIdeal.Gen.facts) := by
  intro m g m' g' _ hagree
  refine ⟨_, _, Cert.MergeIdeal.Value.run_blocks m g, (θ_run _ _ _).mono (fun r h c => ?_) (Cert.MergeRefIdeal.Value.run m' g')⟩
  obtain ⟨a0, a1, a2, a3⟩ := hagree c
  obtain ⟨r0, r1, k⟩ := h c
  refine ⟨r0.trans ?_, r1.trans ?_, k⟩
  · rw [Cert.MergeRefIdeal.Read.val_main_v6_eq, a0, a1]
    exact (Merge.ref_prod _ _).trans (Merge.arr5 m c).symm
  · rw [Cert.MergeRefIdeal.Read.val_main_v22_eq, a0, a1, a2, a3]
    exact (Merge.ref_merged _ _ _ _).trans (Merge.arr6 m c).symm

/-- The gradient a branch's projection passes to the branch. -/
theorem Dy.values : algebraic_DyIdeal_DyRefIdeal (hDyIdeal := Cert.DyIdeal.Gen.facts) (hDyRefIdeal := Cert.DyRefIdeal.Gen.facts) := by
  intro m g m' g' _ hagree
  refine ⟨_, Cert.DyIdeal.Value.run_blocks m g, (θ_run _ _ _).mono (fun r h c => ?_) (Cert.DyRefIdeal.Value.run m' g')⟩
  obtain ⟨a0, a1⟩ := hagree c
  obtain ⟨r0, k⟩ := h c
  refine ⟨r0.trans ?_, k⟩
  · rw [Cert.DyRefIdeal.Read.val_main_v6_eq, a0, a1]
    exact (Dy.ref _ _).trans (Dy.arr m c).symm

/-- The gradient of a branch's projection weights. -/
theorem DwProj.values : algebraic_DwProjIdeal_DwProjRefIdeal (hDwProjIdeal := Cert.DwProjIdeal.Gen.facts) (hDwProjRefIdeal := Cert.DwProjRefIdeal.Gen.facts) := by
  intro m g m' g' _ hagree
  refine ⟨_, Cert.DwProjIdeal.Value.run_blocks m g, (θ_run _ _ _).mono (fun r h c => ?_) (Cert.DwProjRefIdeal.Value.run m' g')⟩
  obtain ⟨a0, a1⟩ := hagree c
  obtain ⟨r0, k⟩ := h c
  refine ⟨r0.trans ?_, k⟩
  · rw [Cert.DwProjRefIdeal.Read.val_main_v8_eq, a0, a1]
    exact (DwProj.ref _ _).trans (DwProj.arr m c).symm

end Cert.Ffn

end
-- ==== Proof.Step.AdamSpec.lean ====
/- The optimiser's step on a weight, entry by entry, from the gradients of `n` devices. -/
module

public import Idealize.ShloMosaic.Lib.Pipeline.ValueKit
public import Idealize.ShloMosaic.Lib.Pointwise
public import Idealize.ShloMosaic.Lib.Claim

@[expose] public section

noncomputable section

namespace Cert.Step

open Idealize.ShloMosaic

variable {n r c : ℕ}

/-- The gradients of the devices, added. -/
def total (p : (⟨3, ![n, r, c]⟩ : Shape).Idx → EReal) : Vec Ideal ⟨2, ![r, c]⟩ .f32 := fun i =>
  ∑ k : Fin n, p (ix3 (n0 := n) (n1 := r) (n2 := c) k (i 0) (i 1))

/-- The place of entry `j` of a matrix in that matrix with a leading axis of one. -/
abbrev slot {a b : ℕ} (j : (⟨2, ![a, b]⟩ : Shape).Idx) : (⟨3, ![1, a, b]⟩ : Shape).Idx := ix3 (n0 := 1) (n1 := a) (n2 := b) 0 (j 0) (j 1)

theorem inb_part (k : Fin n) (d : Fin 3) : (![k.val, 0, 0] : Fin 3 → ℕ) d + (![1, r, c] : Fin 3 → ℕ) d ≤ (⟨3, ![n, r, c]⟩ : Shape).size d := by
  have h := k.isLt
  fin_cases d <;> simp <;> omega

/-- One device's gradient, read from the array of all of them. -/
abbrev part {e : EltTy} (x : Vec Ideal ⟨3, ![n, r, c]⟩ e) (k : Fin n) : Vec Ideal ⟨3, ![1, r, c]⟩ e :=
  View.ld (Val := Elt Ideal) x (Rect.unit ![k.val, 0, 0] ![1, r, c] (inb_part k))

theorem part_slot {e : EltTy} (x : Vec Ideal ⟨3, ![n, r, c]⟩ e) (k : Fin n) (j : (⟨2, ![r, c]⟩ : Shape).Idx) :
    part x k (slot j) = x (ix3 (n0 := n) (n1 := r) (n2 := c) k (j 0) (j 1)) := by
  refine View.ld_unit_apply_of _ _ _ _ _ (ix3 (n0 := n) (n1 := r) (n2 := c) k (j 0) (j 1)) fun d => ?_
  fin_cases d <;> simp <;> rfl

/-- Eight gradients, added one after the other. -/
theorem total_eight {p : (⟨3, ![8, r, c]⟩ : Shape).Idx → EReal} {i : (⟨2, ![r, c]⟩ : Shape).Idx} {g : Fin 8 → EReal}
    (h : ∀ k, g k = p (ix3 (n0 := 8) (n1 := r) (n2 := c) k (i 0) (i 1))) :
    g 0 + g 1 + g 2 + g 3 + g 4 + g 5 + g 6 + g 7 = total p i := by
  rw [funext h]
  exact (Fin.sum_univ_eight (M := EReal) fun k => p (ix3 (n0 := 8) (n1 := r) (n2 := c) k (i 0) (i 1))).symm

/-- Four gradients, added one after the other. -/
theorem total_four {p : (⟨3, ![4, r, c]⟩ : Shape).Idx → EReal} {i : (⟨2, ![r, c]⟩ : Shape).Idx} {g : Fin 4 → EReal}
    (h : ∀ k, g k = p (ix3 (n0 := 4) (n1 := r) (n2 := c) k (i 0) (i 1))) :
    g 0 + g 1 + g 2 + g 3 = total p i := by
  rw [funext h]
  exact (Fin.sum_univ_four (M := EReal) fun k => p (ix3 (n0 := 4) (n1 := r) (n2 := c) k (i 0) (i 1))).symm

/-- The running mean of the gradient, after the gradient `g`. -/
def mean (m g : EReal) : EReal :=
  Ideal.ofBits .f32 0x3F666666#32 * m + Ideal.ofBits .f32 0x3DCCCCCD#32 * g

/-- The running mean of the gradient's square, after the gradient `g`. -/
def meanSq (v g : EReal) : EReal :=
  Ideal.ofBits .f32 0x3F7FBE77#32 * v + Ideal.ofBits .f32 0x3A83126F#32 * (g * g)

/-- The change of the weight `w`, from the two running means. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

def means (m : Vec Ideal ⟨2, ![r, c]⟩ .f32) (p : (⟨3, ![n, r, c]⟩ : Shape).Idx → EReal) : Vec Ideal ⟨2, ![r, c]⟩ .f32 := fun i =>
  mean (m i) (total p i)

def meanSqs (v : Vec Ideal ⟨2, ![r, c]⟩ .f32) (p : (⟨3, ![n, r, c]⟩ : Shape).Idx → EReal) : Vec Ideal ⟨2, ![r, c]⟩ .f32 := fun i =>
  meanSq (v i) (total p i)

def changes (w m v : Vec Ideal ⟨2, ![r, c]⟩ .f32) (p : (⟨3, ![n, r, c]⟩ : Shape).Idx → EReal) : Vec Ideal ⟨2, ![r, c]⟩ .f32 := fun i =>
  change (w i) (means m p i) (meanSqs v p i)

/-! An entry of a result, from the entries that it is computed from. -/

section

variable {w m v : Vec Ideal ⟨2, ![r, c]⟩ .f32} {p : (⟨3, ![n, r, c]⟩ : Shape).Idx → EReal} {i : (⟨2, ![r, c]⟩ : Shape).Idx} {w' m' v' g' : EReal}

theorem means_of (hm : m' = m i) (hg : g' = total p i) : mean m' g' = means m p i := by rw [hm, hg, means]

theorem meanSqs_of (hv : v' = v i) (hg : g' = total p i) : meanSq v' g' = meanSqs v p i := by rw [hv, hg, meanSqs]

theorem changes_of (hw : w' = w i) (hm : m' = m i) (hv : v' = v i) (hg : g' = total p i) :
    change w' (mean m' g') (meanSq v' g') = changes w m v p i := by rw [hw, hm, hv, hg, changes, means, meanSqs]

end

end Cert.Step

end
-- ==== Proof.Step.AdamFfn.lean ====
/- The optimiser's step on the weights of the SwiGLU unit's gate and up projection. -/
module

public import proofs.«01_k».proof.Proof.Step.AdamSpec
public import proofs.«01_k».proof.Proof.Gen.AdamFfnIdeal.Value
public import proofs.«01_k».proof.Proof.Gen.AdamFfnRefIdeal.Read

@[expose] public section

set_option maxRecDepth 16384

noncomputable section

namespace Cert.Step.AdamFfn

open Cert.AdamFfnIdeal Cert.AdamFfnIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 v4 v5 v6 v7 : Vec Ideal S1x256x704 .bf16) (j : S256x704.Idx) : k0_pay4 (F := Ideal) v0 v1 v2 v3 v4 v5 v6 v7 j
    = (v0 (slot (a := 256) (b := 704) j) : EReal) + v1 (slot (a := 256) (b := 704) j) + v2 (slot (a := 256) (b := 704) j) + v3 (slot (a := 256) (b := 704) j)
      + v4 (slot (a := 256) (b := 704) j) + v5 (slot (a := 256) (b := 704) j) + v6 (slot (a := 256) (b := 704) j) + v7 (slot (a := 256) (b := 704) j) := by
  rw [k0_pay4]
  pointwise

/-- What point `t` reads for entry `j` of its blocks, which is entry `i` of the arrays. -/
theorem reads (t : Fin cfg0.N) (j : S256x704.Idx) (i : S2048x704.Idx) (hi : (i 0).val = (grid0.coords t 0).val * 256 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 8) (n1 := 256) (n2 := 704) k (j 0) (j 1)) = m ((c : Thread nD τ).loc main_arg3) (ix3 (n0 := 8) (n1 := 2048) (n2 := 704) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S256x704.Idx) (i : S2048x704.Idx) (hi : (i 0).val = (grid0.coords t 0).val * 256 + (j 0).val ∧ (i 1).val = (j 1).val) :
    (dats m 0 c).after 4 t j = total (n := 8) (r := 2048) (c := 704) (m ((c : Thread nD τ).loc main_arg3)) i
    ∧ (dats m 0 c).after 5 t j = changes (n := 8) (r := 2048) (c := 704) (m ((c : Thread nD τ).loc main_arg0)) (m ((c : Thread nD τ).loc main_arg1))
        (m ((c : Thread nD τ).loc main_arg2)) (m ((c : Thread nD τ).loc main_arg3)) i
    ∧ (dats m 0 c).after 6 t j = means (n := 8) (r := 2048) (c := 704) (m ((c : Thread nD τ).loc main_arg1)) (m ((c : Thread nD τ).loc main_arg3)) i
    ∧ (dats m 0 c).after 7 t j = meanSqs (n := 8) (r := 2048) (c := 704) (m ((c : Thread nD τ).loc main_arg2)) (m ((c : Thread nD τ).loc main_arg3)) i := by
  obtain ⟨hw, hm, hv, hp⟩ := reads m c t j i hi
  have hg := (added_at _ _ _ _ _ _ _ _ j).trans (total_eight (g := fun k => part (n := 8) (r := 256) (c := 704) (iblk m c 3 t) k (slot (a := 256) (b := 704) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 8) (r := 2048) (c := 704) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 8) (r := 2048) (c := 704) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 8) (r := 2048) (c := 704) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 8) (r := 2048) (c := 704) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamFfn

namespace Cert.Step.AdamFfn

open Cert.AdamFfnRefIdeal Cert.AdamFfnRefIdeal.Read Idealize.ShloMosaic

variable (w a b : Vec Ideal S2048x704 .f32) (p : Vec Ideal S8x2048x704 .bf16)

theorem ref_total : val_main_v1 (F := Ideal) p = total (n := 8) (r := 2048) (c := 704) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 8) a p := funext fun i => means_of (m' := a i) rfl (congrFun (ref_total p) i)

theorem ref_meanSq : val_main_v12 (F := Ideal) b p = meanSqs (n := 8) b p := funext fun i => meanSqs_of (v' := b i) rfl (congrFun (ref_total p) i)

theorem ref_change : val_main_v25 (F := Ideal) w a b p = changes (n := 8) w a b p :=
  funext fun i => changes_of (w' := w i) (m' := a i) (v' := b i) rfl rfl rfl (congrFun (ref_total p) i)

end Cert.Step.AdamFfn

end
-- ==== Proof.Step.AdamDown.lean ====
/- The optimiser's step on the weights of the SwiGLU unit's down projection. -/
module

public import proofs.«01_k».proof.Proof.Step.AdamSpec
public import proofs.«01_k».proof.Proof.Gen.AdamDownIdeal.Value
public import proofs.«01_k».proof.Proof.Gen.AdamDownRefIdeal.Read

@[expose] public section

set_option maxRecDepth 16384

noncomputable section

namespace Cert.Step.AdamDown

open Cert.AdamDownIdeal Cert.AdamDownIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 v4 v5 v6 v7 : Vec Ideal S1x64x2048 .bf16) (j : S64x2048.Idx) : k0_pay4 (F := Ideal) v0 v1 v2 v3 v4 v5 v6 v7 j
    = (v0 (slot (a := 64) (b := 2048) j) : EReal) + v1 (slot (a := 64) (b := 2048) j) + v2 (slot (a := 64) (b := 2048) j) + v3 (slot (a := 64) (b := 2048) j)
      + v4 (slot (a := 64) (b := 2048) j) + v5 (slot (a := 64) (b := 2048) j) + v6 (slot (a := 64) (b := 2048) j) + v7 (slot (a := 64) (b := 2048) j) := by
  rw [k0_pay4]
  pointwise

/-- What point `t` reads for entry `j` of its blocks, which is entry `i` of the arrays. -/
theorem reads (t : Fin cfg0.N) (j : S64x2048.Idx) (i : S704x2048.Idx) (hi : (i 0).val = (grid0.coords t 0).val * 64 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 8) (n1 := 64) (n2 := 2048) k (j 0) (j 1)) = m ((c : Thread nD τ).loc main_arg3) (ix3 (n0 := 8) (n1 := 704) (n2 := 2048) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S64x2048.Idx) (i : S704x2048.Idx) (hi : (i 0).val = (grid0.coords t 0).val * 64 + (j 0).val ∧ (i 1).val = (j 1).val) :
    (dats m 0 c).after 4 t j = total (n := 8) (r := 704) (c := 2048) (m ((c : Thread nD τ).loc main_arg3)) i
    ∧ (dats m 0 c).after 5 t j = changes (n := 8) (r := 704) (c := 2048) (m ((c : Thread nD τ).loc main_arg0)) (m ((c : Thread nD τ).loc main_arg1))
        (m ((c : Thread nD τ).loc main_arg2)) (m ((c : Thread nD τ).loc main_arg3)) i
    ∧ (dats m 0 c).after 6 t j = means (n := 8) (r := 704) (c := 2048) (m ((c : Thread nD τ).loc main_arg1)) (m ((c : Thread nD τ).loc main_arg3)) i
    ∧ (dats m 0 c).after 7 t j = meanSqs (n := 8) (r := 704) (c := 2048) (m ((c : Thread nD τ).loc main_arg2)) (m ((c : Thread nD τ).loc main_arg3)) i := by
  obtain ⟨hw, hm, hv, hp⟩ := reads m c t j i hi
  have hg := (added_at _ _ _ _ _ _ _ _ j).trans (total_eight (g := fun k => part (n := 8) (r := 64) (c := 2048) (iblk m c 3 t) k (slot (a := 64) (b := 2048) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 8) (r := 704) (c := 2048) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 8) (r := 704) (c := 2048) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 8) (r := 704) (c := 2048) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 8) (r := 704) (c := 2048) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamDown

namespace Cert.Step.AdamDown

open Cert.AdamDownRefIdeal Cert.AdamDownRefIdeal.Read Idealize.ShloMosaic

variable (w a b : Vec Ideal S704x2048 .f32) (p : Vec Ideal S8x704x2048 .bf16)

theorem ref_total : val_main_v1 (F := Ideal) p = total (n := 8) (r := 704) (c := 2048) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 8) a p := funext fun i => means_of (m' := a i) rfl (congrFun (ref_total p) i)

theorem ref_meanSq : val_main_v12 (F := Ideal) b p = meanSqs (n := 8) b p := funext fun i => meanSqs_of (v' := b i) rfl (congrFun (ref_total p) i)

theorem ref_change : val_main_v25 (F := Ideal) w a b p = changes (n := 8) w a b p :=
  funext fun i => changes_of (w' := w i) (m' := a i) (v' := b i) rfl rfl rfl (congrFun (ref_total p) i)

end Cert.Step.AdamDown

end
-- ==== Proof.Step.AdamProj.lean ====
/- The optimiser's step on the weights of a branch's projection. -/
module

public import proofs.«01_k».proof.Proof.Step.AdamSpec
public import proofs.«01_k».proof.Proof.Gen.AdamProjIdeal.Value
public import proofs.«01_k».proof.Proof.Gen.AdamProjRefIdeal.Read

@[expose] public section

set_option maxRecDepth 16384

noncomputable section

namespace Cert.Step.AdamProj

open Cert.AdamProjIdeal Cert.AdamProjIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 v4 v5 v6 v7 : Vec Ideal S1x256x256 .bf16) (j : S256x256.Idx) : k0_pay4 (F := Ideal) v0 v1 v2 v3 v4 v5 v6 v7 j
    = (v0 (slot (a := 256) (b := 256) j) : EReal) + v1 (slot (a := 256) (b := 256) j) + v2 (slot (a := 256) (b := 256) j) + v3 (slot (a := 256) (b := 256) j)
      + v4 (slot (a := 256) (b := 256) j) + v5 (slot (a := 256) (b := 256) j) + v6 (slot (a := 256) (b := 256) j) + v7 (slot (a := 256) (b := 256) j) := by
  rw [k0_pay4]
  pointwise

/-- What point `t` reads for entry `j` of its blocks, which is entry `i` of the arrays. -/
theorem reads (t : Fin cfg0.N) (j : S256x256.Idx) (i : S1024x256.Idx) (hi : (i 0).val = (grid0.coords t 0).val * 256 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 8) (n1 := 256) (n2 := 256) k (j 0) (j 1)) = m ((c : Thread nD τ).loc main_arg3) (ix3 (n0 := 8) (n1 := 1024) (n2 := 256) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S256x256.Idx) (i : S1024x256.Idx) (hi : (i 0).val = (grid0.coords t 0).val * 256 + (j 0).val ∧ (i 1).val = (j 1).val) :
    (dats m 0 c).after 4 t j = total (n := 8) (r := 1024) (c := 256) (m ((c : Thread nD τ).loc main_arg3)) i
    ∧ (dats m 0 c).after 5 t j = changes (n := 8) (r := 1024) (c := 256) (m ((c : Thread nD τ).loc main_arg0)) (m ((c : Thread nD τ).loc main_arg1))
        (m ((c : Thread nD τ).loc main_arg2)) (m ((c : Thread nD τ).loc main_arg3)) i
    ∧ (dats m 0 c).after 6 t j = means (n := 8) (r := 1024) (c := 256) (m ((c : Thread nD τ).loc main_arg1)) (m ((c : Thread nD τ).loc main_arg3)) i
    ∧ (dats m 0 c).after 7 t j = meanSqs (n := 8) (r := 1024) (c := 256) (m ((c : Thread nD τ).loc main_arg2)) (m ((c : Thread nD τ).loc main_arg3)) i := by
  obtain ⟨hw, hm, hv, hp⟩ := reads m c t j i hi
  have hg := (added_at _ _ _ _ _ _ _ _ j).trans (total_eight (g := fun k => part (n := 8) (r := 256) (c := 256) (iblk m c 3 t) k (slot (a := 256) (b := 256) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 8) (r := 1024) (c := 256) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 8) (r := 1024) (c := 256) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 8) (r := 1024) (c := 256) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 8) (r := 1024) (c := 256) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamProj

namespace Cert.Step.AdamProj

open Cert.AdamProjRefIdeal Cert.AdamProjRefIdeal.Read Idealize.ShloMosaic

variable (w a b : Vec Ideal S1024x256 .f32) (p : Vec Ideal S8x1024x256 .bf16)

theorem ref_total : val_main_v1 (F := Ideal) p = total (n := 8) (r := 1024) (c := 256) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 8) a p := funext fun i => means_of (m' := a i) rfl (congrFun (ref_total p) i)

theorem ref_meanSq : val_main_v12 (F := Ideal) b p = meanSqs (n := 8) b p := funext fun i => meanSqs_of (v' := b i) rfl (congrFun (ref_total p) i)

theorem ref_change : val_main_v25 (F := Ideal) w a b p = changes (n := 8) w a b p :=
  funext fun i => changes_of (w' := w i) (m' := a i) (v' := b i) rfl rfl rfl (congrFun (ref_total p) i)

end Cert.Step.AdamProj

end
-- ==== Proof.Step.AdamOut.lean ====
/- The optimiser's step on the weights of the output projection. -/
module

public import proofs.«01_k».proof.Proof.Step.AdamSpec
public import proofs.«01_k».proof.Proof.Gen.AdamOutIdeal.Value
public import proofs.«01_k».proof.Proof.Gen.AdamOutRefIdeal.Read

@[expose] public section

set_option maxRecDepth 16384

noncomputable section

namespace Cert.Step.AdamOut

open Cert.AdamOutIdeal Cert.AdamOutIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 v4 v5 v6 v7 : Vec Ideal S1x256x2048 .bf16) (j : S256x2048.Idx) : k0_pay4 (F := Ideal) v0 v1 v2 v3 v4 v5 v6 v7 j
    = (v0 (slot (a := 256) (b := 2048) j) : EReal) + v1 (slot (a := 256) (b := 2048) j) + v2 (slot (a := 256) (b := 2048) j) + v3 (slot (a := 256) (b := 2048) j)
      + v4 (slot (a := 256) (b := 2048) j) + v5 (slot (a := 256) (b := 2048) j) + v6 (slot (a := 256) (b := 2048) j) + v7 (slot (a := 256) (b := 2048) j) := by
  rw [k0_pay4]
  pointwise

/-- What point `t` reads for entry `j` of its blocks, which is entry `i` of the arrays. -/
theorem reads (t : Fin cfg0.N) (j : S256x2048.Idx) (i : S256x2048.Idx) (hi : (i 0).val = (grid0.coords t 0).val * 256 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 8) (n1 := 256) (n2 := 2048) k (j 0) (j 1)) = m ((c : Thread nD τ).loc main_arg3) (ix3 (n0 := 8) (n1 := 256) (n2 := 2048) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S256x2048.Idx) (i : S256x2048.Idx) (hi : (i 0).val = (grid0.coords t 0).val * 256 + (j 0).val ∧ (i 1).val = (j 1).val) :
    (dats m 0 c).after 4 t j = total (n := 8) (r := 256) (c := 2048) (m ((c : Thread nD τ).loc main_arg3)) i
    ∧ (dats m 0 c).after 5 t j = changes (n := 8) (r := 256) (c := 2048) (m ((c : Thread nD τ).loc main_arg0)) (m ((c : Thread nD τ).loc main_arg1))
        (m ((c : Thread nD τ).loc main_arg2)) (m ((c : Thread nD τ).loc main_arg3)) i
    ∧ (dats m 0 c).after 6 t j = means (n := 8) (r := 256) (c := 2048) (m ((c : Thread nD τ).loc main_arg1)) (m ((c : Thread nD τ).loc main_arg3)) i
    ∧ (dats m 0 c).after 7 t j = meanSqs (n := 8) (r := 256) (c := 2048) (m ((c : Thread nD τ).loc main_arg2)) (m ((c : Thread nD τ).loc main_arg3)) i := by
  obtain ⟨hw, hm, hv, hp⟩ := reads m c t j i hi
  have hg := (added_at _ _ _ _ _ _ _ _ j).trans (total_eight (g := fun k => part (n := 8) (r := 256) (c := 2048) (iblk m c 3 t) k (slot (a := 256) (b := 2048) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 8) (r := 256) (c := 2048) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 8) (r := 256) (c := 2048) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 8) (r := 256) (c := 2048) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 8) (r := 256) (c := 2048) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamOut

namespace Cert.Step.AdamOut

open Cert.AdamOutRefIdeal Cert.AdamOutRefIdeal.Read Idealize.ShloMosaic

variable (w a b : Vec Ideal S256x2048 .f32) (p : Vec Ideal S8x256x2048 .bf16)

theorem ref_total : val_main_v1 (F := Ideal) p = total (n := 8) (r := 256) (c := 2048) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 8) a p := funext fun i => means_of (m' := a i) rfl (congrFun (ref_total p) i)

theorem ref_meanSq : val_main_v12 (F := Ideal) b p = meanSqs (n := 8) b p := funext fun i => meanSqs_of (v' := b i) rfl (congrFun (ref_total p) i)

theorem ref_change : val_main_v25 (F := Ideal) w a b p = changes (n := 8) w a b p :=
  funext fun i => changes_of (w' := w i) (m' := a i) (v' := b i) rfl rfl rfl (congrFun (ref_total p) i)

end Cert.Step.AdamOut

end
-- ==== Proof.Step.AdamIn.lean ====
/- The optimiser's step on the weights of the input projection. -/
module

public import proofs.«01_k».proof.Proof.Step.AdamSpec
public import proofs.«01_k».proof.Proof.Gen.AdamInIdeal.Value
public import proofs.«01_k».proof.Proof.Gen.AdamInRefIdeal.Read

@[expose] public section

set_option maxRecDepth 16384

noncomputable section

namespace Cert.Step.AdamIn

open Cert.AdamInIdeal Cert.AdamInIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 : Vec Ideal S1x256x1208 .bf16) (j : S256x1208.Idx) : k0_pay2 (F := Ideal) v0 v1 v2 v3 j
    = (v0 (slot (a := 256) (b := 1208) j) : EReal) + v1 (slot (a := 256) (b := 1208) j) + v2 (slot (a := 256) (b := 1208) j) + v3 (slot (a := 256) (b := 1208) j) := by
  rw [k0_pay2]
  pointwise

/-- What point `t` reads for entry `j` of its blocks, which is entry `i` of the arrays. -/
theorem reads (t : Fin cfg0.N) (j : S256x1208.Idx) (i : S2048x1208.Idx) (hi : (i 0).val = (grid0.coords t 0).val * 256 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 4) (n1 := 256) (n2 := 1208) k (j 0) (j 1)) = m ((c : Thread nD τ).loc main_arg3) (ix3 (n0 := 4) (n1 := 2048) (n2 := 1208) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S256x1208.Idx) (i : S2048x1208.Idx) (hi : (i 0).val = (grid0.coords t 0).val * 256 + (j 0).val ∧ (i 1).val = (j 1).val) :
    (dats m 0 c).after 4 t j = total (n := 4) (r := 2048) (c := 1208) (m ((c : Thread nD τ).loc main_arg3)) i
    ∧ (dats m 0 c).after 5 t j = changes (n := 4) (r := 2048) (c := 1208) (m ((c : Thread nD τ).loc main_arg0)) (m ((c : Thread nD τ).loc main_arg1))
        (m ((c : Thread nD τ).loc main_arg2)) (m ((c : Thread nD τ).loc main_arg3)) i
    ∧ (dats m 0 c).after 6 t j = means (n := 4) (r := 2048) (c := 1208) (m ((c : Thread nD τ).loc main_arg1)) (m ((c : Thread nD τ).loc main_arg3)) i
    ∧ (dats m 0 c).after 7 t j = meanSqs (n := 4) (r := 2048) (c := 1208) (m ((c : Thread nD τ).loc main_arg2)) (m ((c : Thread nD τ).loc main_arg3)) i := by
  obtain ⟨hw, hm, hv, hp⟩ := reads m c t j i hi
  have hg := (added_at _ _ _ _ j).trans (total_four (g := fun k => part (n := 4) (r := 256) (c := 1208) (iblk m c 3 t) k (slot (a := 256) (b := 1208) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 4) (r := 2048) (c := 1208) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 4) (r := 2048) (c := 1208) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 4) (r := 2048) (c := 1208) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 4) (r := 2048) (c := 1208) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamIn

namespace Cert.Step.AdamIn

open Cert.AdamInRefIdeal Cert.AdamInRefIdeal.Read Idealize.ShloMosaic

variable (w a b : Vec Ideal S2048x1208 .f32) (p : Vec Ideal S4x2048x1208 .bf16)

theorem ref_total : val_main_v1 (F := Ideal) p = total (n := 4) (r := 2048) (c := 1208) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 4) a p := funext fun i => means_of (m' := a i) rfl (congrFun (ref_total p) i)

theorem ref_meanSq : val_main_v12 (F := Ideal) b p = meanSqs (n := 4) b p := funext fun i => meanSqs_of (v' := b i) rfl (congrFun (ref_total p) i)

theorem ref_change : val_main_v25 (F := Ideal) w a b p = changes (n := 4) w a b p :=
  funext fun i => changes_of (w' := w i) (m' := a i) (v' := b i) rfl rfl rfl (congrFun (ref_total p) i)

end Cert.Step.AdamIn

end
-- ==== Proof.Step.AdamLora.lean ====
/- The optimiser's step on the weights of the low-rank maps of the decay and of the in-context rate. -/
module

public import proofs.«01_k».proof.Proof.Step.AdamSpec
public import proofs.«01_k».proof.Proof.Gen.AdamLoraIdeal.Value
public import proofs.«01_k».proof.Proof.Gen.AdamLoraRefIdeal.Read

@[expose] public section

set_option maxRecDepth 16384

noncomputable section

namespace Cert.Step.AdamLora

open Cert.AdamLoraIdeal Cert.AdamLoraIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 : Vec Ideal S1x32x128 .bf16) (j : S32x128.Idx) : k0_pay2 (F := Ideal) v0 v1 v2 v3 j
    = (v0 (slot (a := 32) (b := 128) j) : EReal) + v1 (slot (a := 32) (b := 128) j) + v2 (slot (a := 32) (b := 128) j) + v3 (slot (a := 32) (b := 128) j) := by
  rw [k0_pay2]
  pointwise

/-- What point `t` reads for entry `j` of its blocks, which is entry `i` of the arrays. -/
theorem reads (t : Fin cfg0.N) (j : S32x128.Idx) (i : S96x128.Idx) (hi : (i 0).val = (grid0.coords t 0).val * 32 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 4) (n1 := 32) (n2 := 128) k (j 0) (j 1)) = m ((c : Thread nD τ).loc main_arg3) (ix3 (n0 := 4) (n1 := 96) (n2 := 128) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S32x128.Idx) (i : S96x128.Idx) (hi : (i 0).val = (grid0.coords t 0).val * 32 + (j 0).val ∧ (i 1).val = (j 1).val) :
    (dats m 0 c).after 4 t j = total (n := 4) (r := 96) (c := 128) (m ((c : Thread nD τ).loc main_arg3)) i
    ∧ (dats m 0 c).after 5 t j = changes (n := 4) (r := 96) (c := 128) (m ((c : Thread nD τ).loc main_arg0)) (m ((c : Thread nD τ).loc main_arg1))
        (m ((c : Thread nD τ).loc main_arg2)) (m ((c : Thread nD τ).loc main_arg3)) i
    ∧ (dats m 0 c).after 6 t j = means (n := 4) (r := 96) (c := 128) (m ((c : Thread nD τ).loc main_arg1)) (m ((c : Thread nD τ).loc main_arg3)) i
    ∧ (dats m 0 c).after 7 t j = meanSqs (n := 4) (r := 96) (c := 128) (m ((c : Thread nD τ).loc main_arg2)) (m ((c : Thread nD τ).loc main_arg3)) i := by
  obtain ⟨hw, hm, hv, hp⟩ := reads m c t j i hi
  have hg := (added_at _ _ _ _ j).trans (total_four (g := fun k => part (n := 4) (r := 32) (c := 128) (iblk m c 3 t) k (slot (a := 32) (b := 128) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 4) (r := 96) (c := 128) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 4) (r := 96) (c := 128) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 4) (r := 96) (c := 128) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 4) (r := 96) (c := 128) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamLora

namespace Cert.Step.AdamLora

open Cert.AdamLoraRefIdeal Cert.AdamLoraRefIdeal.Read Idealize.ShloMosaic

variable (w a b : Vec Ideal S96x128 .f32) (p : Vec Ideal S4x96x128 .bf16)

theorem ref_total : val_main_v1 (F := Ideal) p = total (n := 4) (r := 96) (c := 128) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 4) a p := funext fun i => means_of (m' := a i) rfl (congrFun (ref_total p) i)

theorem ref_meanSq : val_main_v12 (F := Ideal) b p = meanSqs (n := 4) b p := funext fun i => meanSqs_of (v' := b i) rfl (congrFun (ref_total p) i)

theorem ref_change : val_main_v25 (F := Ideal) w a b p = changes (n := 4) w a b p :=
  funext fun i => changes_of (w' := w i) (m' := a i) (v' := b i) rfl rfl rfl (congrFun (ref_total p) i)

end Cert.Step.AdamLora

end
-- ==== Proof.Step.AdamGateLora.lean ====
/- The optimiser's step on the weights of the low-rank map of the gate. -/
module

public import proofs.«01_k».proof.Proof.Step.AdamSpec
public import proofs.«01_k».proof.Proof.Gen.AdamGateLoraIdeal.Value
public import proofs.«01_k».proof.Proof.Gen.AdamGateLoraRefIdeal.Read

@[expose] public section

set_option maxRecDepth 16384

noncomputable section

namespace Cert.Step.AdamGateLora

open Cert.AdamGateLoraIdeal Cert.AdamGateLoraIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 : Vec Ideal S1x256x128 .bf16) (j : S256x128.Idx) : k0_pay2 (F := Ideal) v0 v1 v2 v3 j
    = (v0 (slot (a := 256) (b := 128) j) : EReal) + v1 (slot (a := 256) (b := 128) j) + v2 (slot (a := 256) (b := 128) j) + v3 (slot (a := 256) (b := 128) j) := by
  rw [k0_pay2]
  pointwise

/-- What point `t` reads for entry `j` of its blocks, which is entry `i` of the arrays. -/
theorem reads (t : Fin cfg0.N) (j : S256x128.Idx) (i : S256x128.Idx) (hi : (i 0).val = (grid0.coords t 0).val * 256 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 4) (n1 := 256) (n2 := 128) k (j 0) (j 1)) = m ((c : Thread nD τ).loc main_arg3) (ix3 (n0 := 4) (n1 := 256) (n2 := 128) k (i 0) (i 1)) := by
  obtain ⟨h0, h1⟩ := hi
  refine ⟨?_, ?_, ?_, fun k => ?_⟩ <;> blk_ext [iblk, V, place t]

/-- What point `t` leaves at entry `j` of its blocks. -/
theorem leaves (t : Fin cfg0.N) (j : S256x128.Idx) (i : S256x128.Idx) (hi : (i 0).val = (grid0.coords t 0).val * 256 + (j 0).val ∧ (i 1).val = (j 1).val) :
    (dats m 0 c).after 4 t j = total (n := 4) (r := 256) (c := 128) (m ((c : Thread nD τ).loc main_arg3)) i
    ∧ (dats m 0 c).after 5 t j = changes (n := 4) (r := 256) (c := 128) (m ((c : Thread nD τ).loc main_arg0)) (m ((c : Thread nD τ).loc main_arg1))
        (m ((c : Thread nD τ).loc main_arg2)) (m ((c : Thread nD τ).loc main_arg3)) i
    ∧ (dats m 0 c).after 6 t j = means (n := 4) (r := 256) (c := 128) (m ((c : Thread nD τ).loc main_arg1)) (m ((c : Thread nD τ).loc main_arg3)) i
    ∧ (dats m 0 c).after 7 t j = meanSqs (n := 4) (r := 256) (c := 128) (m ((c : Thread nD τ).loc main_arg2)) (m ((c : Thread nD τ).loc main_arg3)) i := by
  obtain ⟨hw, hm, hv, hp⟩ := reads m c t j i hi
  have hg := (added_at _ _ _ _ j).trans (total_four (g := fun k => part (n := 4) (r := 256) (c := 128) (iblk m c 3 t) k (slot (a := 256) (b := 128) j))
    fun k => (part_slot _ k j).trans (hp k))
  rw [after0_4, after0_5, after0_6, after0_7]
  dsimp only [outsAt0]
  frame_open
  refine ⟨?_, ?_, ?_, ?_⟩ <;> frame_out
  exacts [hg, changes_of hw hm hv hg, means_of hm hg, meanSqs_of hv hg]

theorem arr4 : (dats m 0 c).arrAt 4 cfg0.N = total (n := 4) (r := 256) (c := 128) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 4) (r := 256) (c := 128) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 4) (r := 256) (c := 128) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 4) (r := 256) (c := 128) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamGateLora

namespace Cert.Step.AdamGateLora

open Cert.AdamGateLoraRefIdeal Cert.AdamGateLoraRefIdeal.Read Idealize.ShloMosaic

variable (w a b : Vec Ideal S256x128 .f32) (p : Vec Ideal S4x256x128 .bf16)

theorem ref_total : val_main_v1 (F := Ideal) p = total (n := 4) (r := 256) (c := 128) p := by
  funext i
  rw [val_main_v1_apply, val_main_cst_apply, Ideal.ofBits_def, Ideal.ofBits_zero_f32, zero_add]
  refine Finset.sum_congr (M := EReal) rfl fun k _ => ?_
  rw [val_main_v0_apply, Ideal.extf_def]
  congr 1
  blk_ext

theorem ref_mean : val_main_v6 (F := Ideal) a p = means (n := 4) a p := funext fun i => means_of (m' := a i) rfl (congrFun (ref_total p) i)

theorem ref_meanSq : val_main_v12 (F := Ideal) b p = meanSqs (n := 4) b p := funext fun i => meanSqs_of (v' := b i) rfl (congrFun (ref_total p) i)

theorem ref_change : val_main_v25 (F := Ideal) w a b p = changes (n := 4) w a b p :=
  funext fun i => changes_of (w' := w i) (m' := a i) (v' := b i) rfl rfl rfl (congrFun (ref_total p) i)

end Cert.Step.AdamGateLora

end
-- ==== Proof.Step.AdamSmall.lean ====
/- The optimiser's step on the weights of the norms, the token shift, the recurrence and the gating unit, packed into one array. -/
module

public import proofs.«01_k».proof.Proof.Step.AdamSpec
public import proofs.«01_k».proof.Proof.Gen.AdamSmallIdeal.Value
public import proofs.«01_k».proof.Proof.Gen.AdamSmallRefIdeal.Read

@[expose] public section

set_option maxRecDepth 16384

noncomputable section

namespace Cert.Step.AdamSmall

open Cert.AdamSmallIdeal Cert.AdamSmallIdeal.Gen Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t` of every array. -/
theorem place : ∀ t : Fin grid0.N, win0_0.index t = ![(grid0.coords t 0).val, 0] ∧ win0_1.index t = ![(grid0.coords t 0).val, 0]
    ∧ win0_2.index t = ![(grid0.coords t 0).val, 0] ∧ win0_3.index t = ![0, (grid0.coords t 0).val, 0] ∧ win0_4.index t = ![(grid0.coords t 0).val, 0]
    ∧ win0_5.index t = ![(grid0.coords t 0).val, 0] ∧ win0_6.index t = ![(grid0.coords t 0).val, 0] ∧ win0_7.index t = ![(grid0.coords t 0).val, 0] := by
  decide +kernel

theorem added_at (v0 v1 v2 v3 v4 v5 v6 v7 : Vec Ideal S1x64x128 .f32) (j : S64x128.Idx) : k0_pay3 (F := Ideal) v0 v1 v2 v3 v4 v5 v6 v7 j
    = (v0 (slot (a := 64) (b := 128) j) : EReal) + v1 (slot (a := 64) (b := 128) j) + v2 (slot (a := 64) (b := 128) j) + v3 (slot (a := 64) (b := 128) j)
      + v4 (slot (a := 64) (b := 128) j) + v5 (slot (a := 64) (b := 128) j) + v6 (slot (a := 64) (b := 128) j) + v7 (slot (a := 64) (b := 128) j) := by
  rw [k0_pay3]
  pointwise

/-- What point `t` reads for entry `j` of its blocks, which is entry `i` of the arrays. -/
theorem reads (t : Fin cfg0.N) (j : S64x128.Idx) (i : S1216x128.Idx) (hi : (i 0).val = (grid0.coords t 0).val * 64 + (j 0).val ∧ (i 1).val = (j 1).val) :
    iblk m c 0 t j = m ((c : Thread nD τ).loc main_arg0) i ∧ iblk m c 1 t j = m ((c : Thread nD τ).loc main_arg1) i
    ∧ iblk m c 2 t j = m ((c : Thread nD τ).loc main_arg2) i
    ∧ ∀ k, iblk m c 3 t (ix3 (n0 := 8) (n1 := 64) (n2 := 128) k (j 0) (j 1)) = m ((c : Thread nD τ).loc main_arg3) (ix3 (n0 := 8) (n1 := 1216) (n2 := 128) k (i 0) (i 1)) := by
  obtain ⟨h0, h1⟩ := hi
  refine ⟨?_, ?_, ?_, fun k => ?_⟩ <;> blk_ext [iblk, V, place t]

theorem ld_whole (x : Vec Ideal S64x128 .f32) (j : S64x128.Idx) : View.ld (Val := Elt Ideal) x r0_8 j = x j := by
  refine View.ld_unit_apply_of _ _ _ _ _ j fun d => ?_
  fin_cases d <;> simp <;> rfl

/-- What point `t` leaves at entry `j` of its blocks. -/
theorem leaves (t : Fin cfg0.N) (j : S64x128.Idx) (i : S1216x128.Idx) (hi : (i 0).val = (grid0.coords t 0).val * 64 + (j 0).val ∧ (i 1).val = (j 1).val) :
    (dats m 0 c).after 4 t j = total (n := 8) (r := 1216) (c := 128) (m ((c : Thread nD τ).loc main_arg3)) i
    ∧ (dats m 0 c).after 5 t j = changes (n := 8) (r := 1216) (c := 128) (m ((c : Thread nD τ).loc main_arg0)) (m ((c : Thread nD τ).loc main_arg1))
        (m ((c : Thread nD τ).loc main_arg2)) (m ((c : Thread nD τ).loc main_arg3)) i
    ∧ (dats m 0 c).after 6 t j = means (n := 8) (r := 1216) (c := 128) (m ((c : Thread nD τ).loc main_arg1)) (m ((c : Thread nD τ).loc main_arg3)) i
    ∧ (dats m 0 c).after 7 t j = meanSqs (n := 8) (r := 1216) (c := 128) (m ((c : Thread nD τ).loc main_arg2)) (m ((c : Thread nD τ).loc main_arg3)) i := by
  obtain ⟨hw, hm, hv, hp⟩ := reads m c t j i hi
  have hg := (added_at _ _ _ _ _ _ _ _ j).trans (total_eight (g := fun k => part (n := 8) (r := 64) (c := 128) (iblk m c 3 t) k (slot (a := 64) (b := 128) j))
    fun k => (part_slot _ k j).trans (hp k))
  rw [after0_4, after0_5, after0_6, after0_7]
  frame_open
  refine ⟨?_, ?_, ?_, ?_⟩ <;> frame_out
  exacts [hg, changes_of hw ((ld_whole _ j).trans hm) hv hg, means_of ((ld_whole _ j).trans hm) hg, meanSqs_of hv hg]

theorem arr4 : (dats m 0 c).arrAt 4 cfg0.N = total (n := 8) (r := 1216) (c := 128) (m ((c : Thread nD τ).loc main_arg3)) :=
  (dats m 0 c).arrAt_eq_of_covers 4 _ (by decide +kernel) fun t _ y => by
    blk_simp [place t]
    exact (leaves m c t y _ (by blk_simp [place t]; exact ⟨trivial, trivial⟩)).1

theorem arr5 : (dats m 0 c).arrAt 5 cfg0.N = changes (n := 8) (r := 1216) (c := 128) (m ((c : Thread nD τ).loc main_arg0))
    (m ((c : Thread nD τ).loc main_arg1)) (m ((c : Thread nD τ).loc main_arg2)) (m ((c : Thread nD τ).loc main_arg3)) :=
  (dats m 0 c).arrAt_eq_of_covers 5 _ (by decide +kernel) fun t _ y => by
    blk_simp [place t]
    exact (leaves m c t y _ (by blk_simp [place t]; exact ⟨trivial, trivial⟩)).2.1

theorem arr6 : (dats m 0 c).arrAt 6 cfg0.N = means (n := 8) (r := 1216) (c := 128) (m ((c : Thread nD τ).loc main_arg1)) (m ((c : Thread nD τ).loc main_arg3)) :=
  (dats m 0 c).arrAt_eq_of_covers 6 _ (by decide +kernel) fun t _ y => by
    blk_simp [place t]
    exact (leaves m c t y _ (by blk_simp [place t]; exact ⟨trivial, trivial⟩)).2.2.1

theorem arr7 : (dats m 0 c).arrAt 7 cfg0.N = meanSqs (n := 8) (r := 1216) (c := 128) (m ((c : Thread nD τ).loc main_arg2)) (m ((c : Thread nD τ).loc main_arg3)) :=
  (dats m 0 c).arrAt_eq_of_covers 7 _ (by decide +kernel) fun t _ y => by
    blk_simp [place t]
    exact (leaves m c t y _ (by blk_simp [place t]; exact ⟨trivial, trivial⟩)).2.2.2

end Cert.Step.AdamSmall

namespace Cert.Step.AdamSmall

open Cert.AdamSmallRefIdeal Cert.AdamSmallRefIdeal.Read Idealize.ShloMosaic

variable (w a b : Vec Ideal S1216x128 .f32) (p : Vec Ideal S8x1216x128 .f32)

theorem ref_total : val_main_v0 (F := Ideal) p = total (n := 8) (r := 1216) (c := 128) p := by
  funext i
  rw [val_main_v0_apply, val_main_cst_apply, Ideal.ofBits_def, Ideal.ofBits_zero_f32, zero_add]
  refine Finset.sum_congr (M := EReal) rfl fun k _ => ?_
  congr 1
  blk_ext

theorem ref_mean : val_main_v5 (F := Ideal) a p = means (n := 8) a p := funext fun i => means_of (m' := a i) rfl (congrFun (ref_total p) i)

theorem ref_meanSq : val_main_v11 (F := Ideal) b p = meanSqs (n := 8) b p := funext fun i => meanSqs_of (v' := b i) rfl (congrFun (ref_total p) i)

theorem ref_change : val_main_v24 (F := Ideal) w a b p = changes (n := 8) w a b p :=
  funext fun i => changes_of (w' := w i) (m' := a i) (v' := b i) rfl rfl rfl (congrFun (ref_total p) i)

end Cert.Step.AdamSmall

end
-- ==== Proof.Step.AdamClaims.lean ====
/- The claims of the optimiser's step: the references' frames and the equality of the four results. -/
module

public import proofs.«01_k».proof.Defs
public import proofs.«01_k».proof.Proof.Step.AdamFfn
public import proofs.«01_k».proof.Proof.Gen.AdamFfnRefIdeal.Run
public import proofs.«01_k».proof.Proof.Step.AdamDown
public import proofs.«01_k».proof.Proof.Gen.AdamDownRefIdeal.Run
public import proofs.«01_k».proof.Proof.Step.AdamProj
public import proofs.«01_k».proof.Proof.Gen.AdamProjRefIdeal.Run
public import proofs.«01_k».proof.Proof.Step.AdamOut
public import proofs.«01_k».proof.Proof.Gen.AdamOutRefIdeal.Run
public import proofs.«01_k».proof.Proof.Step.AdamIn
public import proofs.«01_k».proof.Proof.Gen.AdamInRefIdeal.Run
public import proofs.«01_k».proof.Proof.Step.AdamLora
public import proofs.«01_k».proof.Proof.Gen.AdamLoraRefIdeal.Run
public import proofs.«01_k».proof.Proof.Step.AdamGateLora
public import proofs.«01_k».proof.Proof.Gen.AdamGateLoraRefIdeal.Run
public import proofs.«01_k».proof.Proof.Step.AdamSmall
public import proofs.«01_k».proof.Proof.Gen.AdamSmallRefIdeal.Run
public import Idealize.ShloMosaic.Lib.Claim
public import Idealize.ShloMosaic.Lib.Quiescent
public import Idealize.ShloMosaic.Adequacy
public import Idealize.ShloMosaic.Init

@[expose] public section

noncomputable section

namespace Cert.Step

open Idealize.ShloMosaic Idealize.SL.Sem

/-! The references run, their arguments end unchanged, and every semaphore counter ends at zero. -/

theorem AdamFfn.frame_ref : quiescent_AdamFfnRefIdeal (hAdamFfnRefIdeal := Cert.AdamFfnRefIdeal.Gen.facts) := fun m g _ => by
  hlo_run
  exacts [fun _ => ⟨trivial, trivial, trivial, trivial, trivial⟩, sem_eq_zero_of_no_sems (sig := Cert.AdamFfnRefIdeal.sig) (by decide) _]

theorem AdamDown.frame_ref : quiescent_AdamDownRefIdeal (hAdamDownRefIdeal := Cert.AdamDownRefIdeal.Gen.facts) := fun m g _ => by
  hlo_run
  exacts [fun _ => ⟨trivial, trivial, trivial, trivial, trivial⟩, sem_eq_zero_of_no_sems (sig := Cert.AdamDownRefIdeal.sig) (by decide) _]

theorem AdamProj.frame_ref : quiescent_AdamProjRefIdeal (hAdamProjRefIdeal := Cert.AdamProjRefIdeal.Gen.facts) := fun m g _ => by
  hlo_run
  exacts [fun _ => ⟨trivial, trivial, trivial, trivial, trivial⟩, sem_eq_zero_of_no_sems (sig := Cert.AdamProjRefIdeal.sig) (by decide) _]

theorem AdamOut.frame_ref : quiescent_AdamOutRefIdeal (hAdamOutRefIdeal := Cert.AdamOutRefIdeal.Gen.facts) := fun m g _ => by
  hlo_run
  exacts [fun _ => ⟨trivial, trivial, trivial, trivial, trivial⟩, sem_eq_zero_of_no_sems (sig := Cert.AdamOutRefIdeal.sig) (by decide) _]

theorem AdamIn.frame_ref : quiescent_AdamInRefIdeal (hAdamInRefIdeal := Cert.AdamInRefIdeal.Gen.facts) := fun m g _ => by
  hlo_run
  exacts [fun _ => ⟨trivial, trivial, trivial, trivial, trivial⟩, sem_eq_zero_of_no_sems (sig := Cert.AdamInRefIdeal.sig) (by decide) _]

theorem AdamLora.frame_ref : quiescent_AdamLoraRefIdeal (hAdamLoraRefIdeal := Cert.AdamLoraRefIdeal.Gen.facts) := fun m g _ => by
  hlo_run
  exacts [fun _ => ⟨trivial, trivial, trivial, trivial, trivial⟩, sem_eq_zero_of_no_sems (sig := Cert.AdamLoraRefIdeal.sig) (by decide) _]

theorem AdamGateLora.frame_ref : quiescent_AdamGateLoraRefIdeal (hAdamGateLoraRefIdeal := Cert.AdamGateLoraRefIdeal.Gen.facts) := fun m g _ => by
  hlo_run
  exacts [fun _ => ⟨trivial, trivial, trivial, trivial, trivial⟩, sem_eq_zero_of_no_sems (sig := Cert.AdamGateLoraRefIdeal.sig) (by decide) _]

theorem AdamSmall.frame_ref : quiescent_AdamSmallRefIdeal (hAdamSmallRefIdeal := Cert.AdamSmallRefIdeal.Gen.facts) := fun m g _ => by
  hlo_run
  exacts [fun _ => ⟨trivial, trivial, trivial, trivial⟩, sem_eq_zero_of_no_sems (sig := Cert.AdamSmallRefIdeal.sig) (by decide) _]

/-! The kernels' four results are the references'. -/

/-- The weights of the gate and up projection of the SwiGLU unit. -/
theorem AdamFfn.values : algebraic_AdamFfnIdeal_AdamFfnRefIdeal (hAdamFfnIdeal := Cert.AdamFfnIdeal.Gen.facts) (hAdamFfnRefIdeal := Cert.AdamFfnRefIdeal.Gen.facts) := by
  intro m g m' g' _ hagree
  refine ⟨_, _, _, _, Cert.AdamFfnIdeal.Value.run_blocks m g, (θ_run _ _ _).mono (fun r h c => ?_) (Cert.AdamFfnRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamFfnRefIdeal.Read.val_main_v1_eq, a3]
    exact (AdamFfn.ref_total _).trans (AdamFfn.arr4 m c).symm
  · rw [Cert.AdamFfnRefIdeal.Read.val_main_v25_eq, a0, a1, a2, a3]
    exact (AdamFfn.ref_change _ _ _ _).trans (AdamFfn.arr5 m c).symm
  · rw [Cert.AdamFfnRefIdeal.Read.val_main_v6_eq, a1, a3]
    exact (AdamFfn.ref_mean _ _).trans (AdamFfn.arr6 m c).symm
  · rw [Cert.AdamFfnRefIdeal.Read.val_main_v12_eq, a2, a3]
    exact (AdamFfn.ref_meanSq _ _).trans (AdamFfn.arr7 m c).symm

/-- The weights of the down projection of the SwiGLU unit. -/
theorem AdamDown.values : algebraic_AdamDownIdeal_AdamDownRefIdeal (hAdamDownIdeal := Cert.AdamDownIdeal.Gen.facts) (hAdamDownRefIdeal := Cert.AdamDownRefIdeal.Gen.facts) := by
  intro m g m' g' _ hagree
  refine ⟨_, _, _, _, Cert.AdamDownIdeal.Value.run_blocks m g, (θ_run _ _ _).mono (fun r h c => ?_) (Cert.AdamDownRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamDownRefIdeal.Read.val_main_v1_eq, a3]
    exact (AdamDown.ref_total _).trans (AdamDown.arr4 m c).symm
  · rw [Cert.AdamDownRefIdeal.Read.val_main_v25_eq, a0, a1, a2, a3]
    exact (AdamDown.ref_change _ _ _ _).trans (AdamDown.arr5 m c).symm
  · rw [Cert.AdamDownRefIdeal.Read.val_main_v6_eq, a1, a3]
    exact (AdamDown.ref_mean _ _).trans (AdamDown.arr6 m c).symm
  · rw [Cert.AdamDownRefIdeal.Read.val_main_v12_eq, a2, a3]
    exact (AdamDown.ref_meanSq _ _).trans (AdamDown.arr7 m c).symm

/-- The weights of the branches' projections. -/
theorem AdamProj.values : algebraic_AdamProjIdeal_AdamProjRefIdeal (hAdamProjIdeal := Cert.AdamProjIdeal.Gen.facts) (hAdamProjRefIdeal := Cert.AdamProjRefIdeal.Gen.facts) := by
  intro m g m' g' _ hagree
  refine ⟨_, _, _, _, Cert.AdamProjIdeal.Value.run_blocks m g, (θ_run _ _ _).mono (fun r h c => ?_) (Cert.AdamProjRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamProjRefIdeal.Read.val_main_v1_eq, a3]
    exact (AdamProj.ref_total _).trans (AdamProj.arr4 m c).symm
  · rw [Cert.AdamProjRefIdeal.Read.val_main_v25_eq, a0, a1, a2, a3]
    exact (AdamProj.ref_change _ _ _ _).trans (AdamProj.arr5 m c).symm
  · rw [Cert.AdamProjRefIdeal.Read.val_main_v6_eq, a1, a3]
    exact (AdamProj.ref_mean _ _).trans (AdamProj.arr6 m c).symm
  · rw [Cert.AdamProjRefIdeal.Read.val_main_v12_eq, a2, a3]
    exact (AdamProj.ref_meanSq _ _).trans (AdamProj.arr7 m c).symm

/-- The weights of the output projection. -/
theorem AdamOut.values : algebraic_AdamOutIdeal_AdamOutRefIdeal (hAdamOutIdeal := Cert.AdamOutIdeal.Gen.facts) (hAdamOutRefIdeal := Cert.AdamOutRefIdeal.Gen.facts) := by
  intro m g m' g' _ hagree
  refine ⟨_, _, _, _, Cert.AdamOutIdeal.Value.run_blocks m g, (θ_run _ _ _).mono (fun r h c => ?_) (Cert.AdamOutRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamOutRefIdeal.Read.val_main_v1_eq, a3]
    exact (AdamOut.ref_total _).trans (AdamOut.arr4 m c).symm
  · rw [Cert.AdamOutRefIdeal.Read.val_main_v25_eq, a0, a1, a2, a3]
    exact (AdamOut.ref_change _ _ _ _).trans (AdamOut.arr5 m c).symm
  · rw [Cert.AdamOutRefIdeal.Read.val_main_v6_eq, a1, a3]
    exact (AdamOut.ref_mean _ _).trans (AdamOut.arr6 m c).symm
  · rw [Cert.AdamOutRefIdeal.Read.val_main_v12_eq, a2, a3]
    exact (AdamOut.ref_meanSq _ _).trans (AdamOut.arr7 m c).symm

/-- The weights of the input projection. -/
theorem AdamIn.values : algebraic_AdamInIdeal_AdamInRefIdeal (hAdamInIdeal := Cert.AdamInIdeal.Gen.facts) (hAdamInRefIdeal := Cert.AdamInRefIdeal.Gen.facts) := by
  intro m g m' g' _ hagree
  refine ⟨_, _, _, _, Cert.AdamInIdeal.Value.run_blocks m g, (θ_run _ _ _).mono (fun r h c => ?_) (Cert.AdamInRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamInRefIdeal.Read.val_main_v1_eq, a3]
    exact (AdamIn.ref_total _).trans (AdamIn.arr4 m c).symm
  · rw [Cert.AdamInRefIdeal.Read.val_main_v25_eq, a0, a1, a2, a3]
    exact (AdamIn.ref_change _ _ _ _).trans (AdamIn.arr5 m c).symm
  · rw [Cert.AdamInRefIdeal.Read.val_main_v6_eq, a1, a3]
    exact (AdamIn.ref_mean _ _).trans (AdamIn.arr6 m c).symm
  · rw [Cert.AdamInRefIdeal.Read.val_main_v12_eq, a2, a3]
    exact (AdamIn.ref_meanSq _ _).trans (AdamIn.arr7 m c).symm

/-- The weights of the low-rank maps of the decay and of the in-context rate. -/
theorem AdamLora.values : algebraic_AdamLoraIdeal_AdamLoraRefIdeal (hAdamLoraIdeal := Cert.AdamLoraIdeal.Gen.facts) (hAdamLoraRefIdeal := Cert.AdamLoraRefIdeal.Gen.facts) := by
  intro m g m' g' _ hagree
  refine ⟨_, _, _, _, Cert.AdamLoraIdeal.Value.run_blocks m g, (θ_run _ _ _).mono (fun r h c => ?_) (Cert.AdamLoraRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamLoraRefIdeal.Read.val_main_v1_eq, a3]
    exact (AdamLora.ref_total _).trans (AdamLora.arr4 m c).symm
  · rw [Cert.AdamLoraRefIdeal.Read.val_main_v25_eq, a0, a1, a2, a3]
    exact (AdamLora.ref_change _ _ _ _).trans (AdamLora.arr5 m c).symm
  · rw [Cert.AdamLoraRefIdeal.Read.val_main_v6_eq, a1, a3]
    exact (AdamLora.ref_mean _ _).trans (AdamLora.arr6 m c).symm
  · rw [Cert.AdamLoraRefIdeal.Read.val_main_v12_eq, a2, a3]
    exact (AdamLora.ref_meanSq _ _).trans (AdamLora.arr7 m c).symm

/-- The weights of the low-rank map of the gate. -/
theorem AdamGateLora.values : algebraic_AdamGateLoraIdeal_AdamGateLoraRefIdeal (hAdamGateLoraIdeal := Cert.AdamGateLoraIdeal.Gen.facts) (hAdamGateLoraRefIdeal := Cert.AdamGateLoraRefIdeal.Gen.facts) := by
  intro m g m' g' _ hagree
  refine ⟨_, _, _, _, Cert.AdamGateLoraIdeal.Value.run_blocks m g, (θ_run _ _ _).mono (fun r h c => ?_) (Cert.AdamGateLoraRefIdeal.Value.run m' g')⟩
  obtain ⟨a0, a1, a2, a3, _⟩ := hagree c
  obtain ⟨r0, r1, r2, r3, k⟩ := h c
  refine ⟨r0.trans ?_, r1.trans ?_, r2.trans ?_, r3.trans ?_, k⟩
  · rw [Cert.AdamGateLoraRefIdeal.Read.val_main_v1_eq, a3]
    exact (AdamGateLora.ref_total _).trans (AdamGateLora.arr4 m c).symm
  · rw [Cert.AdamGateLoraRefIdeal.Read.val_main_v25_eq, a0, a1, a2, a3]
    exact (AdamGateLora.ref_change _ _ _ _).trans (AdamGateLora.arr5 m c).symm
  · rw [Cert.AdamGateLoraRefIdeal.Read.val_main_v6_eq, a1, a3]
    exact (AdamGateLora.ref_mean _ _).trans (AdamGateLora.arr6 m c).symm
  · rw [Cert.AdamGateLoraRefIdeal.Read.val_main_v12_eq, a2, a3]
    exact (AdamGateLora.ref_meanSq _ _).trans (AdamGateLora.arr7 m c).symm

/-- The weights of the norms, the token shift, the recurrence and the gating unit, packed. -/
theorem AdamSmall.values : algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨_, _, _, _, Cert.AdamSmallIdeal.Value.run_blocks m g, (θ_run _ _ _).mono (fun r h c => ?_) (Cert.AdamSmallRefIdeal.Value.run m' g')⟩
  obtain ⟨a0, a1, a2, a3⟩ := hagree c
  obtain ⟨r0, r1, r2, r3, k⟩ := h c
  refine ⟨r0.trans ?_, r1.trans ?_, r2.trans ?_, r3.trans ?_, k⟩
  · rw [Cert.AdamSmallRefIdeal.Read.val_main_v0_eq, a3]
    exact (AdamSmall.ref_total _).trans (AdamSmall.arr4 m c).symm
  · rw [Cert.AdamSmallRefIdeal.Read.val_main_v24_eq, a0, a1, a2, a3]
    exact (AdamSmall.ref_change _ _ _ _).trans (AdamSmall.arr5 m c).symm
  · rw [Cert.AdamSmallRefIdeal.Read.val_main_v5_eq, a1, a3]
    exact (AdamSmall.ref_mean _ _).trans (AdamSmall.arr6 m c).symm
  · rw [Cert.AdamSmallRefIdeal.Read.val_main_v11_eq, a2, a3]
    exact (AdamSmall.ref_meanSq _ _).trans (AdamSmall.arr7 m c).symm

end Cert.Step

end
-- ==== Proof.Step.PostSpec.lean ====
/- What stands after the recurrence, entry by entry: each head's row is normalised, scaled and shifted, the bonus is added, and the gate
   multiplies. -/
module

public import Idealize.ShloMosaic.Lib.Pipeline.ValueKit
public import Idealize.ShloMosaic.Lib.Pointwise
public import Idealize.ShloMosaic.Lib.Claim

@[expose] public section

noncomputable section

namespace Cert.Step.Post

open Idealize.ShloMosaic

/-- The mean of a head's row. -/
def rowMean (y : Fin 64 → EReal) : EReal := Ideal.div (∑ d, y d) (Ideal.ofBits .f32 0x42800000#32)

/-- A head's row about its mean. -/
def about (y : Fin 64 → EReal) (d : Fin 64) : EReal := y d - rowMean y

/-- A head's row about its mean, over its deviation. -/
def norm (y : Fin 64 → EReal) (d : Fin 64) : EReal :=
  about y d * Ideal.rsqrt (rowMean (fun e => about y e * about y e) + Ideal.ofBits .f32 0x3A27C5AC#32)

/-- The weight of the bonus: the row's receptance against its key. -/
def bonus (r k w : Fin 64 → EReal) : EReal := ∑ d, r d * k d * w d

/-- One entry of the result, from the head's row of each operand. -/
def entry (y r k v g a b w : Fin 64 → EReal) (d : Fin 64) : EReal := (norm y d * a d + b d + bonus r k w * v d) * g d

/-- The head and the place in the head of column `i 1`. -/
def headOf {n : ℕ} (i : (⟨2, ![n, 1024]⟩ : Shape).Idx) : Fin 16 := ⟨(i 1).val / 64, by have h : (i 1).val < 1024 := (i 1).isLt; omega⟩
def inHead {n : ℕ} (i : (⟨2, ![n, 1024]⟩ : Shape).Idx) : Fin 64 := ⟨(i 1).val % 64, by omega⟩

/-- Row `i 0` of the head of column `i 1`. -/
def rowOf {n : ℕ} (x : Vec Ideal ⟨3, ![16, n, 64]⟩ .f32) (i : (⟨2, ![n, 1024]⟩ : Shape).Idx) (d : Fin 64) : EReal :=
  x (ix3 (n0 := 16) (n1 := n) (n2 := 64) (headOf i) (i 0) d)

/-- The entries of a vector of channels that belong to head `h`. -/
def channels (x : Vec Ideal ⟨2, ![1, 1024]⟩ .f32) (h : Fin 16) (d : Fin 64) : EReal :=
  x (ix2 (n0 := 1) (n1 := 1024) 0 ⟨64 * h.val + d.val, by omega⟩)

/-- The result, from the arrays. -/
def result (y r k v g : Vec Ideal ⟨3, ![16, 2048, 64]⟩ .f32) (a b : Vec Ideal ⟨2, ![1, 1024]⟩ .f32) (w : Vec Ideal ⟨3, ![1, 16, 64]⟩ .f32) :
    Vec Ideal ⟨2, ![2048, 1024]⟩ .bf16 := fun i =>
  entry (rowOf y i) (rowOf r i) (rowOf k i) (rowOf v i) (rowOf g i) (channels a (headOf i)) (channels b (headOf i))
    (fun d => w (ix3 (n0 := 1) (n1 := 16) (n2 := 64) 0 (headOf i) d)) (inHead i)

end Cert.Step.Post

end
-- ==== Proof.Step.PostRef.lean ====
/- The reference of what stands after the recurrence is `Post.result`. -/
module

public import proofs.«01_k».proof.Proof.Step.PostSpec
public import proofs.«01_k».proof.Proof.Gen.PostRefIdeal.Read

@[expose] public section

set_option maxRecDepth 16384

noncomputable section

namespace Cert.Step.Post

open Cert.PostRefIdeal Cert.PostRefIdeal.Read Idealize.ShloMosaic

variable (y r k v g : Vec Ideal S16x2048x64 .f32) (a b : Vec Ideal S1x1024 .f32) (w : Vec Ideal S1x16x64 .f32)

/-- The array's row of token `t` and head `h`. -/
abbrev tokenRow (x : Vec Ideal S16x2048x64 .f32) (t : Fin 2048) (h : Fin 16) (d : Fin 64) : EReal :=
  x (ix3 (n0 := 16) (n1 := 2048) (n2 := 64) h t d)

theorem ref_mean (i : S2048x16x1.Idx) : val_main_v8 (F := Ideal) y i = rowMean (tokenRow y (i 0) (i 1)) := by
  rw [val_main_v8_apply, val_main_v6_apply, val_main_v5_apply, val_main_cst_apply, val_main_v7_apply, val_main_cst_0_apply, Ideal.ofBits_def,
    Ideal.ofBits_zero_f32, zero_add]
  refine congrArg (Ideal.div · _) (Finset.sum_congr (M := EReal) rfl fun d _ => ?_)
  rw [val_main_v0_apply]
  blk_ext

theorem ref_about (i : S2048x16x64.Idx) : val_main_v10 (F := Ideal) y i = about (tokenRow y (i 0) (i 1)) (i 2) := by
  rw [val_main_v10_apply, val_main_v0_apply, val_main_v9_apply, ref_mean]
  refine congrArg₂ (· - ·) ?_ rfl
  blk_ext

theorem ref_meanSq (i : S2048x16x1.Idx) : val_main_v15 (F := Ideal) y i
    = rowMean (fun d => about (tokenRow y (i 0) (i 1)) d * about (tokenRow y (i 0) (i 1)) d) := by
  rw [val_main_v15_apply, val_main_v13_apply, val_main_v12_apply, val_main_cst_1_apply, val_main_v14_apply, val_main_cst_2_apply, Ideal.ofBits_def,
    Ideal.ofBits_zero_f32, zero_add]
  refine congrArg (Ideal.div · _) (Finset.sum_congr (M := EReal) rfl fun d _ => ?_)
  rw [val_main_v11_apply, ref_about]
  rfl

theorem ref_norm (i : S2048x16x64.Idx) : val_main_v22 (F := Ideal) y i = norm (tokenRow y (i 0) (i 1)) (i 2) := by
  have h : val_main_v17 (F := Ideal) y i = about (tokenRow y (i 0) (i 1)) (i 2) := by
    rw [val_main_v17_apply, val_main_v0_apply, val_main_v16_apply, ref_mean]
    refine congrArg₂ (· - ·) ?_ rfl
    blk_ext
  rw [val_main_v22_apply, h, val_main_v21_apply, val_main_v20_apply, val_main_v19_apply, ref_meanSq]
  rfl

theorem ref_bonus (i : S2048x16x1.Idx) : val_main_v38 (F := Ideal) r k w i
    = bonus (tokenRow r (i 0) (i 1)) (tokenRow k (i 0) (i 1)) (fun d => w (ix3 (n0 := 1) (n1 := 16) (n2 := 64) 0 (i 1) d)) := by
  rw [val_main_v38_apply, val_main_v37_apply, val_main_cst_4_apply, Ideal.ofBits_def, Ideal.ofBits_zero_f32, zero_add]
  refine Finset.sum_congr (M := EReal) rfl fun d _ => ?_
  rw [val_main_v36_apply, val_main_v32_apply, val_main_v1_apply, val_main_v2_apply, val_main_v35_apply, val_main_v34_apply, val_main_v33_apply]
  refine congrArg₂ (· * ·) (congrArg₂ (· * ·) ?_ ?_) ?_ <;> blk_ext

theorem ref_result : val_main_v45 (F := Ideal) y r k v g a b w = result y r k v g a b w := by
  funext i
  rw [val_main_v45_apply, val_main_v44_apply, val_main_v42_apply, val_main_v31_apply, val_main_v27_apply, val_main_v23_apply, ref_norm,
    val_main_v26_apply, val_main_v25_apply, val_main_v24_apply, val_main_v30_apply, val_main_v29_apply, val_main_v28_apply,
    val_main_v41_apply, val_main_v40_apply, val_main_v39_apply, ref_bonus, val_main_v3_apply, val_main_v43_apply, val_main_v4_apply]
  have e : idx_main_v23 i = ix3 (n0 := 2048) (n1 := 16) (n2 := 64) (i 0) (headOf i) (inHead i) := by
    have h0 : (i 0).val < 2048 := (i 0).isLt
    have h1 : (i 1).val < 1024 := (i 1).isLt
    funext d
    fin_cases d <;> refine Fin.ext ?_ <;> simp [headOf, inHead] <;> omega
  have ha : ∀ x : Vec Ideal S1x1024 .f32, x (idx_main_v24 (idx_main_v25 (idx_main_v26 i))) = channels x (headOf i) (inHead i) := fun x => by
    unfold channels headOf inHead
    blk_ext
  unfold result entry
  refine congrArg₂ (· * ·) (congrArg₂ (· + ·) (congrArg₂ (· + ·) (congrArg₂ (· * ·) ?_ (ha a)) (ha b)) (congrArg₂ (· * ·) ?_ ?_)) ?_
  · rw [e]
    rfl
  · show bonus (tokenRow r (idx_main_v23 i 0) (idx_main_v23 i 1)) (tokenRow k (idx_main_v23 i 0) (idx_main_v23 i 1))
      (fun d => w (ix3 (n0 := 1) (n1 := 16) (n2 := 64) 0 (idx_main_v23 i 1) d)) = _
    rw [e]
    rfl
  · show v (idx_main_v3 (idx_main_v23 i)) = _
    rw [e]
    exact congrArg v (by blk_ext)
  · show g (idx_main_v4 (idx_main_v23 i)) = _
    rw [e]
    exact congrArg g (by blk_ext)

end Cert.Step.Post

end
-- ==== Proof.Step.PostKernel.lean ====
/- The call `head_post` leaves `Post.result`. -/
module

public import proofs.«01_k».proof.Proof.Step.PostSpec
public import proofs.«01_k».proof.Proof.Gen.PostIdeal.Value

@[expose] public section

set_option maxRecDepth 16384

noncomputable section

namespace Cert.Step.Post

open Cert.PostIdeal Cert.PostIdeal.Gen Cert.PostIdeal.Value Idealize.ShloMosaic Idealize.ShloMosaic.TcCoe
open Idealize.ShloMosaic.Pipeline (Dat)

variable (m : (ℓ : Loc nD τ sig) → Buf (Elt Ideal) ℓ) (c : Dev nD)

/-- Point `t` takes and leaves the block of rows `t`, and takes the vectors whole. -/
theorem place : ∀ t : Fin grid0.N, win0_0.index t = ![0, (grid0.coords t 0).val, 0] ∧ win0_1.index t = ![0, (grid0.coords t 0).val, 0]
    ∧ win0_2.index t = ![0, (grid0.coords t 0).val, 0] ∧ win0_3.index t = ![0, (grid0.coords t 0).val, 0] ∧ win0_4.index t = ![0, (grid0.coords t 0).val, 0]
    ∧ win0_5.index t = ![0, 0, 0] ∧ win0_6.index t = ![0, 0, 0] ∧ win0_7.index t = ![0, 0, 0] ∧ win0_9.index t = ![(grid0.coords t 0).val, 0] := by
  decide +kernel

/-- The entries of a block of channels that belong to head `h`. -/
abbrev chan (x : Vec Ideal S16x1x64 .f32) (h : Fin 16) (d : Fin 64) : EReal := x (ix3 (n0 := 16) (n1 := 1) (n2 := 64) h 0 d)

/-- What the body computes for entry `j` of its block. -/
theorem body_at (y : Vec Ideal S16x256x64 .f32) (a b : Vec Ideal S16x1x64 .f32) (r k : Vec Ideal S16x256x64 .f32) (w : Vec Ideal S16x1x64 .f32)
    (v g : Vec Ideal S16x256x64 .f32) (j : S256x1024.Idx) :
    E9 (F := Ideal) y a b r k w v g j
      = entry (rowOf y j) (rowOf r j) (rowOf k j) (rowOf v j) (rowOf g j) (chan a (headOf j)) (chan b (headOf j)) (chan w (headOf j)) (inHead j) := by
  have e : ix9_0 j = ix3 (n0 := 16) (n1 := 256) (n2 := 64) (headOf j) (j 0) (inHead j) := by
    funext d
    fin_cases d <;> rfl
  have e' : ix9_3 j = ix3 (n0 := 16) (n1 := 1) (n2 := 64) (headOf j) 0 (inHead j) := by
    funext d
    fin_cases d <;> rfl
  unfold E9
  pointwise
  rw [show ix9_6 j = ix9_0 j from rfl, show ix9_7 j = ix9_0 j from rfl, show ix9_4 j = ix9_3 j from rfl, e, e']
  rfl

/-- What point `t` reads for row `i 0`, which is row `j 0` of its blocks. -/
theorem reads (t : Fin cfg0.N) (j : S256x1024.Idx) (i : S2048x1024.Idx) (hi : (i 0).val = (grid0.coords t 0).val * 256 + (j 0).val ∧ (i 1).val = (j 1).val) :
    rowOf (n := 256) (iblk m c 0 t) j = rowOf (n := 2048) (m ((c : Thread nD τ).loc main_arg0)) i
    ∧ rowOf (n := 256) (iblk m c 1 t) j = rowOf (n := 2048) (m ((c : Thread nD τ).loc main_arg1)) i
    ∧ rowOf (n := 256) (iblk m c 2 t) j = rowOf (n := 2048) (m ((c : Thread nD τ).loc main_arg2)) i
    ∧ rowOf (n := 256) (iblk m c 3 t) j = rowOf (n := 2048) (m ((c : Thread nD τ).loc main_arg3)) i
    ∧ rowOf (n := 256) (iblk m c 4 t) j = rowOf (n := 2048) (m ((c : Thread nD τ).loc main_arg4)) i := by
  obtain ⟨h0, h1⟩ := hi
  refine ⟨?_, ?_, ?_, ?_, ?_⟩ <;> funext d <;> unfold rowOf headOf <;> blk_ext [iblk, V, place t]

/-! The vectors as the call takes them, a head to a row. -/

theorem scale_at : V m c main_v0 = shapeCast S16x1x64 (m ((c : Thread nD τ).loc main_arg5)) shapeCasts_S1x1024_S16x1x64 := by
  show StableHlo.after _ _ _ = _
  after_results
  rfl

theorem shift_at : V m c main_v1 = shapeCast S16x1x64 (m ((c : Thread nD τ).loc main_arg6)) shapeCasts_S1x1024_S16x1x64 := by
  show StableHlo.after _ _ _ = _
  after_results
  rfl

theorem weight_at : V m c main_v2 = shapeCast S16x1x64 (m ((c : Thread nD τ).loc main_arg7)) shapeCasts_S1x16x64_S16x1x64 := by
  show StableHlo.after _ _ _ = _
  after_results
  rfl

/-- A window that stands still takes its array whole. -/
theorem still (t : Fin cfg0.N) : iblk m c 5 t = V m c main_v0 ∧ iblk m c 6 t = V m c main_v1 ∧ iblk m c 7 t = V m c main_v2 := by
  refine ⟨?_, ?_, ?_⟩ <;> funext x <;> blk_ext [iblk, place t]

/-- Head `h` of a vector laid a head to a row. -/
theorem by_head (x : Vec Ideal S1x1024 .f32) (h : Fin 16) : chan (shapeCast S16x1x64 x shapeCasts_S1x1024_S16x1x64) h = channels x h := by
  funext d
  refine shapeCast_apply (s := S1x1024) (t := S16x1x64) x _ _ _ ?_
  rw [Shape.rowMajor_val_two, Shape.rowMajor_val_three]
  show 0 * 1024 + (64 * h.val + d.val) = (h.val * 1 + 0) * 64 + d.val
  omega

theorem by_head' (x : Vec Ideal S1x16x64 .f32) (h : Fin 16) :
    chan (shapeCast S16x1x64 x shapeCasts_S1x16x64_S16x1x64) h = fun d => x (ix3 (n0 := 1) (n1 := 16) (n2 := 64) 0 h d) := by
  funext d
  refine shapeCast_apply (s := S1x16x64) (t := S16x1x64) x _ _ _ ?_
  rw [Shape.rowMajor_val_three, Shape.rowMajor_val_three]
  show (0 * 16 + h.val) * 64 + d.val = (h.val * 1 + 0) * 64 + d.val
  omega

/-- What point `t` reads of the vectors. -/
theorem reads_chan (t : Fin cfg0.N) (h : Fin 16) :
    chan (iblk m c 5 t) h = channels (m ((c : Thread nD τ).loc main_arg5)) h
    ∧ chan (iblk m c 6 t) h = channels (m ((c : Thread nD τ).loc main_arg6)) h
    ∧ chan (iblk m c 7 t) h = fun d => m ((c : Thread nD τ).loc main_arg7) (ix3 (n0 := 1) (n1 := 16) (n2 := 64) 0 h d) := by
  obtain ⟨s5, s6, s7⟩ := still m c t
  rw [s5, s6, s7, scale_at, shift_at, weight_at]
  exact ⟨by_head _ h, by_head _ h, by_head' _ h⟩

/-! The body loads its blocks whole. -/

theorem ld_rows (x : Vec Ideal S16x256x64 .f32) : View.ld (Val := Elt Ideal) x r0_0 = x := funext fun j => by
  refine View.ld_unit_apply_of _ _ _ _ _ j fun d => ?_
  fin_cases d <;> simp <;> rfl

theorem ld_chan (x : Vec Ideal S16x1x64 .f32) : View.ld (Val := Elt Ideal) x r0_1 = x := funext fun j => by
  refine View.ld_unit_apply_of _ _ _ _ _ j fun d => ?_
  fin_cases d <;> simp <;> rfl

/-- What point `t` leaves at entry `j` of its block. -/
theorem leaves (t : Fin cfg0.N) (j : S256x1024.Idx) (i : S2048x1024.Idx) (hi : (i 0).val = (grid0.coords t 0).val * 256 + (j 0).val ∧ (i 1).val = (j 1).val) :
    (dats m 0 c).after 9 t j = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) i := by
  obtain ⟨hy, hr, hk, hv, hg⟩ := reads m c t j i hi
  have eh : headOf j = headOf i := Fin.ext (by simp only [headOf, hi.2])
  have ed : inHead j = inHead i := Fin.ext (by simp only [inHead, hi.2])
  obtain ⟨ha, hb, hw⟩ := reads_chan m c t (headOf i)
  rw [after0_9]
  unfold_out out0_9
  refine (canon9_eq (F := Ideal) _ _ _ _ _ _ _ _ j).trans ?_
  rw [ld_rows, ld_rows, ld_rows, ld_rows, ld_rows, ld_chan, ld_chan, ld_chan]
  refine (body_at _ _ _ _ _ _ _ _ j).trans ?_
  rw [hy, hr, hk, hv, hg, eh, ed, ha, hb, hw]
  rfl

theorem arr9 : (dats m 0 c).arrAt 9 cfg0.N = result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) :=
  (dats m 0 c).arrAt_eq_of_covers 9 _ (by decide +kernel) fun t _ y => by
    blk_simp [place t]
    exact leaves m c t y _ (by blk_simp [place t]; exact ⟨trivial, trivial⟩)

end Cert.Step.Post

end
-- ==== Proof.Step.PostClaims.lean ====
/- The claims of the mixer's tail: the reference's frame and the equality of the result. -/
module

public import proofs.«01_k».proof.Defs
public import proofs.«01_k».proof.Proof.Step.PostRef
public import proofs.«01_k».proof.Proof.Step.PostKernel
public import proofs.«01_k».proof.Proof.Gen.PostRefIdeal.Run
public import Idealize.ShloMosaic.Lib.Claim
public import Idealize.ShloMosaic.Lib.Quiescent
public import Idealize.ShloMosaic.Adequacy
public import Idealize.ShloMosaic.Init

@[expose] public section

noncomputable section

namespace Cert.Step

open Idealize.ShloMosaic Idealize.SL.Sem

/-- The reference runs, its arguments end unchanged, and every semaphore counter ends at zero. -/
theorem Post.frame_ref : quiescent_PostRefIdeal (hPostRefIdeal := Cert.PostRefIdeal.Gen.facts) := fun m g _ => by
  hlo_run
  exacts [fun _ => ⟨trivial, trivial, trivial, trivial, trivial, trivial, trivial, trivial, trivial⟩,
    sem_eq_zero_of_no_sems (sig := Cert.PostRefIdeal.sig) (by decide) _]

/-- The call and its reference return the same array. -/
theorem Post.values : algebraic_PostIdeal_PostRefIdeal (hPostIdeal := Cert.PostIdeal.Gen.facts) (hPostRefIdeal := Cert.PostRefIdeal.Gen.facts) := by
  intro m g m' g' _ hagree
  refine ⟨_, Cert.PostIdeal.Value.run_blocks m g, (θ_run _ _ _).mono (fun r h c => ?_) (Cert.PostRefIdeal.Value.run m' g')⟩
  obtain ⟨a0, a1, a2, a3, a4, a5, a6, a7, _⟩ := hagree c
  obtain ⟨r0, k⟩ := h c
  refine ⟨r0.trans ?_, k⟩
  rw [Cert.PostRefIdeal.Read.val_main_v45_eq, a0, a1, a2, a3, a4, a5, a6, a7]
  exact (Post.ref_result ..).trans (Post.arr9 m c).symm

end Cert.Step

end
-- ==== Proof.Sgu.Block.lean ====
/- One block of 256 rows: what the body's vector values are when the operand blocks hold real numbers. -/
module

public import proofs.«01_k».proof.Proof.Gen.KernelIdeal.Skeleton
public import proofs.«01_k».proof.Proof.Sgu.Spec
public import Idealize.ShloMosaic.Lib.Pipeline.ValueKit
public import Idealize.ShloMosaic.Lib.Pointwise
public import Idealize.ShloMosaic.Lib.WordCmp

@[expose] public section

set_option maxRecDepth 16384

noncomputable section

namespace Cert.Sgu

open Cert.KernelIdeal Cert.KernelIdeal.Gen Idealize.ShloMosaic Idealize.ShloMosaic.TcCoe

/-- The operand blocks of grid point `t` hold the reals of `D`. -/
structure Held (D : Data) (t : ℕ) (x0 : FVec Ideal S256x2048 .f32) (x1 : FVec Ideal S256x1024 .f32)
    (x2 x3 : FVec Ideal S1x1024 .f32) (x4 : FVec Ideal S8x128x128 .f32) (x5 : FVec Ideal S128x1024 .f32) : Prop where
  z : ∀ (a : Fin 256) (b : Fin 2048), x0 (ix2 a b) = ((D.Z (256 * t + a) b : ℝ) : EReal)
  dy : ∀ (a : Fin 256) (k : Fin 1024), x1 (ix2 a k) = ((D.DY (256 * t + a) k : ℝ) : EReal)
  lg : ∀ k : Fin 1024, x2 (ix2 0 k) = ((D.LG k : ℝ) : EReal)
  lb : ∀ k : Fin 1024, x3 (ix2 0 k) = ((D.LB k : ℝ) : EReal)
  w : ∀ (g : Fin 8) (i s : Fin 128), x4 (ix3 g i s) = ((D.W g i s : ℝ) : EReal)
  b : ∀ (s : Fin 128) (k : Fin 1024), x5 (ix2 s k) = ((D.B (k / 128) s : ℝ) : EReal)

theorem named_root : Named.named (F := Ideal) (φ := .f32) κ "root_half" 0x3F3504F3#32 = (((Real.sqrt 2)⁻¹ : ℝ) : EReal) :=
  IdealRules.named_const.ideal_named_scalar _ _ _ _ rfl

variable {D : Data} {t : ℕ} {x0 : FVec Ideal S256x2048 .f32} {x1 : FVec Ideal S256x1024 .f32}
  {x2 x3 : FVec Ideal S1x1024 .f32} {x4 : FVec Ideal S8x128x128 .f32} {x5 : FVec Ideal S128x1024 .f32}

theorem erf_def (x : EReal) : FloatOps.erf (F := Ideal) (φ := .f32) x = Ideal.erf x := rfl

theorem pay6_at (H : Held D t x0 x1 x2 x3 x4 x5) (a : Fin 256) (b : Fin 2048) :
    k0_pay6 (F := Ideal) x0 (ix2 a b) = ((gelu (D.Z (256 * t + a) b) : ℝ) : EReal) := by
  pointwise [k0_pay6]
  rw [H.z, named_root, c_half, erf_def, ← EReal.coe_mul (D.Z _ _), erf_real]
  unfold gelu
  norm_cast

theorem pay7_at (H : Held D t x0 x1 x2 x3 x4 x5) (a : Fin 256) (k : Fin 1024) :
    k0_pay7 (F := Ideal) x0 (ix2 a k) = ((D.u (256 * t + a) k : ℝ) : EReal) := by
  pointwise [k0_pay7]
  rw [pay6_at H]; rfl

theorem pay8_at (H : Held D t x0 x1 x2 x3 x4 x5) (a : Fin 256) (k : Fin 1024) :
    k0_pay8 (F := Ideal) x0 (ix2 a k) = ((D.xc (256 * t + a) k : ℝ) : EReal) := by
  pointwise [k0_pay8]
  simp only [pay6_at H, coe_sum, c_1024]
  rw [div_real _ _ (by norm_num), ← EReal.coe_sub]; rfl

theorem pay9_at (H : Held D t x0 x1 x2 x3 x4 x5) (a : Fin 256) :
    k0_pay9 (F := Ideal) x0 (ix2 a 0) = ((D.rstd (256 * t + a) : ℝ) : EReal) := by
  pointwise [k0_pay9]
  simp only [pay8_at H, ← EReal.coe_mul, coe_sum, c_1024, c_eps]
  rw [div_real _ _ (by norm_num), ← EReal.coe_add]
  exact rsqrt_real _ (D.var_eps_pos _)

theorem pay10_at (H : Held D t x0 x1 x2 x3 x4 x5) (a : Fin 256) (k : Fin 1024) :
    k0_pay10 (F := Ideal) x0 (ix2 a k) = ((D.vn (256 * t + a) k : ℝ) : EReal) := by
  pointwise [k0_pay10]
  rw [pay8_at H, pay9_at H, ← EReal.coe_mul]; rfl

theorem pay11_at (H : Held D t x0 x1 x2 x3 x4 x5) (a : Fin 256) (k : Fin 1024) :
    k0_pay11 (F := Ideal) x0 x2 x3 (ix2 a k) = ((D.vl (256 * t + a) k : ℝ) : EReal) := by
  pointwise [k0_pay11]
  rw [pay10_at H, H.lg, H.lb, ← EReal.coe_mul, ← EReal.coe_add]; rfl

theorem named_gauss : Named.named (F := Ideal) (φ := .f32) κ "gauss" 0x3ECC422A#32 = ((9465531 / 16777216 * (Real.sqrt 2)⁻¹ : ℝ) : EReal) :=
  IdealRules.named_const.ideal_named_scalar _ _ _ _ rfl

theorem pay149_at (H : Held D t x0 x1 x2 x3 x4 x5) (a : Fin 256) (b : Fin 2048) :
    k0_pay149 (F := Ideal) x0 (ix2 a b) = ((slope (D.Z (256 * t + a) b) : ℝ) : EReal) := by
  pointwise [k0_pay149]
  rw [H.z, named_root, named_gauss, c_half, c_neg_half, erf_def, ← EReal.coe_mul (D.Z _ _), erf_real, ← EReal.coe_mul,
    ← EReal.coe_mul, exp_real]
  unfold slope
  norm_cast

/-- The causal mask of a chunk, at row `i` and column `s`. -/
theorem mask_at (i s : Fin 128) (h0 h1) (p q : EReal) :
    Scalar.select (cmpi .sge (iota .tc S128x128 32 [0] h0) (iota .tc S128x128 32 [1] h1) (ix2 i s)) p q
      = if s.val ≤ i.val then p else q := by
  pointwise
  simp (disch := omega) only [hlo_ix]

/-- A product that contracts the rows of both. -/
theorem mm_rows (A B : FVec Ideal S128x128 .bf16) (h) (i c : Fin 128) :
    shapeCast S128x128 (matmul dot_S128x128_S128x128_S128x128_0_0_1_1_n_n none A B (constant S128x128 FTy.f32 0#32)) h (ix2 i c)
      = ∑ k : Fin 128, A (ix2 k i) * B (ix2 k c) := by
  pointwise

/-- A product that contracts the columns of both. -/
theorem mm_cols (A B : FVec Ideal S128x128 .bf16) (i c : Fin 128) :
    matmul dot_S128x128_S128x128_S128x128_1_1_0_0_n_n none A B (constant S128x128 FTy.f32 0#32) (ix2 i c)
      = ∑ k : Fin 128, A (ix2 i k) * B (ix2 c k) := by
  pointwise

/-- A plain product. -/
theorem mm_plain (A B : FVec Ideal S128x128 .bf16) (i c : Fin 128) :
    matmul dot_S128x128_S128x128_S128x128_1_0_0_1_n_n none A B (constant S128x128 FTy.f32 0#32) (ix2 i c)
      = ∑ k : Fin 128, A (ix2 i k) * B (ix2 k c) := by
  pointwise

/-- A slab of one group read as a square. -/
theorem cast_slab (Y : FVec Ideal S1x128x128 .f32) (h) (i s : Fin 128) : shapeCast S128x128 Y h (ix2 i s) = Y (ix3 0 i s) := by
  pointwise

theorem cast_square (Y : FVec Ideal S128x128 .f32) (h) (e : Fin 1) (i s : Fin 128) :
    shapeCast S1x128x128 Y h (ix3 e i s) = Y (ix2 i s) := by
  pointwise

/-- A masked weight. -/
theorem wc_at (H : Held D t x0 x1 x2 x3 x4 x5) {g : ℕ} (hg : g < 8) {h1 h2 h3 h4 h5} (i s : Fin 128) :
    truncf FTy.bf16
      (select (cmpi CmpIPredicate.sge (iota Kind.tc S128x128 32 [0] h1) (iota Kind.tc S128x128 32 [1] h2))
        (shapeCast S128x128 (View.ld (Val := Elt Ideal) (e' := .f32) x4 (Rect.unit ![g, 0, 0] ![1, 128, 128] h3)) h4)
        (broadcast S128x128 (FloatOps.ofBits (F := Ideal) FTy.f32 0#32))) h5 (ix2 i s) = ((D.wc g i s : ℝ) : EReal) := by
  have hw : shapeCast S128x128 (View.ld (Val := Elt Ideal) (e' := .f32) x4 (Rect.unit ![g, 0, 0] ![1, 128, 128] h3)) h4 (ix2 i s)
      = ((D.W g i s : ℝ) : EReal) := by
    refine (cast_slab _ h4 i s).trans ?_
    refine (View.ld_unit_apply_of _ _ _ _ _ (ix3 ⟨g, hg⟩ i s) (fun a => ?_)).trans (H.w ⟨g, hg⟩ i s)
    fin_cases a <;> simp [ix3]
  generalize shapeCast S128x128 (View.ld (Val := Elt Ideal) (e' := .f32) x4 (Rect.unit ![g, 0, 0] ![1, 128, 128] h3)) h4 = Y at hw ⊢
  refine (mask_at i s h1 h2 _ _).trans ?_
  rw [hw]
  unfold Data.wc
  split
  · rfl
  · exact Ideal.ofBits_zero_f32

/-- A tile cut out of a block. -/
theorem slice_at (Y : FVec Ideal S256x1024 .f32) {r k : ℕ} (hr : r ≤ 128) (hk : k ≤ 896) (h) (i c : Fin 128) :
    extractStridedSlice S128x128 ![r, k] Y h (ix2 i c) = Y (ix2 ⟨r + i, by omega⟩ ⟨k + c, by omega⟩) := by
  refine congrArg Y ?_
  funext a
  fin_cases a <;> simp [ix2] <;> rfl

/-- A tile loaded out of a block. -/
theorem ld_at (Y : FVec Ideal S256x1024 .f32) {r k : ℕ} (hr : r ≤ 128) (hk : k ≤ 896) (h) (i c : Fin 128) :
    View.ld (Val := Elt Ideal) (e' := .f32) Y (Rect.unit ![r, k] ![128, 128] h) (ix2 i c)
      = Y (ix2 ⟨r + i, by omega⟩ ⟨k + c, by omega⟩) := by
  refine View.ld_unit_apply_of _ _ _ _ _ _ (fun a => ?_)
  fin_cases a <;> simp [ix2]

/-- A tile loaded out of a chunk. -/
theorem ld_chunk_at (Y : FVec Ideal S128x1024 .f32) {k : ℕ} (hk : k ≤ 896) (h) (i c : Fin 128) :
    View.ld (Val := Elt Ideal) (e' := .f32) Y (Rect.unit ![0, k] ![128, 128] h) (ix2 i c) = Y (ix2 i ⟨k + c, by omega⟩) := by
  refine View.ld_unit_apply_of _ _ _ _ _ _ (fun a => ?_)
  fin_cases a <;> simp [ix2]

/-- A slab loaded out of the groups. -/
theorem ld_slab_at (Y : FVec Ideal S8x128x128 .f32) {g : ℕ} (hg : g < 8) (h) (h') (i s : Fin 128) :
    shapeCast S128x128 (View.ld (Val := Elt Ideal) (e' := .f32) Y (Rect.unit ![g, 0, 0] ![1, 128, 128] h)) h' (ix2 i s)
      = Y (ix3 ⟨g, hg⟩ i s) := by
  refine (cast_slab _ h' i s).trans ?_
  refine View.ld_unit_apply_of _ _ _ _ _ _ (fun a => ?_)
  fin_cases a <;> simp [ix3]

/-- A tile of the mixed value's gradient. -/
theorem dm_at (H : Held D t x0 x1 x2 x3 x4 x5) {r k : ℕ} (hr : r ≤ 128) (hk : k ≤ 896) {h1 h2} (i c : Fin 128) :
    mulf (F := Ideal) (φ := .f32) (View.ld (Val := Elt Ideal) (e' := .f32) x1 (Rect.unit ![r, k] ![128, 128] h1))
      (extractStridedSlice S128x128 ![r, k] (k0_pay7 (F := Ideal) x0) h2) (ix2 i c)
      = ((D.dm (256 * t + (r + i)) (k + c) : ℝ) : EReal) :=
  (congrArg₂ (· * ·) ((ld_at x1 hr hk h1 i c).trans (H.dy _ _)) ((slice_at _ hr hk h2 i c).trans (pay7_at H _ _))).trans
    (EReal.coe_mul _ _).symm

/-- A tile of the mixing's operand. -/
theorem vl_at (H : Held D t x0 x1 x2 x3 x4 x5) {r k : ℕ} (hr : r ≤ 128) (hk : k ≤ 896) {h1 h2} (i c : Fin 128) :
    truncf (F := Ideal) (φ := .f32) FTy.bf16 (extractStridedSlice S128x128 ![r, k] (k0_pay11 (F := Ideal) x0 x2 x3) h1) h2 (ix2 i c)
      = ((D.vl (256 * t + (r + i)) (k + c) : ℝ) : EReal) :=
  (slice_at _ hr hk h1 i c).trans (pay11_at H _ _)

/-- A tile of the mixing operand's gradient. -/
theorem dvl_tile (H : Held D t x0 x1 x2 x3 x4 x5) {r k g : ℕ} (hn : r / 128 < 2) (hg : g < 8) (hd : r = 128 * (r / 128))
    (hk : k = 128 * g) {h1 h2 h3 h4 h5 h6 h7 h8 h9} (x : S128x128.Idx) :
    shapeCast S128x128
      (matmul (F := Ideal) dot_S128x128_S128x128_S128x128_0_0_1_1_n_n none
        (truncf FTy.bf16
          (select (cmpi CmpIPredicate.sge (iota Kind.tc S128x128 32 [0] h1) (iota Kind.tc S128x128 32 [1] h2))
            (shapeCast S128x128 (View.ld (Val := Elt Ideal) (e' := .f32) x4 (Rect.unit ![g, 0, 0] ![1, 128, 128] h3)) h4)
            (broadcast S128x128 (FloatOps.ofBits (F := Ideal) FTy.f32 0#32))) h5)
        (truncf FTy.bf16
          (mulf (F := Ideal) (φ := .f32) (View.ld (Val := Elt Ideal) (e' := .f32) x1 (Rect.unit ![r, k] ![128, 128] h6))
            (extractStridedSlice S128x128 ![r, k] (k0_pay7 (F := Ideal) x0) h7)) h8)
        (constant S128x128 FTy.f32 0#32)) h9 x
      = ((D.dvl (256 * t + (r + (x 0).val)) (k + (x 1).val) : ℝ) : EReal) := by
  obtain ⟨i, c, rfl⟩ : ∃ (i : Fin 128) (c : Fin 128), x = ix2 i c := ⟨x 0, x 1, eq_ix2 x⟩
  obtain ⟨n, hn, hr⟩ : ∃ n < 2, r = 128 * n := ⟨r / 128, hn, hd⟩
  refine (mm_rows _ _ h9 i c).trans ?_
  refine (Finset.sum_congr rfl fun j _ => (congrArg₂ (· * ·) (wc_at H hg j i)
    (dm_at H (by omega) (by omega) (h1 := h6) (h2 := h7) j c)).trans (EReal.coe_mul _ _).symm).trans ?_
  rw [coe_sum, hr, hk]
  refine congrArg _ ?_
  rw [ix2_0, ix2_1, show 256 * t + (128 * n + i.val) = 128 * (2 * t + n) + i.val by ring, D.dvl_at _ _ _ _ i.2 c.2]
  unfold Data.dvlc
  exact Finset.sum_congr rfl fun j _ => by rw [show 256 * t + (128 * n + j.val) = 128 * (2 * t + n) + j.val by ring]

/-- A tile of the gradient of `u`. -/
theorem du_tile (H : Held D t x0 x1 x2 x3 x4 x5) {r k g : ℕ} (hn : r / 128 < 2) (hg : g < 8) (hd : r = 128 * (r / 128))
    (hk : k = 128 * g) {h1 h2 h3 h4 h5 h6 h7 h8 h9 h10 h11} (x : S128x128.Idx) :
    shapeCast S128x128
      (mulf (F := Ideal) (φ := .f32) (View.ld (Val := Elt Ideal) (e' := .f32) x1 (Rect.unit ![r, k] ![128, 128] h6))
        (addf (F := Ideal) (φ := .f32)
          (matmul (F := Ideal) dot_S128x128_S128x128_S128x128_1_0_0_1_n_n none
            (truncf FTy.bf16
              (select (cmpi CmpIPredicate.sge (iota Kind.tc S128x128 32 [0] h1) (iota Kind.tc S128x128 32 [1] h2))
                (shapeCast S128x128 (View.ld (Val := Elt Ideal) (e' := .f32) x4 (Rect.unit ![g, 0, 0] ![1, 128, 128] h3)) h4)
                (broadcast S128x128 (FloatOps.ofBits (F := Ideal) FTy.f32 0#32))) h5)
            (truncf FTy.bf16 (extractStridedSlice S128x128 ![r, k] (k0_pay11 (F := Ideal) x0 x2 x3) h7) h8)
            (constant S128x128 FTy.f32 0#32))
          (shapeCast S128x128 (View.ld (Val := Elt Ideal) (e' := .f32) x5 (Rect.unit ![0, k] ![128, 128] h9)) h10))) h11 x
      = ((D.du (256 * t + (r + (x 0).val)) (k + (x 1).val) : ℝ) : EReal) := by
  obtain ⟨i, c, rfl⟩ : ∃ (i : Fin 128) (c : Fin 128), x = ix2 i c := ⟨x 0, x 1, eq_ix2 x⟩
  obtain ⟨n, hn, hr⟩ : ∃ n < 2, r = 128 * n := ⟨r / 128, hn, hd⟩
  refine (congrFun (shapeCast_id (s := S128x128) _ h11) _).trans ?_
  have hb : shapeCast S128x128 (View.ld (Val := Elt Ideal) (e' := .f32) x5 (Rect.unit ![0, k] ![128, 128] h9)) h10 (ix2 i c)
      = ((D.B g i : ℝ) : EReal) := by
    refine (congrFun (shapeCast_id (s := S128x128) _ h10) _).trans ?_
    refine (ld_chunk_at x5 (by omega) h9 i c).trans ((H.b _ _).trans ?_)
    rw [show (⟨k + c.val, by omega⟩ : Fin 1024).val / 128 = g by simp only; omega]
  have hm := (mm_plain _ _ i c).trans ((Finset.sum_congr rfl fun j _ => (congrArg₂ (· * ·)
    (wc_at H hg (h1 := h1) (h2 := h2) (h3 := h3) (h4 := h4) (h5 := h5) i j)
    (vl_at H (show r ≤ 128 by omega) (show k ≤ 896 by omega) (h1 := h7) (h2 := h8) j c)).trans (EReal.coe_mul _ _).symm).trans (coe_sum _ _))
  refine (congrArg₂ (· * ·) ((ld_at x1 (by omega) (by omega) h6 i c).trans (H.dy _ _))
    ((congrArg₂ (· + ·) hm hb).trans (EReal.coe_add _ _).symm)).trans ((EReal.coe_mul _ _).symm.trans (congrArg _ ?_))
  show D.DY (256 * t + (r + i.val)) (k + c.val) * _ = D.du (256 * t + (r + i.val)) (k + c.val)
  rw [hr, hk, show 256 * t + (128 * n + i.val) = 128 * (2 * t + n) + i.val by ring, D.du_at _ _ _ _ i.2 c.2]
  unfold Data.mix
  congr 2
  exact Finset.sum_congr rfl fun j _ => by rw [show 256 * t + (128 * n + j.val) = 128 * (2 * t + n) + j.val by ring]

/-- A masked chunk of the mixing weights' gradient. -/
theorem dw_at (H : Held D t x0 x1 x2 x3 x4 x5) {r k g : ℕ} (n : ℕ) (hn : n < 2) (hg : g < 8) (hr : r = 128 * n)
    (hk : k = 128 * g) {h1 h2 h3 h4 h5 h6 h7} (i s : Fin 128) :
    select (cmpi CmpIPredicate.sge (iota Kind.tc S128x128 32 [0] h1) (iota Kind.tc S128x128 32 [1] h2))
      (matmul (F := Ideal) dot_S128x128_S128x128_S128x128_1_1_0_0_n_n none
        (truncf FTy.bf16
          (mulf (F := Ideal) (φ := .f32) (View.ld (Val := Elt Ideal) (e' := .f32) x1 (Rect.unit ![r, k] ![128, 128] h3))
            (extractStridedSlice S128x128 ![r, k] (k0_pay7 (F := Ideal) x0) h4)) h5)
        (truncf FTy.bf16 (extractStridedSlice S128x128 ![r, k] (k0_pay11 (F := Ideal) x0 x2 x3) h6) h7)
        (constant S128x128 FTy.f32 0#32))
      (broadcast S128x128 (FloatOps.ofBits (F := Ideal) FTy.f32 0#32)) (ix2 i s)
      = ((D.dwsPart (2 * t + n) g i s : ℝ) : EReal) := by
  refine (mask_at i s h1 h2 _ _).trans ?_
  unfold Data.dwsPart
  split
  · refine (mm_cols _ _ i s).trans ((Finset.sum_congr rfl fun j _ => (congrArg₂ (· * ·)
      (dm_at H (by omega) (by omega) (h1 := h3) (h2 := h4) i j)
      (vl_at H (show r ≤ 128 by omega) (show k ≤ 896 by omega) (h1 := h6) (h2 := h7) s j)).trans (EReal.coe_mul _ _).symm).trans
        ((coe_sum _ _).trans (congrArg _ ?_)))
    refine Finset.sum_congr rfl fun j _ => ?_
    rw [hr, hk, show 256 * t + (128 * n + i.val) = 128 * (2 * t + n) + i.val by ring,
      show 256 * t + (128 * n + s.val) = 128 * (2 * t + n) + s.val by ring]
  · exact Ideal.ofBits_zero_f32

/-- A slab of the mixing weights' gradient after both chunks of a block. -/
theorem dw_slab (H : Held D t x0 x1 x2 x3 x4 x5) {k k' g : ℕ} (hg : g < 8) (hk : k = 128 * g) (hk' : k' = 128 * g)
    {P : FVec Ideal S8x128x128 .f32} {p : ℕ → ℕ → ℕ → ℝ} (hP : ∀ (g : Fin 8) (i s : Fin 128), P (ix3 g i s) = ((p g i s : ℝ) : EReal))
    {h1 h2 h3 h4 h5 h6 h7 h1' h2' h3' h4' h5' h6' h7' h8 h9 h10 h11 h12} (x : S1x128x128.Idx) :
    shapeCast S1x128x128
      (addf (F := Ideal) (φ := .f32)
        (shapeCast S128x128
          (shapeCast S1x128x128
            (addf (F := Ideal) (φ := .f32)
              (shapeCast S128x128 (View.ld (Val := Elt Ideal) (e' := .f32) P (Rect.unit ![g, 0, 0] ![1, 128, 128] h8)) h9)
              (select (cmpi CmpIPredicate.sge (iota Kind.tc S128x128 32 [0] h1) (iota Kind.tc S128x128 32 [1] h2))
                (matmul (F := Ideal) dot_S128x128_S128x128_S128x128_1_1_0_0_n_n none
                  (truncf FTy.bf16
                    (mulf (F := Ideal) (φ := .f32) (View.ld (Val := Elt Ideal) (e' := .f32) x1 (Rect.unit ![0, k] ![128, 128] h3))
                      (extractStridedSlice S128x128 ![0, k] (k0_pay7 (F := Ideal) x0) h4)) h5)
                  (truncf FTy.bf16 (extractStridedSlice S128x128 ![0, k] (k0_pay11 (F := Ideal) x0 x2 x3) h6) h7)
                  (constant S128x128 FTy.f32 0#32))
                (broadcast S128x128 (FloatOps.ofBits (F := Ideal) FTy.f32 0#32)))) h10) h11)
        (select (cmpi CmpIPredicate.sge (iota Kind.tc S128x128 32 [0] h1') (iota Kind.tc S128x128 32 [1] h2'))
          (matmul (F := Ideal) dot_S128x128_S128x128_S128x128_1_1_0_0_n_n none
            (truncf FTy.bf16
              (mulf (F := Ideal) (φ := .f32) (View.ld (Val := Elt Ideal) (e' := .f32) x1 (Rect.unit ![128, k'] ![128, 128] h3'))
                (extractStridedSlice S128x128 ![128, k'] (k0_pay7 (F := Ideal) x0) h4')) h5')
            (truncf FTy.bf16 (extractStridedSlice S128x128 ![128, k'] (k0_pay11 (F := Ideal) x0 x2 x3) h6') h7')
            (constant S128x128 FTy.f32 0#32))
          (broadcast S128x128 (FloatOps.ofBits (F := Ideal) FTy.f32 0#32)))) h12 x
      = ((p (g + (x 0).val) (0 + (x 1).val) (0 + (x 2).val)
          + (D.dwsPart (2 * t) (g + (x 0).val) (0 + (x 1).val) (0 + (x 2).val)
            + D.dwsPart (2 * t + 1) (g + (x 0).val) (0 + (x 1).val) (0 + (x 2).val)) : ℝ) : EReal) := by
  obtain ⟨e, i, s, rfl⟩ : ∃ (e : Fin 1) (i s : Fin 128), x = ix3 e i s := ⟨x 0, x 1, x 2, eq_ix3 x⟩
  refine (cast_square _ h12 e i s).trans ?_
  have ha := dw_at H (r := 0) (k := k) 0 (by omega) hg rfl hk (h1 := h1) (h2 := h2) (h3 := h3) (h4 := h4) (h5 := h5) (h6 := h6) (h7 := h7) i s
  have hb := dw_at H (r := 128) (k := k') 1 (by omega) hg rfl hk' (h1 := h1') (h2 := h2') (h3 := h3') (h4 := h4') (h5 := h5') (h6 := h6') (h7 := h7') i s
  have hp := (ld_slab_at P hg h8 h9 i s).trans (hP _ _ _)
  refine (congrArg₂ (· + ·) ((cast_slab _ h11 i s).trans ((cast_square _ h10 0 i s).trans
    ((congrArg₂ (· + ·) hp ha).trans (EReal.coe_add _ _).symm))) hb).trans ((EReal.coe_add _ _).symm.trans (congrArg _ ?_))
  rw [ix3_0, ix3_1, ix3_2, Fin.val_eq_zero e]
  simp only [add_zero, zero_add]
  ring

/-- A tile of the mixed value's gradient summed over the chunks, after both chunks of a block. -/
theorem dm_slab (H : Held D t x0 x1 x2 x3 x4 x5) {k : ℕ} (hk : k ≤ 896)
    {P : FVec Ideal S128x1024 .f32} {p : ℕ → ℕ → ℝ} (hP : ∀ (i : Fin 128) (k : Fin 1024), P (ix2 i k) = ((p i k : ℝ) : EReal))
    {h1 h2 h3 h4 h5 h6 h7} (x : S128x128.Idx) :
    shapeCast S128x128
      (addf (F := Ideal) (φ := .f32)
        (shapeCast S128x128
          (addf (F := Ideal) (φ := .f32) (View.ld (Val := Elt Ideal) (e' := .f32) P (Rect.unit ![0, k] ![128, 128] h1))
            (mulf (F := Ideal) (φ := .f32) (View.ld (Val := Elt Ideal) (e' := .f32) x1 (Rect.unit ![0, k] ![128, 128] h2))
              (extractStridedSlice S128x128 ![0, k] (k0_pay7 (F := Ideal) x0) h3))) h4)
        (mulf (F := Ideal) (φ := .f32) (View.ld (Val := Elt Ideal) (e' := .f32) x1 (Rect.unit ![128, k] ![128, 128] h5))
          (extractStridedSlice S128x128 ![128, k] (k0_pay7 (F := Ideal) x0) h6))) h7 x
      = ((p (0 + (x 0).val) (k + (x 1).val)
          + (D.dm (128 * (2 * t) + (0 + (x 0).val)) (k + (x 1).val)
            + D.dm (128 * (2 * t + 1) + (0 + (x 0).val)) (k + (x 1).val)) : ℝ) : EReal) := by
  obtain ⟨i, c, rfl⟩ : ∃ (i : Fin 128) (c : Fin 128), x = ix2 i c := ⟨x 0, x 1, eq_ix2 x⟩
  refine (congrFun (shapeCast_id (s := S128x128) _ h7) _).trans ?_
  have ha := dm_at H (r := 0) (k := k) (by omega) hk (h1 := h2) (h2 := h3) i c
  have hb := dm_at H (r := 128) (k := k) (by omega) hk (h1 := h5) (h2 := h6) i c
  have hp := (ld_chunk_at P hk h1 i c).trans (hP _ _)
  refine (congrArg₂ (· + ·) ((congrFun (shapeCast_id (s := S128x128) _ h4) _).trans
    ((congrArg₂ (· + ·) hp ha).trans (EReal.coe_add _ _).symm)) hb).trans ((EReal.coe_add _ _).symm.trans (congrArg _ ?_))
  rw [ix2_0, ix2_1, show 256 * t + (0 + i.val) = 128 * (2 * t) + (0 + i.val) by ring,
    show 256 * t + (128 + i.val) = 128 * (2 * t + 1) + (0 + i.val) by ring, zero_add]
  ring

end Cert.Sgu

end
-- ==== Proof.Sgu.Rows.lean ====
/- The values of a block that are taken over whole rows or whole columns: the gradient through the normalisation, the
   sums over the rows of a block, and the sum over the columns of a group. -/
module

public import proofs.«01_k».proof.Proof.Sgu.Block

@[expose] public section

set_option maxRecDepth 16384

noncomputable section

namespace Cert.Sgu

open Cert.KernelIdeal Cert.KernelIdeal.Gen Idealize.ShloMosaic Idealize.ShloMosaic.TcCoe

variable {D : Data} {t : ℕ} {x0 : FVec Ideal S256x2048 .f32} {x1 : FVec Ideal S256x1024 .f32}
  {x2 x3 : FVec Ideal S1x1024 .f32} {x4 : FVec Ideal S8x128x128 .f32} {x5 : FVec Ideal S128x1024 .f32}

/-- The gradient of the scaled row, scaled. -/
theorem dvn_at (H : Held D t x0 x1 x2 x3 x4 x5) {d : FVec Ideal S256x1024 .f32}
    (hd : ∀ (a : Fin 256) (k : Fin 1024), d (ix2 a k) = ((D.dvl (256 * t + a) k : ℝ) : EReal)) {h} (a : Fin 256) (k : Fin 1024) :
    mulf (F := Ideal) (φ := .f32) d (broadcastTo S256x1024 x2 h) (ix2 a k) = ((D.dvn (256 * t + a) k : ℝ) : EReal) := by
  pointwise
  rw [hd, H.lg, ← EReal.coe_mul]; rfl

/-- A row about its mean, from the row's values. -/
theorem center_at {Y : FVec Ideal S256x1024 .f32} {y : ℕ → ℕ → ℝ}
    (hY : ∀ (a : Fin 256) (k : Fin 1024), Y (ix2 a k) = ((y a k : ℝ) : EReal)) {h1 h2 h3 h4 h5} (a : Fin 256) (k : Fin 1024) :
    subf (F := Ideal) (φ := .f32) Y
      (broadcastTo S256x1024
        (divf (F := Ideal) (φ := .f32)
          (shapeCast S256x1 (multiReduction (F := Ideal) FKind.add [1] S256 Y 0#32 h1 h2 h3) h4)
          (broadcast S256x1 (FloatOps.ofBits (F := Ideal) FTy.f32 1149239296#32))) h5) (ix2 a k)
      = ((y a k - (∑ k : Fin 1024, y a k) / 1024 : ℝ) : EReal) := by
  pointwise
  simp only [hY, coe_sum, c_1024]
  rw [div_real _ _ (by norm_num), ← EReal.coe_sub]

/-- The right half of the gradient of `z`, from the row and the row about its mean. -/
theorem pay148_at (H : Held D t x0 x1 x2 x3 x4 x5) {Y C : FVec Ideal S256x1024 .f32}
    (hY : ∀ (a : Fin 256) (k : Fin 1024), Y (ix2 a k) = ((D.dvn (256 * t + a) k : ℝ) : EReal))
    (hC : ∀ (a : Fin 256) (k : Fin 1024), C (ix2 a k) = ((D.dvn (256 * t + a) k - D.dvnMean (256 * t + a) : ℝ) : EReal))
    (a : Fin 256) (k : Fin 1024) :
    k0_pay148 (F := Ideal) (k0_pay9 (F := Ideal) x0) (k0_pay10 (F := Ideal) x0) Y C (ix2 a k)
      = ((D.dvv (256 * t + a) k : ℝ) : EReal) := by
  pointwise [k0_pay148]
  simp only [hY, hC, pay9_at H, pay10_at H, ← EReal.coe_mul, coe_sum, c_1024]
  rw [div_real _ _ (by norm_num)]
  unfold Data.dvv Data.dvnDot
  norm_cast

theorem pay1_at (Y : FVec Ideal S256x1024 .f32) (S : FVec Ideal S256x2048 .f32) (a : Fin 256) (k : Fin 1024) :
    k0_pay1 (F := Ideal) Y S (ix2 a k) = Y (ix2 a k) * S (ix2 a ⟨1024 + k, by omega⟩) := by
  pointwise [k0_pay1]

theorem pay150_at (Y : FVec Ideal S256x1024 .f32) (a : Fin 256) (k : Fin 1024) :
    k0_pay150 (F := Ideal) x0 Y (ix2 a k) = Y (ix2 a k) * k0_pay149 (F := Ideal) x0 (ix2 a ⟨0 + k, by omega⟩) := by
  pointwise [k0_pay150]

/-- A row of column sums after a block's rows are added. -/
theorem addrow_at {P : FVec Ideal S1x1024 .f32} {V : FVec Ideal S256x1024 .f32} {p : ℕ → ℝ} {v : ℕ → ℕ → ℝ}
    (hP : ∀ k : Fin 1024, P (ix2 0 k) = ((p k : ℝ) : EReal))
    (hV : ∀ (a : Fin 256) (k : Fin 1024), V (ix2 a k) = ((v a k : ℝ) : EReal)) {h0 h1 h2 h3 h4} (k : Fin 1024) :
    addf (F := Ideal) (φ := .f32) (shapeCast S1x1024 P h0)
      (shapeCast S1x1024 (multiReduction (F := Ideal) FKind.add [0] S1024 V 0#32 h1 h2 h3) h4) (ix2 0 k)
      = ((p k + ∑ a : Fin 256, v a k : ℝ) : EReal) := by
  pointwise
  simp only [hP, hV, coe_sum]
  rw [← EReal.coe_add]

theorem pay12_at (k : Fin 1024) : k0_pay12 (F := Ideal) (ix2 0 k) = ((0 : ℝ) : EReal) := by
  pointwise [k0_pay12]; exact EReal.coe_zero.symm

theorem pay13_at (k : Fin 1024) : k0_pay13 (F := Ideal) (ix2 0 k) = ((0 : ℝ) : EReal) := by
  pointwise [k0_pay13]; exact EReal.coe_zero.symm

theorem pay14_at (g : Fin 8) (i s : Fin 128) : k0_pay14 (F := Ideal) (ix3 g i s) = ((0 : ℝ) : EReal) := by
  pointwise [k0_pay14]; exact EReal.coe_zero.symm

theorem pay15_at (i : Fin 128) (k : Fin 1024) : k0_pay15 (F := Ideal) (ix2 i k) = ((0 : ℝ) : EReal) := by
  pointwise [k0_pay15]; exact EReal.coe_zero.symm

/-- The sums over the columns of each group, one lane to a group. -/
theorem lanes_at {f : ℕ → ℕ → ℝ} {Y0 Y1 Y2 Y3 Y4 Y5 Y6 Y7 : FVec Ideal S128x128 .f32}
    (h0 : ∀ x : S128x128.Idx, Y0 x = ((f (0 + (x 0).val) (0 + (x 1).val) : ℝ) : EReal))
    (h1 : ∀ x : S128x128.Idx, Y1 x = ((f (0 + (x 0).val) (128 + (x 1).val) : ℝ) : EReal))
    (h2 : ∀ x : S128x128.Idx, Y2 x = ((f (0 + (x 0).val) (256 + (x 1).val) : ℝ) : EReal))
    (h3 : ∀ x : S128x128.Idx, Y3 x = ((f (0 + (x 0).val) (384 + (x 1).val) : ℝ) : EReal))
    (h4 : ∀ x : S128x128.Idx, Y4 x = ((f (0 + (x 0).val) (512 + (x 1).val) : ℝ) : EReal))
    (h5 : ∀ x : S128x128.Idx, Y5 x = ((f (0 + (x 0).val) (640 + (x 1).val) : ℝ) : EReal))
    (h6 : ∀ x : S128x128.Idx, Y6 x = ((f (0 + (x 0).val) (768 + (x 1).val) : ℝ) : EReal))
    (h7 : ∀ x : S128x128.Idx, Y7 x = ((f (0 + (x 0).val) (896 + (x 1).val) : ℝ) : EReal)) (i l : Fin 128) :
    k0_pay2 (F := Ideal) (iota Kind.tc S128x128 32 [1] iota_S128x128_d1_w32) (k0_pay3 (F := Ideal) Y0 Y1 Y2 Y3)
        (k0_pay4 (F := Ideal) Y4) k0_pay5 Y5 Y6 Y7 (ix2 i l)
      = ((if l.val < 8 then ∑ c : Fin 128, f i (128 * l + c) else 0 : ℝ) : EReal) := by
  pointwise [k0_pay2, k0_pay3, k0_pay4, k0_pay5]
  simp (disch := omega) only [hlo_ix]
  simp only [h0, h1, h2, h3, h4, h5, h6, h7, coe_sum, ix2_0, ix2_1]
  generalize l.val = n
  by_cases hn : n < 8
  · rw [if_pos hn]
    interval_cases n <;> simp
  · rw [if_neg hn, if_neg (by omega), if_neg (by omega), if_neg (by omega), if_neg (by omega), if_neg (by omega),
      if_neg (by omega), if_neg (by omega), if_neg (by omega), EReal.coe_zero]

end Cert.Sgu

end
-- ==== Proof.Sgu.Tiles.lean ====
/- Reading an array that a body wrote tile by tile, where a tile written twice keeps its later value. -/
module

public import Idealize.ShloMosaic.Lib.Pipeline.ValueKit
public import Idealize.ShloMosaic.Lib.Pointwise

@[expose] public section

namespace Cert.Sgu

open Idealize.ShloMosaic

variable {Val : EltTy → Type} {e : EltTy} [∀ e, Nonempty (Val e)]

/-- Every piece of a list of pieces of a matrix holds the values `f` of its rows and columns. -/
theorem tile_cons {n0 n1 : ℕ} {f : ℕ → ℕ → Val e} {r k a b : ℕ} {h}
    {w : (Rect.unit (s := ⟨2, ![n0, n1]⟩) ![r, k] ![a, b] h).shape.Idx → Val e} {L : List (View.Piece Val ⟨2, ![n0, n1]⟩ e)}
    (hw : ∀ x, w x = f (r + (x 0).val) (k + (x 1).val))
    (hL : ∀ p ∈ L, ∀ x : p.1.shape.Idx, p.2 x = (fun y : (⟨2, ![n0, n1]⟩ : Shape).Idx => f (y 0).val (y 1).val) (p.1.emb x)) :
    ∀ p ∈ (⟨Rect.unit ![r, k] ![a, b] h, w⟩ : View.Piece Val ⟨2, ![n0, n1]⟩ e) :: L, ∀ x : p.1.shape.Idx,
      p.2 x = (fun y : (⟨2, ![n0, n1]⟩ : Shape).Idx => f (y 0).val (y 1).val) (p.1.emb x) := by
  intro p hp
  rcases List.mem_cons.1 hp with rfl | hp
  · intro x
    refine (hw x).trans ?_
    have h0 := Rect.idx_unit_val (s := ⟨2, ![n0, n1]⟩) ![r, k] ![a, b] h x 0
    have h1 := Rect.idx_unit_val (s := ⟨2, ![n0, n1]⟩) ![r, k] ![a, b] h x 1
    exact (congrArg₂ f h0 h1).symm
  · exact hL p hp

/-- `T` are the pieces of `L` that show, and hold `G`: each of them hides the piece of the same rectangle that follows it. -/
inductive Tops {s : Shape} (G : s.Idx → Val e) : List (View.Piece Val s e) → List (View.Piece Val s e) → Prop
  | rest (L : List (View.Piece Val s e)) : Tops G L []
  | pair {r : Rect s} {w w' : r.shape.Idx → Val e} {L T : List (View.Piece Val s e)} (hw : ∀ x, w x = G (r.emb x))
      (hL : Tops G L T) : Tops G (⟨r, w⟩ :: ⟨r, w'⟩ :: L) (⟨r, w⟩ :: T)

theorem canon_of_tops {s : Shape} {G : s.Idx → Val e} {L T : List (View.Piece Val s e)} (h : Tops G L T) (y : s.Idx)
    (hy : ∃ p ∈ T, y ∈ p.1.set) : View.canon L y = G y := by
  induction h with
  | rest L => obtain ⟨p, hp, _⟩ := hy; exact absurd hp (List.not_mem_nil)
  | @pair r w w' L T hw hL ih =>
    by_cases hm : y ∈ r.set
    · obtain ⟨x, rfl⟩ := r.exists_idx_of_mem hm
      exact (View.canon_cons_emb r w _ x).trans (hw x)
    · rw [View.canon_cons_of_not_mem ⟨r, w⟩ _ hm, View.canon_cons_of_not_mem ⟨r, w'⟩ _ hm]
      refine ih ?_
      obtain ⟨p, hp, hyp⟩ := hy
      rcases List.mem_cons.1 hp with rfl | hp
      · exact absurd hyp hm
      · exact ⟨p, hp, hyp⟩

theorem Tops.pair2 {n0 n1 : ℕ} {f : ℕ → ℕ → Val e} {r k a b : ℕ} {h}
    {w w' : (Rect.unit (s := ⟨2, ![n0, n1]⟩) ![r, k] ![a, b] h).shape.Idx → Val e} {L T : List (View.Piece Val ⟨2, ![n0, n1]⟩ e)}
    (hw : ∀ x, w x = f (r + (x 0).val) (k + (x 1).val))
    (hL : Tops (fun y : (⟨2, ![n0, n1]⟩ : Shape).Idx => f (y 0).val (y 1).val) L T) :
    Tops (fun y : (⟨2, ![n0, n1]⟩ : Shape).Idx => f (y 0).val (y 1).val)
      (⟨Rect.unit ![r, k] ![a, b] h, w⟩ :: ⟨Rect.unit ![r, k] ![a, b] h, w'⟩ :: L) (⟨Rect.unit ![r, k] ![a, b] h, w⟩ :: T) :=
  .pair (fun x => (hw x).trans (congrArg₂ f (Rect.idx_unit_val (s := ⟨2, ![n0, n1]⟩) ![r, k] ![a, b] h x 0)
    (Rect.idx_unit_val (s := ⟨2, ![n0, n1]⟩) ![r, k] ![a, b] h x 1)).symm) hL

theorem Tops.pair3 {n0 n1 n2 : ℕ} {f : ℕ → ℕ → ℕ → Val e} {q r k a b c : ℕ} {h}
    {w w' : (Rect.unit (s := ⟨3, ![n0, n1, n2]⟩) ![q, r, k] ![a, b, c] h).shape.Idx → Val e}
    {L T : List (View.Piece Val ⟨3, ![n0, n1, n2]⟩ e)}
    (hw : ∀ x, w x = f (q + (x 0).val) (r + (x 1).val) (k + (x 2).val))
    (hL : Tops (fun y : (⟨3, ![n0, n1, n2]⟩ : Shape).Idx => f (y 0).val (y 1).val (y 2).val) L T) :
    Tops (fun y : (⟨3, ![n0, n1, n2]⟩ : Shape).Idx => f (y 0).val (y 1).val (y 2).val)
      (⟨Rect.unit ![q, r, k] ![a, b, c] h, w⟩ :: ⟨Rect.unit ![q, r, k] ![a, b, c] h, w'⟩ :: L)
      (⟨Rect.unit ![q, r, k] ![a, b, c] h, w⟩ :: T) :=
  .pair (fun x => (hw x).trans (by
    have h0 := Rect.idx_unit_val (s := ⟨3, ![n0, n1, n2]⟩) ![q, r, k] ![a, b, c] h x 0
    have h1 := Rect.idx_unit_val (s := ⟨3, ![n0, n1, n2]⟩) ![q, r, k] ![a, b, c] h x 1
    have h2 := Rect.idx_unit_val (s := ⟨3, ![n0, n1, n2]⟩) ![q, r, k] ![a, b, c] h x 2
    exact ((congrArg (fun n => f n _ _) h0).trans ((congrArg (fun n => f _ n _) h1).trans (congrArg (f _ _) h2))).symm)) hL

end Cert.Sgu
-- ==== Proof.Sgu.Point.lean ====
/- What the body leaves in each window at a grid point, when the operand blocks hold real numbers. -/
module

public import proofs.«01_k».proof.Proof.Gen.KernelIdeal.Value
public import proofs.«01_k».proof.Proof.Sgu.Rows
public import proofs.«01_k».proof.Proof.Sgu.Tiles
public import Idealize.ShloMosaic.Lib.Pipeline.ReadBack

@[expose] public section

set_option maxRecDepth 16384

noncomputable section

namespace Cert.Sgu

open Cert.KernelIdeal Cert.KernelIdeal.Gen Idealize.ShloMosaic Idealize.ShloMosaic.TcCoe Idealize.SL.Sem

variable (m : (ℓ : Loc nD τ sig) → Buf (Elt Ideal) ℓ)

/-- The operand blocks of grid point `t` hold the reals of `D`. -/
abbrev At (D : Data) (c : Dev nD) (t : Fin cfg0.N) : Prop :=
  Held D t.val (iblk m c 0 t) (iblk m c 1 t) (iblk m c 2 t) (iblk m c 3 t) (iblk m c 4 t) (iblk m c 5 t)

variable {m} {D : Data} {c : Dev nD} {t : Fin cfg0.N}

/-- A block read back after it was written tile by tile. -/
theorem read_tiles {f : ℕ → ℕ → EReal} {L : List (View.Piece (Elt Ideal) S256x1024 .f32)} {κ : Kind} {sp : Space}
    {v : View sig κ sp S256x1024 .f32} {h} {d : FVec Ideal S256x1024 .f32}
    (hd : v.readCov (Val := Elt Ideal) L (Rect.unit ![0, 0] ![256, 1024] h).toLoadRect = d)
    (hL : ∀ p ∈ L, ∀ x : p.1.shape.Idx, p.2 x = (fun y : S256x1024.Idx => f (y 0).val (y 1).val) (p.1.emb x))
    (hc : View.Piece.tiled L ![128, 128] = true) (a : Fin 256) (k : Fin 1024) : d (ix2 a k) = f a k := by
  rw [← hd, View.readCov_eq_canon']
  refine (View.canon_apply_of_pieces (Val := Elt Ideal) (e := .f32) (fun y => f (y 0).val (y 1).val) _ hL _ (View.cover_of_tiled _ ![128, 128] hc _)).trans ?_
  simp

/-- The first point's gradient of the normalisation's scale. -/
theorem out7_A (H : At m D c t) (h0 : t.val % 8 = 0) (k : Fin 1024) :
    (outsAt0 m c t.val t.isLt).2.1 (ix2 0 k) = ((0 + D.dlgPart t.val k : ℝ) : EReal) := by
  rw [outsAt0_A m c t h0 (by omega)]
  all_goals dsimp only
  all_goals frame_open
  all_goals simp (disch := decide) only [↓ View.readCov_skip, ↓ View.readCov_cons_toLoadRect, ↓ View.readCov_fill]
  all_goals frame_out
  all_goals generalize hd : View.readCov (Val := Elt Ideal) (View.whole cc0_scratch1) _ _ = d
  all_goals
    have hv := read_tiles (f := fun r k => ((D.dvl (256 * t.val + r) k : ℝ) : EReal)) hd (by
      iterate 16
        refine tile_cons (Val := Elt Ideal) (e := .f32) (f := fun r k => ((D.dvl (256 * t.val + r) k : ℝ) : EReal)) (fun x => ?_) ?_
        · exact dvl_tile H (by decide) (by decide) (by decide) (by decide) x
      exact fun _ h => absurd h List.not_mem_nil) rfl
  all_goals
    have hw : ∀ (a : Fin 256) (k : Fin 1024), mulf (F := Ideal) (φ := .f32) d (k0_pay10 (F := Ideal) (iblk m c 0 t)) (ix2 a k)
        = ((D.dvl (256 * t.val + a) k * D.vn (256 * t.val + a) k : ℝ) : EReal) := fun a k =>
      (congrArg₂ (· * ·) (hv a k) (pay10_at H a k)).trans (EReal.coe_mul _ _).symm
  all_goals exact addrow_at (p := fun _ => 0) (v := fun a k => D.dvl (256 * t.val + a) k * D.vn (256 * t.val + a) k) (fun k => pay12_at k) hw k

/-- The later points' gradient of the normalisation's scale. -/
theorem out7_BC (H : At m D c t) (h0 : ¬ t.val % 8 = 0) {hp : t.val - 1 < cfg0.N} {p : ℕ → ℝ}
    (hP : ∀ k : Fin 1024, (outsAt0 m c (t.val - 1) hp).2.1 (ix2 0 k) = ((p k : ℝ) : EReal)) (k : Fin 1024) :
    (outsAt0 m c t.val t.isLt).2.1 (ix2 0 k) = ((p k + D.dlgPart t.val k : ℝ) : EReal) := by
  by_cases h1 : t.val % 8 = 7
  on_goal 1 => rw [outsAt0_C m c t h0 h1]
  on_goal 2 => rw [outsAt0_B m c t h0 h1]
  all_goals dsimp only
  all_goals frame_open
  all_goals simp (disch := decide) only [↓ View.readCov_skip, ↓ View.readCov_cons_toLoadRect, ↓ View.readCov_fill]
  all_goals frame_out
  all_goals generalize hd : View.readCov (Val := Elt Ideal) (View.whole cc0_scratch1) _ _ = d
  all_goals
    have hv := read_tiles (f := fun r k => ((D.dvl (256 * t.val + r) k : ℝ) : EReal)) hd (by
      iterate 16
        refine tile_cons (Val := Elt Ideal) (e := .f32) (f := fun r k => ((D.dvl (256 * t.val + r) k : ℝ) : EReal)) (fun x => ?_) ?_
        · exact dvl_tile H (by decide) (by decide) (by decide) (by decide) x
      exact fun _ h => absurd h List.not_mem_nil) rfl
  all_goals
    have hw : ∀ (a : Fin 256) (k : Fin 1024), mulf (F := Ideal) (φ := .f32) d (k0_pay10 (F := Ideal) (iblk m c 0 t)) (ix2 a k)
        = ((D.dvl (256 * t.val + a) k * D.vn (256 * t.val + a) k : ℝ) : EReal) := fun a k =>
      (congrArg₂ (· * ·) (hv a k) (pay10_at H a k)).trans (EReal.coe_mul _ _).symm
  all_goals exact addrow_at (v := fun a k => D.dvl (256 * t.val + a) k * D.vn (256 * t.val + a) k) hP hw k

/-- The first point's gradient of the normalisation's shift. -/
theorem out8_A (H : At m D c t) (h0 : t.val % 8 = 0) (k : Fin 1024) :
    (outsAt0 m c t.val t.isLt).2.2.1 (ix2 0 k) = ((0 + D.dlbPart t.val k : ℝ) : EReal) := by
  rw [outsAt0_A m c t h0 (by omega)]
  all_goals dsimp only
  all_goals frame_open
  all_goals simp (disch := decide) only [↓ View.readCov_skip, ↓ View.readCov_cons_toLoadRect, ↓ View.readCov_fill]
  all_goals frame_out
  all_goals generalize hd : View.readCov (Val := Elt Ideal) (View.whole cc0_scratch1) _ _ = d
  all_goals
    have hv := read_tiles (f := fun r k => ((D.dvl (256 * t.val + r) k : ℝ) : EReal)) hd (by
      iterate 16
        refine tile_cons (Val := Elt Ideal) (e := .f32) (f := fun r k => ((D.dvl (256 * t.val + r) k : ℝ) : EReal)) (fun x => ?_) ?_
        · exact dvl_tile H (by decide) (by decide) (by decide) (by decide) x
      exact fun _ h => absurd h List.not_mem_nil) rfl
  all_goals exact addrow_at (p := fun _ => 0) (v := fun a k => D.dvl (256 * t.val + a) k) (fun k => pay13_at k) hv k

/-- The later points' gradient of the normalisation's shift. -/
theorem out8_BC (H : At m D c t) (h0 : ¬ t.val % 8 = 0) {hp : t.val - 1 < cfg0.N} {p : ℕ → ℝ}
    (hP : ∀ k : Fin 1024, (outsAt0 m c (t.val - 1) hp).2.2.1 (ix2 0 k) = ((p k : ℝ) : EReal)) (k : Fin 1024) :
    (outsAt0 m c t.val t.isLt).2.2.1 (ix2 0 k) = ((p k + D.dlbPart t.val k : ℝ) : EReal) := by
  by_cases h1 : t.val % 8 = 7
  on_goal 1 => rw [outsAt0_C m c t h0 h1]
  on_goal 2 => rw [outsAt0_B m c t h0 h1]
  all_goals dsimp only
  all_goals frame_open
  all_goals simp (disch := decide) only [↓ View.readCov_skip, ↓ View.readCov_cons_toLoadRect, ↓ View.readCov_fill]
  all_goals frame_out
  all_goals generalize hd : View.readCov (Val := Elt Ideal) (View.whole cc0_scratch1) _ _ = d
  all_goals
    have hv := read_tiles (f := fun r k => ((D.dvl (256 * t.val + r) k : ℝ) : EReal)) hd (by
      iterate 16
        refine tile_cons (Val := Elt Ideal) (e := .f32) (f := fun r k => ((D.dvl (256 * t.val + r) k : ℝ) : EReal)) (fun x => ?_) ?_
        · exact dvl_tile H (by decide) (by decide) (by decide) (by decide) x
      exact fun _ h => absurd h List.not_mem_nil) rfl
  all_goals exact addrow_at (v := fun a k => D.dvl (256 * t.val + a) k) hP hv k

/-- An array written tile by tile, each tile twice. -/
theorem read_tops2 {n0 n1 : ℕ} {f : ℕ → ℕ → EReal} {L T : List (View.Piece (Elt Ideal) ⟨2, ![n0, n1]⟩ .f32)} (size : Fin 2 → ℕ)
    (h : Tops (fun y : (⟨2, ![n0, n1]⟩ : Shape).Idx => f (y 0).val (y 1).val) L T) (hc : View.Piece.tiled T size = true)
    (i : Fin n0) (k : Fin n1) : View.canon (Val := Elt Ideal) (e := .f32) L (ix2 i k) = f i k :=
  canon_of_tops h (ix2 i k) (View.cover_of_tiled T size hc _)

theorem read_tops3 {n0 n1 n2 : ℕ} {f : ℕ → ℕ → ℕ → EReal} {L T : List (View.Piece (Elt Ideal) ⟨3, ![n0, n1, n2]⟩ .f32)}
    (size : Fin 3 → ℕ) (h : Tops (fun y : (⟨3, ![n0, n1, n2]⟩ : Shape).Idx => f (y 0).val (y 1).val (y 2).val) L T)
    (hc : View.Piece.tiled T size = true) (g : Fin n0) (i : Fin n1) (k : Fin n2) :
    View.canon (Val := Elt Ideal) (e := .f32) L (ix3 g i k) = f g i k :=
  canon_of_tops h (ix3 g i k) (View.cover_of_tiled T size hc _)

/-- The gradient of `z` as the body writes it, in two halves. -/
theorem dz_at (H : At m D c t) {d e : FVec Ideal S256x1024 .f32}
    (hd : ∀ (a : Fin 256) (k : Fin 1024), d (ix2 a k) = ((D.dvl (256 * t.val + a) k : ℝ) : EReal))
    (he : ∀ (a : Fin 256) (k : Fin 1024), e (ix2 a k) = ((D.du (256 * t.val + a) k : ℝ) : EReal))
    {h1 h2 h3 h4 h5 h6 h7 h8 h9 h10} (a : Fin 256) (b : Fin 2048) :
    View.canon (Val := Elt Ideal) (s := S256x2048) (e := .bf16)
      [⟨Rect.unit ![0, 1024] ![256, 1024] h1,
          k0_pay1 (F := Ideal)
            (k0_pay148 (F := Ideal) (k0_pay9 (F := Ideal) (iblk m c 0 t)) (k0_pay10 (F := Ideal) (iblk m c 0 t))
              (mulf (F := Ideal) (φ := .f32) d (broadcastTo S256x1024 (iblk m c 2 t) h3))
              (subf (F := Ideal) (φ := .f32) (mulf (F := Ideal) (φ := .f32) d (broadcastTo S256x1024 (iblk m c 2 t) h4))
                (broadcastTo S256x1024
                  (divf (F := Ideal) (φ := .f32)
                    (shapeCast S256x1
                      (multiReduction (F := Ideal) FKind.add [1] S256 (mulf (F := Ideal) (φ := .f32) d (broadcastTo S256x1024 (iblk m c 2 t) h5)) 0#32 h6 h7 h8) h9)
                    (broadcast S256x1 (FloatOps.ofBits (F := Ideal) FTy.f32 1149239296#32))) h10)))
            (k0_pay149 (F := Ideal) (iblk m c 0 t))⟩,
        ⟨Rect.unit ![0, 0] ![256, 1024] h2, k0_pay150 (F := Ideal) (iblk m c 0 t) e⟩] (ix2 a b)
      = ((D.dz (256 * t.val + a) b : ℝ) : EReal) := by
  have hn := fun a k => dvn_at H hd (h := h3) a k
  have hc := fun a k => center_at (y := fun a k => D.dvn (256 * t.val + a) k) hn (h1 := h6) (h2 := h7) (h3 := h8) (h4 := h9) (h5 := h10) a k
  have hr := fun a k => pay148_at H hn hc a k
  refine (View.canon_apply_of_pieces (Val := Elt Ideal) (e := .bf16) (fun y : S256x2048.Idx => ((D.dz (256 * t.val + (y 0).val) (y 1).val : ℝ) : EReal)) _ ?_ _
    (View.cover_of_tiled _ ![256, 1024] ?_ _)).trans ?_
  · refine tile_cons (Val := Elt Ideal) (e := .bf16) (f := fun r k => ((D.dz (256 * t.val + r) k : ℝ) : EReal)) (fun x => ?_) ?_
    · obtain ⟨i, k, rfl⟩ : ∃ (i : Fin 256) (k : Fin 1024), x = ix2 i k := ⟨x 0, x 1, eq_ix2 x⟩
      refine (pay1_at _ _ i k).trans ?_
      refine (congrArg₂ (· * ·) (hr i k) (pay149_at H _ _)).trans ((EReal.coe_mul _ _).symm.trans (congrArg _ ?_))
      show _ = D.dz (256 * t.val + (0 + i.val)) (1024 + k.val)
      unfold Data.dz
      rw [if_neg (by omega), zero_add, Nat.add_sub_cancel_left]
    · refine tile_cons (Val := Elt Ideal) (e := .bf16) (f := fun r k => ((D.dz (256 * t.val + r) k : ℝ) : EReal)) (fun x => ?_) ?_
      · obtain ⟨i, k, rfl⟩ : ∃ (i : Fin 256) (k : Fin 1024), x = ix2 i k := ⟨x 0, x 1, eq_ix2 x⟩
        refine (pay150_at _ i k).trans ?_
        refine (congrArg₂ (· * ·) (he i k) (pay149_at H _ _)).trans ((EReal.coe_mul _ _).symm.trans (congrArg _ ?_))
        show _ = D.dz (256 * t.val + (0 + i.val)) (0 + k.val)
        unfold Data.dz
        rw [if_pos (by omega)]
        simp only [zero_add]
      · exact fun _ h => absurd h List.not_mem_nil
  · rfl
  · rfl

set_option maxHeartbeats 2000000 in
/-- A point's gradient of `z`. -/
theorem out6_at (H : At m D c t) (a : Fin 256) (b : Fin 2048) :
    (outsAt0 m c t.val t.isLt).1 (ix2 a b) = ((D.dz (256 * t.val + a) b : ℝ) : EReal) := by
  by_cases h0 : t.val % 8 = 0
  on_goal 1 => rw [outsAt0_A m c t h0 (by omega)]
  on_goal 2 => by_cases h1 : t.val % 8 = 7
  on_goal 2 => rw [outsAt0_C m c t h0 h1]
  on_goal 3 => rw [outsAt0_B m c t h0 h1]
  all_goals dsimp only
  all_goals frame_open
  all_goals simp (disch := decide) only [↓ View.readCov_skip, ↓ View.readCov_cons_toLoadRect, ↓ View.readCov_fill]
  all_goals frame_out
  all_goals generalize hd : View.readCov (Val := Elt Ideal) (View.whole cc0_scratch1) _ _ = d
  all_goals generalize he : View.readCov (Val := Elt Ideal) (View.whole cc0_scratch0) _ _ = e
  all_goals
    have hv := read_tiles (f := fun r k => ((D.dvl (256 * t.val + r) k : ℝ) : EReal)) hd (by
      iterate 16
        refine tile_cons (Val := Elt Ideal) (e := .f32) (f := fun r k => ((D.dvl (256 * t.val + r) k : ℝ) : EReal)) (fun x => ?_) ?_
        · exact dvl_tile H (by decide) (by decide) (by decide) (by decide) x
      exact fun _ h => absurd h List.not_mem_nil) rfl
  all_goals
    have hu := read_tiles (f := fun r k => ((D.du (256 * t.val + r) k : ℝ) : EReal)) he (by
      iterate 16
        refine tile_cons (Val := Elt Ideal) (e := .f32) (f := fun r k => ((D.du (256 * t.val + r) k : ℝ) : EReal)) (fun x => ?_) ?_
        · exact du_tile H (by decide) (by decide) (by decide) (by decide) x
      exact fun _ h => absurd h List.not_mem_nil) rfl
  all_goals exact dz_at H hv hu a b

/-- The first point's gradient of the mixed value, summed over the chunks. -/
theorem sum_A (H : At m D c t) (h0 : t.val % 8 = 0) (i : Fin 128) (k : Fin 1024) :
    (outsAt0 m c t.val t.isLt).2.2.2.2.2 (ix2 i k)
      = ((0 + (D.dm (128 * (2 * t.val) + i) k + D.dm (128 * (2 * t.val + 1) + i) k) : ℝ) : EReal) := by
  rw [outsAt0_A m c t h0 (by omega)]
  all_goals dsimp only
  all_goals frame_open
  all_goals simp (disch := decide) only [↓ View.readCov_skip, ↓ View.readCov_cons_toLoadRect, ↓ View.readCov_fill]
  all_goals frame_out
  all_goals
    apply read_tops2 (f := fun r k => ((0 + (D.dm (128 * (2 * t.val) + r) k + D.dm (128 * (2 * t.val + 1) + r) k) : ℝ) : EReal)) ![128, 128]
    · iterate 8
        apply Tops.pair2 (Val := Elt Ideal) (e := .f32) (f := fun r k => ((0 + (D.dm (128 * (2 * t.val) + r) k + D.dm (128 * (2 * t.val + 1) + r) k) : ℝ) : EReal))
        · intro x
          exact dm_slab H (by decide) (p := fun _ _ => 0) (fun i k => pay15_at i k) x
      exact .rest _
    · rfl

/-- The first point's gradient of the mixing weights. -/
theorem out9_A (H : At m D c t) (h0 : t.val % 8 = 0) (g : Fin 8) (i s : Fin 128) :
    (outsAt0 m c t.val t.isLt).2.2.2.1 (ix3 g i s)
      = ((0 + (D.dwsPart (2 * t.val) g i s + D.dwsPart (2 * t.val + 1) g i s) : ℝ) : EReal) := by
  rw [outsAt0_A m c t h0 (by omega)]
  all_goals dsimp only
  all_goals frame_open
  all_goals simp (disch := decide) only [↓ View.readCov_skip, ↓ View.readCov_cons_toLoadRect, ↓ View.readCov_fill]
  all_goals frame_out
  all_goals
    apply read_tops3 (f := fun g i s => ((0 + (D.dwsPart (2 * t.val) g i s + D.dwsPart (2 * t.val + 1) g i s) : ℝ) : EReal)) ![1, 128, 128]
    · iterate 8
        apply Tops.pair3 (Val := Elt Ideal) (e := .f32) (f := fun g i s => ((0 + (D.dwsPart (2 * t.val) g i s + D.dwsPart (2 * t.val + 1) g i s) : ℝ) : EReal))
        · intro x
          exact dw_slab H (by decide) rfl rfl (p := fun _ _ _ => 0) (fun g i k => pay14_at g i k) x
      exact .rest _
    · rfl

/-- The later points' gradient of the mixed value, summed over the chunks. -/
theorem sum_BC (H : At m D c t) (h0 : ¬ t.val % 8 = 0) {hp : t.val - 1 < cfg0.N} {p : ℕ → ℕ → ℝ}
    (hP : ∀ (i : Fin 128) (k : Fin 1024), (outsAt0 m c (t.val - 1) hp).2.2.2.2.2 (ix2 i k) = ((p i k : ℝ) : EReal)) (i : Fin 128) (k : Fin 1024) :
    (outsAt0 m c t.val t.isLt).2.2.2.2.2 (ix2 i k)
      = ((p i k + (D.dm (128 * (2 * t.val) + i) k + D.dm (128 * (2 * t.val + 1) + i) k) : ℝ) : EReal) := by
  by_cases h1 : t.val % 8 = 7
  on_goal 1 => rw [outsAt0_C m c t h0 h1]
  on_goal 2 => rw [outsAt0_B m c t h0 h1]
  all_goals dsimp only
  all_goals frame_open
  all_goals simp (disch := decide) only [↓ View.readCov_skip, ↓ View.readCov_cons_toLoadRect, ↓ View.readCov_fill]
  all_goals frame_out
  all_goals simp only [read_unread_whole]
  all_goals
    apply read_tops2 (f := fun r k => ((p r k + (D.dm (128 * (2 * t.val) + r) k + D.dm (128 * (2 * t.val + 1) + r) k) : ℝ) : EReal)) ![128, 128]
    · iterate 8
        apply Tops.pair2 (Val := Elt Ideal) (e := .f32) (f := fun r k => ((p r k + (D.dm (128 * (2 * t.val) + r) k + D.dm (128 * (2 * t.val + 1) + r) k) : ℝ) : EReal))
        · intro x
          exact dm_slab H (by decide) hP x
      exact .rest _
    · rfl

/-- The later points' gradient of the mixing weights. -/
theorem out9_BC (H : At m D c t) (h0 : ¬ t.val % 8 = 0) {hp : t.val - 1 < cfg0.N} {p : ℕ → ℕ → ℕ → ℝ}
    (hP : ∀ (g : Fin 8) (i s : Fin 128), (outsAt0 m c (t.val - 1) hp).2.2.2.1 (ix3 g i s) = ((p g i s : ℝ) : EReal)) (g : Fin 8) (i s : Fin 128) :
    (outsAt0 m c t.val t.isLt).2.2.2.1 (ix3 g i s)
      = ((p g i s + (D.dwsPart (2 * t.val) g i s + D.dwsPart (2 * t.val + 1) g i s) : ℝ) : EReal) := by
  by_cases h1 : t.val % 8 = 7
  on_goal 1 => rw [outsAt0_C m c t h0 h1]
  on_goal 2 => rw [outsAt0_B m c t h0 h1]
  all_goals dsimp only
  all_goals frame_open
  all_goals simp (disch := decide) only [↓ View.readCov_skip, ↓ View.readCov_cons_toLoadRect, ↓ View.readCov_fill]
  all_goals frame_out
  all_goals
    apply read_tops3 (f := fun g i s => ((p g i s + (D.dwsPart (2 * t.val) g i s + D.dwsPart (2 * t.val + 1) g i s) : ℝ) : EReal)) ![1, 128, 128]
    · iterate 8
        apply Tops.pair3 (Val := Elt Ideal) (e := .f32) (f := fun g i s => ((p g i s + (D.dwsPart (2 * t.val) g i s + D.dwsPart (2 * t.val + 1) g i s) : ℝ) : EReal))
        · intro x
          exact dw_slab H (by decide) rfl rfl hP x
      exact .rest _
    · rfl

/-- The last point's gradient of the mixing bias. -/
theorem out10_C (H : At m D c t) (h0 : ¬ t.val % 8 = 0) (h1 : t.val % 8 = 7) {hp : t.val - 1 < cfg0.N} {p : ℕ → ℕ → ℝ}
    (hP : ∀ (i : Fin 128) (k : Fin 1024), (outsAt0 m c (t.val - 1) hp).2.2.2.2.2 (ix2 i k) = ((p i k : ℝ) : EReal)) (i l : Fin 128) :
    (outsAt0 m c t.val t.isLt).2.2.2.2.1 (ix2 i l)
      = ((if l.val < 8 then ∑ c : Fin 128, (fun r k => p r k + (D.dm (128 * (2 * t.val) + r) k + D.dm (128 * (2 * t.val + 1) + r) k)) i (128 * l + c)
          else 0 : ℝ) : EReal) := by
  rw [outsAt0_C m c t h0 h1]
  all_goals dsimp only
  all_goals frame_open
  all_goals simp (disch := decide) only [↓ View.readCov_skip, ↓ View.readCov_cons_toLoadRect, ↓ View.readCov_fill]
  all_goals frame_out
  simp only [read_unread_whole]
  exact lanes_at (f := fun r k => p r k + (D.dm (128 * (2 * t.val) + r) k + D.dm (128 * (2 * t.val + 1) + r) k))
    (fun x => dm_slab (k := 0) H (by decide) hP x)
    (fun x => dm_slab (k := 128) H (by decide) hP x)
    (fun x => dm_slab (k := 256) H (by decide) hP x)
    (fun x => dm_slab (k := 384) H (by decide) hP x)
    (fun x => dm_slab (k := 512) H (by decide) hP x)
    (fun x => dm_slab (k := 640) H (by decide) hP x)
    (fun x => dm_slab (k := 768) H (by decide) hP x)
    (fun x => dm_slab (k := 896) H (by decide) hP x) i l

end Cert.Sgu

end
-- ==== Proof.Sgu.Fold.lean ====
/- What the windows that every grid point revisits hold after each point, and the arrays after the last one. -/
module

public import proofs.«01_k».proof.Proof.Sgu.Point
public import proofs.«01_k».proof.Proof.Sgu.Args

@[expose] public section

set_option maxRecDepth 16384

noncomputable section

namespace Cert.Sgu

open Cert.KernelIdeal Cert.KernelIdeal.Gen Idealize.ShloMosaic Idealize.ShloMosaic.TcCoe Idealize.SL.Sem

variable {m : (ℓ : Loc nD τ sig) → Buf (Elt Ideal) ℓ} {D : Data} {c : Dev nD}

theorem lt_eight {n : ℕ} (h : n < cfg0.N) : n < 8 := by
  have h8 : cfg0.N = 8 := N_0
  omega

theorem out7_at (hA : ∀ t, At m D c t) : ∀ (n : ℕ) (h : n < cfg0.N) (k : Fin 1024),
    (outsAt0 m c n h).2.1 (ix2 0 k) = ((∑ j : Fin (n + 1), D.dlgPart j k : ℝ) : EReal)
  | 0, h, k => by
    refine (out7_A (t := ⟨0, h⟩) (hA _) rfl k).trans ?_
    simp
  | n + 1, h, k => by
    have h8 := lt_eight h
    refine (out7_BC (t := ⟨n + 1, h⟩) (hA _) (by show ¬ (n + 1) % 8 = 0; omega)
      (p := fun k => ∑ j : Fin (n + 1), D.dlgPart j k) (fun k => out7_at hA n (Nat.lt_of_succ_lt h) k) k).trans ?_
    rw [Fin.sum_univ_castSucc (n := n + 1)]
    simp

theorem out8_at (hA : ∀ t, At m D c t) : ∀ (n : ℕ) (h : n < cfg0.N) (k : Fin 1024),
    (outsAt0 m c n h).2.2.1 (ix2 0 k) = ((∑ j : Fin (n + 1), D.dlbPart j k : ℝ) : EReal)
  | 0, h, k => by
    refine (out8_A (t := ⟨0, h⟩) (hA _) rfl k).trans ?_
    simp
  | n + 1, h, k => by
    have h8 := lt_eight h
    refine (out8_BC (t := ⟨n + 1, h⟩) (hA _) (by show ¬ (n + 1) % 8 = 0; omega)
      (p := fun k => ∑ j : Fin (n + 1), D.dlbPart j k) (fun k => out8_at hA n (Nat.lt_of_succ_lt h) k) k).trans ?_
    rw [Fin.sum_univ_castSucc (n := n + 1)]
    simp

theorem out9_at (hA : ∀ t, At m D c t) : ∀ (n : ℕ) (h : n < cfg0.N) (g : Fin 8) (i s : Fin 128),
    (outsAt0 m c n h).2.2.2.1 (ix3 g i s)
      = ((∑ j : Fin (n + 1), (D.dwsPart (2 * j) g i s + D.dwsPart (2 * j + 1) g i s) : ℝ) : EReal)
  | 0, h, g, i, s => by
    refine (out9_A (t := ⟨0, h⟩) (hA _) rfl g i s).trans ?_
    simp
  | n + 1, h, g, i, s => by
    have h8 := lt_eight h
    refine (out9_BC (t := ⟨n + 1, h⟩) (hA _) (by show ¬ (n + 1) % 8 = 0; omega)
      (p := fun g i s => ∑ j : Fin (n + 1), (D.dwsPart (2 * j) g i s + D.dwsPart (2 * j + 1) g i s))
      (fun g i s => out9_at hA n (Nat.lt_of_succ_lt h) g i s) g i s).trans ?_
    rw [Fin.sum_univ_castSucc (n := n + 1)]
    simp

theorem sum_at (hA : ∀ t, At m D c t) : ∀ (n : ℕ) (h : n < cfg0.N) (i : Fin 128) (k : Fin 1024),
    (outsAt0 m c n h).2.2.2.2.2 (ix2 i k)
      = ((∑ j : Fin (n + 1), (D.dm (128 * (2 * j) + i) k + D.dm (128 * (2 * j + 1) + i) k) : ℝ) : EReal)
  | 0, h, i, k => by
    refine (sum_A (t := ⟨0, h⟩) (hA _) rfl i k).trans ?_
    simp
  | n + 1, h, i, k => by
    have h8 := lt_eight h
    refine (sum_BC (t := ⟨n + 1, h⟩) (hA _) (by show ¬ (n + 1) % 8 = 0; omega)
      (p := fun i k => ∑ j : Fin (n + 1), (D.dm (128 * (2 * j) + i) k + D.dm (128 * (2 * j + 1) + i) k))
      (fun i k => sum_at hA n (Nat.lt_of_succ_lt h) i k) i k).trans ?_
    rw [Fin.sum_univ_castSucc (n := n + 1)]
    simp

theorem out10_last (hA : ∀ t, At m D c t) (t : Fin cfg0.N) (ht : t.val = 7) (i l : Fin 128) :
    (outsAt0 m c t.val t.isLt).2.2.2.2.1 (ix2 i l) = ((if l.val < 8 then D.db i l else 0 : ℝ) : EReal) := by
  refine (out10_C (hA t) (by omega) (by omega)
      (hp := Nat.lt_of_le_of_lt (Nat.sub_le _ _) t.isLt) (p := fun i k => ∑ j : Fin (t.val - 1 + 1), (D.dm (128 * (2 * j) + i) k + D.dm (128 * (2 * j + 1) + i) k))
      (fun i k => sum_at hA (t.val - 1) _ i k) i l).trans ?_
  obtain ⟨n, h⟩ := t
  subst ht
  unfold Data.db Data.dbacc
  simp only [Fin.sum_univ_castSucc (n := 7)]
  simp

theorem out7_last (hA : ∀ t, At m D c t) (t : Fin cfg0.N) (ht : t.val = 7) (k : Fin 1024) :
    (outsAt0 m c t.val t.isLt).2.1 (ix2 0 k) = ((D.dlg k : ℝ) : EReal) := by
  refine (out7_at hA t.val t.isLt k).trans ?_
  rw [ht]
  rfl

theorem out8_last (hA : ∀ t, At m D c t) (t : Fin cfg0.N) (ht : t.val = 7) (k : Fin 1024) :
    (outsAt0 m c t.val t.isLt).2.2.1 (ix2 0 k) = ((D.dlb k : ℝ) : EReal) := by
  refine (out8_at hA t.val t.isLt k).trans ?_
  rw [ht]
  rfl

theorem out9_last (hA : ∀ t, At m D c t) (t : Fin cfg0.N) (ht : t.val = 7) (g : Fin 8) (i s : Fin 128) :
    (outsAt0 m c t.val t.isLt).2.2.2.1 (ix3 g i s) = ((D.dws g i s : ℝ) : EReal) := by
  refine (out9_at hA t.val t.isLt g i s).trans ?_
  rw [ht]
  rfl

/-! ## The arrays after the run -/

theorem last7 : (t0_7 : Fin cfg0.N).val = 7 := by decide +kernel

theorem ix_row (j : S1x1024.Idx) : j = ix2 0 (j 1) :=
  (eq_ix2 j).trans (congrArg (fun a : Fin 1 => (ix2 a (j 1) : S1x1024.Idx)) (Subsingleton.elim (α := Fin 1) (j 0) 0))

/-- The gradient of the normalisation's scale. -/
theorem arr7 (hA : ∀ t, At m D c t) :
    (dats m 0 c).arrAt 7 cfg0.N = fun i : S1x1024.Idx => ((D.dlg (i 1).val : ℝ) : EReal) := by
  refine (dats m 0 c).arrAt_eq_of_after_last 7 t0_7 (by decide +kernel) _ fun j => ?_
  blk_simp
  rw [after0_7]
  exact (congrArg _ (ix_row j)).trans (out7_last hA t0_7 last7 (j 1))

/-- The gradient of its shift. -/
theorem arr8 (hA : ∀ t, At m D c t) :
    (dats m 0 c).arrAt 8 cfg0.N = fun i : S1x1024.Idx => ((D.dlb (i 1).val : ℝ) : EReal) := by
  refine (dats m 0 c).arrAt_eq_of_after_last 8 t0_7 (by decide +kernel) _ fun j => ?_
  blk_simp
  rw [after0_8]
  exact (congrArg _ (ix_row j)).trans (out8_last hA t0_7 last7 (j 1))

/-- The gradient of the mixing weights. -/
theorem arr9 (hA : ∀ t, At m D c t) :
    (dats m 0 c).arrAt 9 cfg0.N = fun i : S8x128x128.Idx => ((D.dws (i 0).val (i 1).val (i 2).val : ℝ) : EReal) := by
  refine (dats m 0 c).arrAt_eq_of_after_last 9 t0_7 (by decide +kernel) _ fun j => ?_
  blk_simp
  rw [after0_9]
  exact (congrArg _ (eq_ix3 (n0 := 8) (n1 := 128) (n2 := 128) j)).trans (out9_last hA t0_7 last7 (j 0) (j 1) (j 2))

/-- The gradient of the mixing bias, in the first eight columns. -/
theorem arr10 (hA : ∀ t, At m D c t) :
    (dats m 0 c).arrAt 10 cfg0.N = fun i : S128x128.Idx =>
      ((if (i 1).val < 8 then D.db (i 0).val (i 1).val else 0 : ℝ) : EReal) := by
  refine (dats m 0 c).arrAt_eq_of_after_last 10 t0_7 (by decide +kernel) _ fun j => ?_
  blk_simp
  rw [after0_10]
  exact (congrArg _ (eq_ix2 (n0 := 128) (n1 := 128) j)).trans (out10_last hA t0_7 last7 (j 0) (j 1))

theorem place6 : ∀ t : Fin cfg0.N, win0_6.index t = ![t.val, 4] := (by decide +kernel : ∀ t : Fin grid0.N, _)

/-- The gradient of `z`, written over the last columns of the array passed in. -/
theorem arr6 (hA : ∀ t, At m D c t) :
    (dats m 0 c).arrAt 6 cfg0.N = fun i : S2048x10240.Idx =>
      if 8192 ≤ (i 1).val then ((D.dz (i 0).val ((i 1).val - 8192) : ℝ) : EReal)
        else m ((c : Thread nD τ).loc main_arg6) i := by
  refine ((dats m 0 c).arrAt_eq_of_coversWhere 6 (P := fun i : S2048x10240.Idx => 8192 ≤ (i 1).val)
    (fun i : S2048x10240.Idx => ((D.dz (i 0).val ((i 1).val - 8192) : ℝ) : EReal)) (fun β => 4 ≤ β (1 : Fin _)) (by decide +kernel) (fun t hf y => ?_)
    (fun j => by blk_simp [Pipeline.Window.cell_apply]; omega)).trans ?_
  · blk_simp [place6 t]
    rw [after0_6]
    refine (congrArg (outsAt0 m c t.val t.isLt).1 (eq_ix2 (n0 := 256) (n1 := 2048) _)).trans ?_
    refine (out6_at (hA t) _ _).trans ?_
    rw [Nat.mul_comm 256 t.val, show ∀ n : ℕ, 4 * 2048 + n - 8192 = n from fun n => by omega]
  · funext i
    split_ifs with h
    · rfl
    · rw [A_eq]
      entry_read
      rfl

end Cert.Sgu

end
-- ==== Proof.Sgu.Entry.lean ====
/- The operand blocks of every grid point, read from the arguments. -/
module

public import proofs.«01_k».proof.Proof.Sgu.Fold
public import Idealize.ShloMosaic.Lib.WordCmp

@[expose] public section

set_option maxRecDepth 16384

noncomputable section

namespace Cert.Sgu

open Cert.KernelIdeal Cert.KernelIdeal.Gen Idealize.ShloMosaic Idealize.ShloMosaic.TcCoe Idealize.SL.Sem

variable {m : (ℓ : Loc nD τ sig) → Buf (Elt Ideal) ℓ} {D : Data} {c : Dev nD}

theorem places : ∀ t : Fin cfg0.N, win0_0.index t = ![t.val, 4] ∧ win0_1.index t = ![t.val, 0] ∧ win0_2.index t = ![0, 0]
    ∧ win0_3.index t = ![0, 0] ∧ win0_4.index t = ![0, 0, 0] ∧ win0_5.index t = ![0, 0] ∧ t.val < 8 :=
  (by decide +kernel : ∀ t : Fin grid0.N, _)

/-- Arguments that hold the reals of `D` put them into every grid point's operand blocks. -/
theorem at_of_reals (H : Reals D (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))) (t : Fin cfg0.N) : At m D c t where
  z a b := by
    have h8 := (places t).2.2.2.2.2.2
    have ha := a.isLt
    have hb := b.isLt
    have e := H.z ⟨256 * t.val + a.val, by omega⟩ ⟨8192 + b.val, by omega⟩ (by simp)
    simp only [Nat.add_sub_cancel_left] at e
    rw [← e]
    blk_ext [iblk, V, places t]
  dy a k := by
    have h8 := (places t).2.2.2.2.2.2
    have ha := a.isLt
    have e := H.dy ⟨256 * t.val + a.val, by omega⟩ k
    simp only at e
    rw [← e]
    blk_ext [iblk, V, places t]
  lg k := by
    rw [← H.lg k]
    blk_ext [iblk, V, places t]
  lb k := by
    rw [← H.lb k]
    blk_ext [iblk, V, places t]
  w g i s := by
    rw [← H.w g i s]
    blk_simp [iblk, places t]
    entry_read
    pointwise
    blk_ext [places t]
  b s k := by
    have hk := k.isLt
    have e := H.b ⟨k.val / 128, by omega⟩ s
    simp only at e
    rw [← e]
    blk_simp [iblk, places t]
    entry_read
    pointwise
    blk_ext [places t]

end Cert.Sgu

end
-- ==== Proof.Sgu.RealFacts.lean ====
/- Identities between the real functions of the gradients, and the reading of the host's sums over several axes. -/
module

public import proofs.«01_k».proof.Proof.Sgu.Args
public import Idealize.ShloMosaic.Lib.Pipeline.ValueKit

@[expose] public section

noncomputable section

namespace Cert.Sgu

open scoped BigOperators
open Idealize.ShloMosaic

theorem sqrt_real (a : ℝ) (h : 0 ≤ a) : Ideal.sqrt (a : EReal) = ((Real.sqrt a : ℝ) : EReal) := by
  rw [Ideal.sqrt_coe, if_neg (not_lt.2 h)]

theorem c_zero : Ideal.ofBits .f32 0x00000000#32 = ((0 : ℝ) : EReal) := by
  simp [Ideal.ofBits, Ideal.ieee, -EReal.coe_mul]

theorem c_one : Ideal.ofBits .f32 0x3F800000#32 = ((1 : ℝ) : EReal) := by
  simp [Ideal.ofBits, Ideal.ieee, -EReal.coe_mul]; norm_num

theorem erfc_real (a : ℝ) : Ideal.erfc (a : EReal) = ((1 - erf a : ℝ) : EReal) := by
  unfold Ideal.erfc
  rw [erf_real, EReal.coe_sub]
  rfl

/-- The error function is odd. -/
theorem erf_neg (x : ℝ) : erf (-x) = -erf x := by
  unfold erf
  rw [← mul_neg]
  congr 1
  have h := intervalIntegral.integral_comp_neg (a := 0) (b := x) (fun t : ℝ => Real.exp (-(t ^ 2)))
  simp only [neg_sq, neg_zero] at h
  rw [h, intervalIntegral.integral_symm]

theorem sqrt_half : Real.sqrt (1 / 2) = (Real.sqrt 2)⁻¹ := by
  rw [one_div, Real.sqrt_inv]

theorem root_sq : (Real.sqrt 2)⁻¹ * (Real.sqrt 2)⁻¹ = 1 / 2 := by
  rw [← mul_inv, Real.mul_self_sqrt (by norm_num)]; norm_num

/-- The unit from the complementary error function. -/
theorem gelu_erfc (x : ℝ) : 1 / 2 * x * (1 - erf (-x * (Real.sqrt 2)⁻¹)) = gelu x := by
  unfold gelu
  rw [neg_mul, erf_neg]; ring

/-- Its derivative as the rules for the product, the complementary error function and the constant factor give it. -/
theorem slope_erfc (x w : ℝ) :
    -(-(9465531 / 8388608) * (1 / 2 * x * w) * Real.exp (-(-x * (Real.sqrt 2)⁻¹ * (-x * (Real.sqrt 2)⁻¹))) * (Real.sqrt 2)⁻¹)
      + 1 / 2 * (w * (1 - erf (-x * (Real.sqrt 2)⁻¹))) = w * slope x := by
  have h : -(-x * (Real.sqrt 2)⁻¹ * (-x * (Real.sqrt 2)⁻¹)) = -(1 / 2) * x * x := by
    have := root_sq
    linear_combination (-x * x) * this
  unfold slope
  rw [h, neg_mul x, erf_neg]; ring

theorem sum_xc (D : Data) (r : ℕ) : ∑ k : Fin 1024, D.xc r k = 0 := by
  unfold Data.xc Data.mean
  rw [Finset.sum_sub_distrib, Finset.sum_const, Finset.card_univ, Fintype.card_fin, nsmul_eq_mul]
  push_cast
  ring

/-- The gradient of a normalised row, as the rules for its mean, its variance and its reciprocal root give it. -/
theorem dvv_rules (D : Data) (r k : ℕ) :
    D.dvn r k * D.rstd r
        + (∑ j : Fin 1024, D.xc r j * D.dvn r j) * (-(1 / 2) * (D.rstd r / (D.var r + eps))) / 1024 * (2 * D.xc r k)
        + ((∑ j : Fin 1024, -(D.dvn r j * D.rstd r))
          + ∑ j : Fin 1024, -((∑ j : Fin 1024, D.xc r j * D.dvn r j) * (-(1 / 2) * (D.rstd r / (D.var r + eps))) / 1024 * (2 * D.xc r j))) / 1024
      = D.dvv r k := by
  have hp := D.var_eps_pos r
  have hs : D.rstd r * D.rstd r = 1 / (D.var r + eps) := by
    unfold Data.rstd
    rw [← mul_inv, Real.mul_self_sqrt hp.le, one_div]
  have hd : D.rstd r / (D.var r + eps) = D.rstd r * (D.rstd r * D.rstd r) := by rw [hs]; ring
  have h0 := sum_xc D r
  rw [hd]
  unfold Data.dvv Data.dvnMean Data.dvnDot Data.vn
  simp only [Finset.sum_neg_distrib, ← Finset.sum_mul, ← Finset.mul_sum, h0]
  have e : ∑ j : Fin 1024, D.dvn r j * (D.xc r j * D.rstd r) = (∑ j : Fin 1024, D.xc r j * D.dvn r j) * D.rstd r := by
    rw [Finset.sum_mul]
    exact Finset.sum_congr rfl fun _ _ => by ring
  rw [e]
  ring

/-- A sum over sixteen chunks, two by two. -/
theorem sum_pairs (f : ℕ → ℝ) : ∑ q : Fin 16, f q = ∑ n : Fin 8, (f (2 * n) + f (2 * n + 1)) := by
  simp only [Fin.sum_univ_succ, Fin.val_zero, Fin.val_succ, Finset.univ_eq_empty, Finset.sum_empty]
  norm_num
  ring

/-- A sum over 2048 rows, block by block. -/
theorem sum_blocks (f : ℕ → ℝ) : ∑ r : Fin 2048, f r = ∑ n : Fin 8, ∑ a : Fin 256, f (256 * n + a) := by
  have h := Fin.sum_univ_univ_mul_add 8 256 f
  rw [show 8 * 256 = 2048 from rfl] at h
  rw [← h]
  exact Finset.sum_congr rfl fun n _ => Finset.sum_congr rfl fun a _ => by rw [Nat.mul_comm]

end Cert.Sgu

end
-- ==== Proof.Sgu.Forward.lean ====
/- The reference's forward half, stage by stage: the unit, the normalised row, the mixing. -/
module

public import proofs.«01_k».proof.Proof.Gen.ReferenceIdeal.Read
public import proofs.«01_k».proof.Proof.Sgu.RealFacts
public import Idealize.ShloMosaic.Lib.WordCmp

@[expose] public section

set_option maxRecDepth 16384

noncomputable section

namespace Cert.Sgu

open Cert.ReferenceIdeal Cert.ReferenceIdeal.Gen Cert.ReferenceIdeal.Read Idealize.ShloMosaic

variable {D : Data} {x0 : FVec Ideal S2048x10240 .f32} {x1 : FVec Ideal S2048x1024 .f32} {x2 x3 : FVec Ideal S1x1024 .f32}
  {x4 : FVec Ideal S1x8x128x128 .f32} {x5 : FVec Ideal S1x8x128 .f32}

/-- `z`. -/
theorem r1 (H : Reals D x0 x1 x2 x3 x4 x5) (i : S1x2048x2048.Idx) :
    val_main_v1 (F := Ideal) x0 i = ((D.Z (i 1).val (i 2).val : ℝ) : EReal) := by
  rw [val_main_v1_apply, val_main_v0_apply]
  have h := H.z (i 1) ⟨8192 + (i 2).val, by have h2 : (i 2).val < 2048 := (i 2).isLt; show 8192 + (i 2).val < 10240; omega⟩ (Nat.le_add_right _ _)
  rw [Nat.add_sub_cancel_left] at h
  refine Eq.trans (congrArg x0 ?_) h
  funext a
  match a with
  | ⟨0, _⟩ => rfl
  | ⟨1, _⟩ => rfl

theorem r11 (H : Reals D x0 x1 x2 x3 x4 x5) (i : S1x2048x2048.Idx) :
    val_main_v11 (F := Ideal) x0 i = ((-D.Z (i 1).val (i 2).val * (Real.sqrt 2)⁻¹ : ℝ) : EReal) := by
  simp only [val_main_v6_apply, val_main_v11_apply, val_main_v10_apply, val_main_v9_apply, val_main_cst_apply, r1 H,
    Ideal.hostUnary_sqrt_def, c_half, Ideal.addf_def, Ideal.subf_def, Ideal.mulf_def, Ideal.hostDivf_def,
    Ideal.hostNegf_def, Ideal.negf_def, Ideal.ofBits_def]
  rw [sqrt_real _ (by norm_num), sqrt_half, ← EReal.coe_neg, ← EReal.coe_mul]

theorem r12 (H : Reals D x0 x1 x2 x3 x4 x5) (i : S1x2048x2048.Idx) :
    val_main_v12 (F := Ideal) x0 i = ((1 - erf (-D.Z (i 1).val (i 2).val * (Real.sqrt 2)⁻¹) : ℝ) : EReal) := by
  simp only [val_main_v12_apply, r11 H, Ideal.hostUnary_erfc_def, Ideal.addf_def, Ideal.subf_def, Ideal.mulf_def,
    Ideal.hostDivf_def, Ideal.hostNegf_def, Ideal.negf_def, Ideal.ofBits_def]
  exact erfc_real _

theorem r8 (H : Reals D x0 x1 x2 x3 x4 x5) (i : S1x2048x2048.Idx) :
    val_main_v8 (F := Ideal) x0 i = ((1 / 2 * D.Z (i 1).val (i 2).val : ℝ) : EReal) := by
  simp only [val_main_v8_apply, val_main_v7_apply, val_main_cst_0_apply, r1 H, c_half, Ideal.addf_def, Ideal.subf_def,
    Ideal.mulf_def, Ideal.hostDivf_def, Ideal.hostNegf_def, Ideal.negf_def, Ideal.ofBits_def]
  rw [← EReal.coe_mul]

/-- The unit. -/
theorem r16 (H : Reals D x0 x1 x2 x3 x4 x5) (i : S1x2048x2048.Idx) :
    val_main_v16 (F := Ideal) x0 i = ((gelu (D.Z (i 1).val (i 2).val) : ℝ) : EReal) := by
  simp only [val_main_v16_apply, r8 H, r12 H, Ideal.addf_def, Ideal.subf_def, Ideal.mulf_def, Ideal.hostDivf_def,
    Ideal.hostNegf_def, Ideal.negf_def, Ideal.ofBits_def]
  rw [← EReal.coe_mul, gelu_erfc]

theorem r17 (H : Reals D x0 x1 x2 x3 x4 x5) (i : S1x2048x1024.Idx) :
    val_main_v17 (F := Ideal) x0 i = ((D.u (i 1).val (i 2).val : ℝ) : EReal) := by
  rw [val_main_v17_apply, r16 H]
  rfl

theorem r18 (H : Reals D x0 x1 x2 x3 x4 x5) (i : S1x2048x1024.Idx) :
    val_main_v18 (F := Ideal) x0 i = ((D.v (i 1).val (i 2).val : ℝ) : EReal) := by
  rw [val_main_v18_apply, r16 H]
  rfl

/-- The mean. -/
theorem r22 (H : Reals D x0 x1 x2 x3 x4 x5) (i : S1x2048x1.Idx) :
    val_main_v22 (F := Ideal) x0 i = ((D.mean (i 1).val : ℝ) : EReal) := by
  simp only [val_main_v22_apply, val_main_v21_apply, val_main_v20_apply, val_main_v19_apply, val_main_cst_1_apply,
    val_main_cst_2_apply, r18 H, coe_sum, c_1024, c_zero, Ideal.addf_def, Ideal.subf_def, Ideal.mulf_def,
    Ideal.hostDivf_def, Ideal.hostNegf_def, Ideal.negf_def, Ideal.ofBits_def]
  rw [← EReal.coe_add, div_real _ _ (by norm_num), zero_add]
  rfl

theorem r24 (H : Reals D x0 x1 x2 x3 x4 x5) (i : S1x2048x1024.Idx) :
    val_main_v24 (F := Ideal) x0 i = ((D.xc (i 1).val (i 2).val : ℝ) : EReal) := by
  simp only [val_main_v24_apply, val_main_v23_apply, r18 H, r22 H, Ideal.addf_def, Ideal.subf_def, Ideal.mulf_def,
    Ideal.hostDivf_def, Ideal.hostNegf_def, Ideal.negf_def, Ideal.ofBits_def]
  rw [← EReal.coe_sub]
  rfl

theorem r33 (H : Reals D x0 x1 x2 x3 x4 x5) (i : S1x2048x1024.Idx) :
    val_main_v33 (F := Ideal) x0 i = ((D.xc (i 1).val (i 2).val : ℝ) : EReal) := by
  simp only [val_main_v33_apply, val_main_v32_apply, r18 H, r22 H, Ideal.addf_def, Ideal.subf_def, Ideal.mulf_def,
    Ideal.hostDivf_def, Ideal.hostNegf_def, Ideal.negf_def, Ideal.ofBits_def]
  rw [← EReal.coe_sub]
  rfl

theorem r27 (H : Reals D x0 x1 x2 x3 x4 x5) (i : S1x2048x1024.Idx) :
    val_main_v27 (F := Ideal) x0 i = ((2 * D.xc (i 1).val (i 2).val : ℝ) : EReal) := by
  simp only [val_main_v27_apply, val_main_v26_apply, val_main_cst_3_apply, r24 H, c_two, Ideal.addf_def,
    Ideal.subf_def, Ideal.mulf_def, Ideal.hostDivf_def, Ideal.hostNegf_def, Ideal.negf_def, Ideal.ofBits_def]
  rw [← EReal.coe_mul]

/-- The variance. -/
theorem r31 (H : Reals D x0 x1 x2 x3 x4 x5) (i : S1x2048x1.Idx) :
    val_main_v31 (F := Ideal) x0 i = ((D.var (i 1).val : ℝ) : EReal) := by
  simp only [val_main_v25_apply, val_main_v31_apply, val_main_v30_apply, val_main_v29_apply, val_main_v28_apply,
    val_main_cst_4_apply, val_main_cst_5_apply, r24 H, ← EReal.coe_mul, coe_sum, c_1024, c_zero, Ideal.addf_def,
    Ideal.subf_def, Ideal.mulf_def, Ideal.hostDivf_def, Ideal.hostNegf_def, Ideal.negf_def, Ideal.ofBits_def]
  rw [← EReal.coe_add, div_real _ _ (by norm_num), zero_add]
  rfl

theorem r35 (H : Reals D x0 x1 x2 x3 x4 x5) (i : S1x2048x1.Idx) :
    val_main_v35 (F := Ideal) x0 i = ((D.var (i 1).val + eps : ℝ) : EReal) := by
  simp only [val_main_v35_apply, val_main_v34_apply, val_main_cst_6_apply, r31 H, c_eps, Ideal.addf_def,
    Ideal.subf_def, Ideal.mulf_def, Ideal.hostDivf_def, Ideal.hostNegf_def, Ideal.negf_def, Ideal.ofBits_def]
  rw [← EReal.coe_add]

/-- The reciprocal standard deviation. -/
theorem r36 (H : Reals D x0 x1 x2 x3 x4 x5) (i : S1x2048x1.Idx) :
    val_main_v36 (F := Ideal) x0 i = ((D.rstd (i 1).val : ℝ) : EReal) := by
  simp only [val_main_v36_apply, r35 H, Ideal.hostUnary_rsqrt_def, Ideal.addf_def, Ideal.subf_def, Ideal.mulf_def,
    Ideal.hostDivf_def, Ideal.hostNegf_def, Ideal.negf_def, Ideal.ofBits_def]
  exact rsqrt_real _ (D.var_eps_pos _)

theorem r39 (H : Reals D x0 x1 x2 x3 x4 x5) (i : S1x2048x1.Idx) :
    val_main_v39 (F := Ideal) x0 i = ((-(1 / 2) * (D.rstd (i 1).val / (D.var (i 1).val + eps)) : ℝ) : EReal) := by
  simp only [val_main_v39_apply, val_main_v38_apply, val_main_v37_apply, val_main_cst_7_apply, r35 H, r36 H,
    c_neg_half, Ideal.addf_def, Ideal.subf_def, Ideal.mulf_def, Ideal.hostDivf_def, Ideal.hostNegf_def,
    Ideal.negf_def, Ideal.ofBits_def]
  rw [div_real _ _ (D.var_eps_pos _).ne', ← EReal.coe_mul]

/-- The normalised row. -/
theorem r41 (H : Reals D x0 x1 x2 x3 x4 x5) (i : S1x2048x1024.Idx) :
    val_main_v41 (F := Ideal) x0 i = ((D.vn (i 1).val (i 2).val : ℝ) : EReal) := by
  simp only [val_main_v41_apply, val_main_v40_apply, r33 H, r36 H, Ideal.addf_def, Ideal.subf_def, Ideal.mulf_def,
    Ideal.hostDivf_def, Ideal.hostNegf_def, Ideal.negf_def, Ideal.ofBits_def]
  rw [← EReal.coe_mul]
  rfl

theorem r2 (H : Reals D x0 x1 x2 x3 x4 x5) (i : S1024.Idx) :
    val_main_v2 (F := Ideal) x2 i = ((D.LG (i 0).val : ℝ) : EReal) := by
  rw [val_main_v2_apply]
  refine Eq.trans (congrArg x2 ?_) (H.lg (i 0))
  funext a
  match a with
  | ⟨0, _⟩ => rfl
  | ⟨1, _⟩ => exact Fin.ext (Nat.mod_eq_of_lt (i 0).isLt)

theorem r3 (H : Reals D x0 x1 x2 x3 x4 x5) (i : S1024.Idx) :
    val_main_v3 (F := Ideal) x3 i = ((D.LB (i 0).val : ℝ) : EReal) := by
  rw [val_main_v3_apply]
  refine Eq.trans (congrArg x3 ?_) (H.lb (i 0))
  funext a
  match a with
  | ⟨0, _⟩ => rfl
  | ⟨1, _⟩ => exact Fin.ext (Nat.mod_eq_of_lt (i 0).isLt)

/-- The normalised row, scaled and shifted. -/
theorem r47 (H : Reals D x0 x1 x2 x3 x4 x5) (i : S1x2048x1024.Idx) :
    val_main_v47 (F := Ideal) x0 x2 x3 i = ((D.vl (i 1).val (i 2).val : ℝ) : EReal) := by
  simp only [val_main_v47_apply, val_main_v46_apply, val_main_v45_apply, val_main_v44_apply, val_main_v43_apply,
    val_main_v42_apply, r41 H, r2 H, r3 H, Ideal.addf_def, Ideal.subf_def, Ideal.mulf_def, Ideal.hostDivf_def,
    Ideal.hostNegf_def, Ideal.negf_def, Ideal.ofBits_def]
  rw [← EReal.coe_mul, ← EReal.coe_add]
  rfl

/-- Its chunks and groups. -/
theorem r48 (H : Reals D x0 x1 x2 x3 x4 x5) (i : S1x16x128x8x128.Idx) :
    val_main_v48 (F := Ideal) x0 x2 x3 i = ((D.vl (128 * (i 1).val + (i 2).val) (128 * (i 3).val + (i 4).val) : ℝ) : EReal) := by
  rw [val_main_v48_apply, r47 H]
  have h0 : (i 0).val < 1 := (i 0).isLt
  have h1 : (i 1).val < 16 := (i 1).isLt
  have h2 : (i 2).val < 128 := (i 2).isLt
  have h3 : (i 3).val < 8 := (i 3).isLt
  have h4 : (i 4).val < 128 := (i 4).isLt
  refine congrArg _ (congrArg₂ D.vl ?_ ?_)
  · show (((((i 0).val * 16 + (i 1).val) * 128 + (i 2).val) * 8 + (i 3).val) * 128 + (i 4).val) / 1024 % 2048 = _
    omega
  · show (((((i 0).val * 16 + (i 1).val) * 128 + (i 2).val) * 8 + (i 3).val) * 128 + (i 4).val) % 1024 = _
    omega

theorem r4 (H : Reals D x0 x1 x2 x3 x4 x5) (i : S8x128x128.Idx) :
    val_main_v4 (F := Ideal) x4 i = ((D.W (i 0).val (i 1).val (i 2).val : ℝ) : EReal) := by
  rw [val_main_v4_apply]
  have h0 : (i 0).val < 8 := (i 0).isLt
  have h1 : (i 1).val < 128 := (i 1).isLt
  have h2 : (i 2).val < 128 := (i 2).isLt
  refine Eq.trans (congrArg x4 ?_) (H.w (i 0) (i 1) (i 2))
  funext a
  match a with
  | ⟨0, _⟩ => rfl
  | ⟨1, _⟩ => exact Fin.ext (by show _ / _ % _ = (i 0).val; omega)
  | ⟨2, _⟩ => exact Fin.ext (by show _ / _ % _ = (i 1).val; omega)
  | ⟨3, _⟩ => exact Fin.ext (by show _ % _ = (i 2).val; omega)

theorem r5 (H : Reals D x0 x1 x2 x3 x4 x5) (i : S8x128.Idx) :
    val_main_v5 (F := Ideal) x5 i = ((D.B (i 0).val (i 1).val : ℝ) : EReal) := by
  rw [val_main_v5_apply]
  have h0 : (i 0).val < 8 := (i 0).isLt
  have h1 : (i 1).val < 128 := (i 1).isLt
  refine Eq.trans (congrArg x5 ?_) (H.b (i 0) (i 1))
  funext a
  match a with
  | ⟨0, _⟩ => rfl
  | ⟨1, _⟩ => exact Fin.ext (by show _ / _ % _ = (i 0).val; omega)
  | ⟨2, _⟩ => exact Fin.ext (by show _ % _ = (i 1).val; omega)

/-- The lower triangle of ones. -/
theorem tril_at (i : S128x128.Idx) :
    val_main_v50 (F := Ideal) i = ((if (i 1).val ≤ (i 0).val then 1 else 0 : ℝ) : EReal) := by
  have h0 : (i 0).val < 128 := (i 0).isLt
  have h1 : (i 1).val < 128 := (i 1).isLt
  simp only [val_main_v49_apply, val_main_v50_apply, val_main_call0_v0_apply, val_main_call0_c_apply,
    val_main_call0_v1_apply, val_main_call0_v2_apply, val_main_call0_v3_apply, val_main_call0_v4_apply,
    val_main_call0_cst_apply, val_main_call0_v5_apply, val_main_cst_8_apply, c_one, c_zero, Ideal.addf_def,
    Ideal.subf_def, Ideal.mulf_def, Ideal.hostDivf_def, Ideal.hostNegf_def, Ideal.negf_def, Ideal.ofBits_def]
  show Scalar.select (IntOp.cmpi .sge (IntOp.addi (BitVec.ofNat 32 (i 0).val) 0#32) (BitVec.ofNat 32 (i 1).val)) _ _ = _
  rw [show IntOp.addi (BitVec.ofNat 32 (i 0).val) 0#32 = BitVec.ofNat 32 (i 0).val from BitVec.add_zero _,
    WordCmp.cmpi_sge_ofNat (by omega) (by omega)]
  by_cases h : (i 1).val ≤ (i 0).val
  · rw [if_pos h, decide_eq_true h]
    rfl
  · rw [if_neg h, decide_eq_false h]
    rfl

/-- The causal weights. -/
theorem r53 (H : Reals D x0 x1 x2 x3 x4 x5) (i : S8x128x128.Idx) :
    val_main_v53 (F := Ideal) x4 i = ((D.wc (i 0).val (i 1).val (i 2).val : ℝ) : EReal) := by
  simp only [val_main_v53_apply, val_main_v52_apply, val_main_v51_apply, r4 H, tril_at, Ideal.addf_def,
    Ideal.subf_def, Ideal.mulf_def, Ideal.hostDivf_def, Ideal.hostNegf_def, Ideal.negf_def, Ideal.ofBits_def]
  rw [← EReal.coe_mul]
  unfold Data.wc
  split_ifs
  · rw [mul_one]
  · rw [mul_zero]

theorem r54 (H : Reals D x0 x1 x2 x3 x4 x5) (i : S8x1x16x128x128.Idx) :
    val_main_v54 (F := Ideal) x0 x2 x3 x4 i = ((∑ s : Fin 128, D.wc (i 0).val (i 4).val s * D.vl (128 * (i 2).val + s) (128 * (i 0).val + (i 3).val) : ℝ) : EReal) := by
  simp only [val_main_v54_apply, r48 H, r53 H, Ideal.addf_def, Ideal.subf_def, Ideal.mulf_def, Ideal.hostDivf_def,
    Ideal.hostNegf_def, Ideal.negf_def, Ideal.ofBits_def]
  simp only [← EReal.coe_mul, coe_sum]
  exact congrArg _ (Finset.sum_congr rfl fun s _ => mul_comm _ _)

theorem r58 (H : Reals D x0 x1 x2 x3 x4 x5) (i : S1x16x128x8x128.Idx) :
    val_main_v58 (F := Ideal) x5 i = ((D.B (i 3).val (i 2).val : ℝ) : EReal) := by
  simp only [val_main_v58_apply, val_main_v57_apply, val_main_v56_apply, r5 H, Ideal.addf_def, Ideal.subf_def,
    Ideal.mulf_def, Ideal.hostDivf_def, Ideal.hostNegf_def, Ideal.negf_def, Ideal.ofBits_def]

/-- The mixed values. -/
theorem r60 (H : Reals D x0 x1 x2 x3 x4 x5) (i : S1x2048x1024.Idx) :
    val_main_v60 (F := Ideal) x0 x2 x3 x4 x5 i = ((D.mix ((i 1).val / 128) ((i 1).val % 128) ((i 2).val / 128) ((i 2).val % 128) : ℝ) : EReal) := by
  simp only [val_main_v60_apply, val_main_v59_apply, val_main_v55_apply, r54 H, r58 H, Ideal.addf_def, Ideal.subf_def,
    Ideal.mulf_def, Ideal.hostDivf_def, Ideal.hostNegf_def, Ideal.negf_def, Ideal.ofBits_def]
  rw [← EReal.coe_add]
  have h0 : (i 0).val < 1 := (i 0).isLt
  have h1 : (i 1).val < 2048 := (i 1).isLt
  have h2 : (i 2).val < 1024 := (i 2).isLt
  have e1 : (((i 0).val * 2048 + (i 1).val) * 1024 + (i 2).val) / 131072 % 16 = (i 1).val / 128 := by omega
  have e2 : (((i 0).val * 2048 + (i 1).val) * 1024 + (i 2).val) / 1024 % 128 = (i 1).val % 128 := by omega
  have e3 : (((i 0).val * 2048 + (i 1).val) * 1024 + (i 2).val) / 128 % 8 = (i 2).val / 128 := by omega
  have e4 : (((i 0).val * 2048 + (i 1).val) * 1024 + (i 2).val) % 128 = (i 2).val % 128 := by omega
  unfold Data.mix
  rw [← e1, ← e2, ← e3, ← e4]

end Cert.Sgu

end
-- ==== Proof.Sgu.Mixing.lean ====
/- The reference's backward half up to the normalisation: the mixing's gradients, its weights' and its bias', and
   the gradients of the normalisation's scale and shift. -/
module

public import proofs.«01_k».proof.Proof.Gen.ReferenceIdeal.Read
public import proofs.«01_k».proof.Proof.Sgu.Forward

@[expose] public section

set_option maxRecDepth 16384

noncomputable section

namespace Cert.Sgu

open Cert.ReferenceIdeal Cert.ReferenceIdeal.Gen Cert.ReferenceIdeal.Read Idealize.ShloMosaic

variable {D : Data} {x0 : FVec Ideal S2048x10240 .f32} {x1 : FVec Ideal S2048x1024 .f32} {x2 x3 : FVec Ideal S1x1024 .f32}
  {x4 : FVec Ideal S1x8x128x128 .f32} {x5 : FVec Ideal S1x8x128 .f32}

/-- A sum over the indices that drop to `j`, when there is one such index. -/
theorem sum_one {s t u : Shape} {axes : List (Fin s.rank)} (x : FVec Ideal s .f32) (v : FVec Ideal u .f32) (h : s.ReducesTo axes t)
    (hu : 0 < u.numel) (j : t.Idx) (k : s.Idx) (hk : ∀ i, h.drop i = j ↔ i = k) :
    Host.reduceAdd (F := Ideal) x v h hu j = v (Shape.Idx.first hu) + x k := by
  show Ideal.hostReduceAdd h x (v (Shape.Idx.first hu)) j = _
  unfold Ideal.hostReduceAdd
  rw [Finset.filter_congr fun i _ => hk i, Finset.filter_eq', if_pos (Finset.mem_univ k), Finset.sum_singleton]

theorem r62 (H : Reals D x0 x1 x2 x3 x4 x5) (i : S1x2048x1024.Idx) :
    val_main_v62 (F := Ideal) x1 i = ((D.DY (i 1).val (i 2).val : ℝ) : EReal) := by
  rw [val_main_v62_apply]
  refine Eq.trans (congrArg x1 ?_) (H.dy (i 1) (i 2))
  funext a
  match a with
  | ⟨0, _⟩ => rfl
  | ⟨1, _⟩ => rfl

/-- The gradient of the mixed value. -/
theorem r63 (H : Reals D x0 x1 x2 x3 x4 x5) (i : S1x2048x1024.Idx) :
    val_main_v63 (F := Ideal) x0 x1 i = ((D.dm (i 1).val (i 2).val : ℝ) : EReal) := by
  simp only [val_main_v63_apply, r17 H, r62 H, Ideal.addf_def, Ideal.subf_def, Ideal.mulf_def, Ideal.hostDivf_def,
    Ideal.hostNegf_def, Ideal.negf_def, Ideal.ofBits_def]
  rw [← EReal.coe_mul, mul_comm]
  rfl

/-- The gradient of `u`. -/
theorem r64 (H : Reals D x0 x1 x2 x3 x4 x5) (i : S1x2048x1024.Idx) :
    val_main_v64 (F := Ideal) x0 x1 x2 x3 x4 x5 i = ((D.du (i 1).val (i 2).val : ℝ) : EReal) := by
  simp only [val_main_v64_apply, r60 H, r62 H, Ideal.addf_def, Ideal.subf_def, Ideal.mulf_def, Ideal.hostDivf_def,
    Ideal.hostNegf_def, Ideal.negf_def, Ideal.ofBits_def]
  rw [← EReal.coe_mul]
  rfl

/-- Its chunks and groups. -/
theorem r65 (H : Reals D x0 x1 x2 x3 x4 x5) (i : S1x16x128x8x128.Idx) :
    val_main_v65 (F := Ideal) x0 x1 i = ((D.dm (128 * (i 1).val + (i 2).val) (128 * (i 3).val + (i 4).val) : ℝ) : EReal) := by
  rw [val_main_v65_apply, r63 H]
  have h0 : (i 0).val < 1 := (i 0).isLt
  have h1 : (i 1).val < 16 := (i 1).isLt
  have h2 : (i 2).val < 128 := (i 2).isLt
  have h3 : (i 3).val < 8 := (i 3).isLt
  have h4 : (i 4).val < 128 := (i 4).isLt
  refine congrArg _ (congrArg₂ D.dm ?_ ?_)
  · show (((((i 0).val * 16 + (i 1).val) * 128 + (i 2).val) * 8 + (i 3).val) * 128 + (i 4).val) / 1024 % 2048 = _
    omega
  · show (((((i 0).val * 16 + (i 1).val) * 128 + (i 2).val) * 8 + (i 3).val) * 128 + (i 4).val) % 1024 = _
    omega

/-- Summed over the chunks and the columns of a group. -/
theorem r66 (H : Reals D x0 x1 x2 x3 x4 x5) (i : S1x128x8.Idx) :
    val_main_v66 (F := Ideal) x0 x1 i = ((∑ q : Fin 16, ∑ c : Fin 128, D.dm (128 * q + (i 1).val) (128 * (i 2).val + c) : ℝ) : EReal) := by
  unfold val_main_v66
  show Ideal.hostReduceAdd reducesTo_S1x16x128x8x128_S1x128x8_d1_4 _ _ i = _
  unfold Ideal.hostReduceAdd
  rw [Finset.sum_filter_eq_sum_of_fiber _ (fun k : Fin 16 × Fin 128 => (ix5 0 k.1 (i 1) (i 2) k.2 : S1x16x128x8x128.Idx))
    (fun _ _ e => Prod.ext (congrFun e 1) (congrFun e 4))]
  · rw [Fintype.sum_prod_type, val_main_cst_9_apply, Ideal.ofBits_def, c_zero]
    simp only [r65 H, coe_sum]
    rw [← EReal.coe_add, zero_add]
    rfl
  · intro k
    constructor
    · intro e
      refine ⟨(k 1, k 4), ?_⟩
      have h0 : (k 0).val < 1 := (k 0).isLt
      funext a
      match a with
      | ⟨0, _⟩ => exact Fin.ext (by show 0 = (k 0).val; omega)
      | ⟨1, _⟩ => rfl
      | ⟨2, _⟩ => exact Fin.ext (congrArg Fin.val (congrFun e 1)).symm
      | ⟨3, _⟩ => exact Fin.ext (congrArg Fin.val (congrFun e 2)).symm
      | ⟨4, _⟩ => rfl
    · rintro ⟨p, rfl⟩
      have h0 : (i 0).val < 1 := (i 0).isLt
      funext b
      match b with
      | ⟨0, _⟩ => exact Fin.ext (by show 0 = (i 0).val; omega)
      | ⟨1, _⟩ => rfl
      | ⟨2, _⟩ => rfl

theorem r68 (H : Reals D x0 x1 x2 x3 x4 x5) (i : S128x8.Idx) :
    val_main_v68 (F := Ideal) x0 x1 i = ((∑ q : Fin 16, ∑ c : Fin 128, D.dm (128 * q + (i 0).val) (128 * (i 1).val + c) : ℝ) : EReal) := by
  unfold val_main_v68
  rw [sum_one _ _ _ _ i (ix5 0 0 (i 0) (i 1) 0 : S1x1x128x8x1.Idx)]
  · rw [val_main_cst_10_apply, Ideal.ofBits_def, c_zero, val_main_v67_apply, r66 H, ← EReal.coe_add, zero_add]
    have h0 : (i 0).val < 128 := (i 0).isLt
    have h1 : (i 1).val < 8 := (i 1).isLt
    have e0 : (idx_main_v67 (ix5 0 0 (i 0) (i 1) 0) 1).val = (i 0).val := by
      show ((((0 * 1 + 0) * 128 + (i 0).val) * 8 + (i 1).val) * 1 + 0) / 8 % 128 = _
      omega
    have e1 : (idx_main_v67 (ix5 0 0 (i 0) (i 1) 0) 2).val = (i 1).val := by
      show ((((0 * 1 + 0) * 128 + (i 0).val) * 8 + (i 1).val) * 1 + 0) % 8 = _
      omega
    rw [e0, e1]
  · intro k
    have k0 : (k 0).val < 1 := (k 0).isLt
    have k1 : (k 1).val < 1 := (k 1).isLt
    have k4 : (k 4).val < 1 := (k 4).isLt
    constructor
    · intro e
      funext a
      match a with
      | ⟨0, _⟩ => exact Fin.ext (by show (k 0).val = 0; omega)
      | ⟨1, _⟩ => exact Fin.ext (by show (k 1).val = 0; omega)
      | ⟨2, _⟩ => exact Fin.ext (congrArg Fin.val (congrFun e 0))
      | ⟨3, _⟩ => exact Fin.ext (congrArg Fin.val (congrFun e 1))
      | ⟨4, _⟩ => exact Fin.ext (by show (k 4).val = 0; omega)
    · rintro rfl
      funext b
      match b with
      | ⟨0, _⟩ => rfl
      | ⟨1, _⟩ => rfl

/-- The gradient of the mixing bias. -/
theorem r69 (H : Reals D x0 x1 x2 x3 x4 x5) (i : S8x128.Idx) :
    val_main_v69 (F := Ideal) x0 x1 i = ((D.db (i 1).val (i 0).val : ℝ) : EReal) := by
  rw [val_main_v69_apply, r68 H]
  refine congrArg _ ?_
  unfold Data.db Data.dbacc
  rw [Finset.sum_comm]
  exact Finset.sum_congr rfl fun c _ => sum_pairs fun q => D.dm (128 * q + (i 1).val) (128 * (i 0).val + c)

theorem r70 (H : Reals D x0 x1 x2 x3 x4 x5) (i : S8x1x16x128x128.Idx) :
    val_main_v70 (F := Ideal) x0 x1 i = ((D.dm (128 * (i 2).val + (i 4).val) (128 * (i 0).val + (i 3).val) : ℝ) : EReal) := by
  rw [val_main_v70_apply, r65 H]

/-- The three contracted axes, of extents 1, 16 and 128. -/
def contr3 : dot_S8x1x16x128x128_S1x16x128x8x128_S8x128x128_123_014_4_2_0_3.contr.Idx ≃ Fin 16 × Fin 128 where
  toFun k := (⟨(k ⟨1, by decide⟩).val, (k ⟨1, by decide⟩).isLt⟩, ⟨(k ⟨2, by decide⟩).val, (k ⟨2, by decide⟩).isLt⟩)
  invFun p := fun a => match a with
    | ⟨0, _⟩ => ⟨0, Nat.one_pos⟩
    | ⟨1, _⟩ => p.1
    | ⟨2, _⟩ => p.2
  left_inv k := by
    have h0 : (k ⟨0, by decide⟩).val < 1 := (k ⟨0, by decide⟩).isLt
    funext a
    match a with
    | ⟨0, _⟩ => exact Fin.ext (by show 0 = (k ⟨0, _⟩).val; omega)
    | ⟨1, _⟩ => rfl
    | ⟨2, _⟩ => rfl
  right_inv _ := rfl

/-- The products of the mixed value's gradient with the mixing's operand, summed over chunks and columns. -/
theorem r71 (H : Reals D x0 x1 x2 x3 x4 x5) (i : S8x128x128.Idx) :
    val_main_v71 (F := Ideal) x0 x1 x2 x3 i = ((∑ q : Fin 16, ∑ c : Fin 128,
      D.dm (128 * q + (i 1).val) (128 * (i 0).val + c) * D.vl (128 * q + (i 2).val) (128 * (i 0).val + c) : ℝ) : EReal) := by
  unfold val_main_v71
  simp only [Host.dotGeneral]
  rw [Ideal.dotGeneral_apply, ← Equiv.sum_comp contr3.symm, Fintype.sum_prod_type]
  simp only [r70 H, r48 H, ← EReal.coe_mul, coe_sum]
  refine congrArg _ (Finset.sum_congr rfl fun q _ => Finset.sum_congr rfl fun c _ => ?_)
  have l0 : (dot_S8x1x16x128x128_S1x16x128x8x128_S8x128x128_123_014_4_2_0_3.lhsIdx i (contr3.symm (q, c)) 0).val = (i 0).val := by
    unfold DotDims.lhsIdx
    rw [dif_pos (by decide)]
    rfl
  have l2 : (dot_S8x1x16x128x128_S1x16x128x8x128_S8x128x128_123_014_4_2_0_3.lhsIdx i (contr3.symm (q, c)) 2).val = q.val := by
    unfold DotDims.lhsIdx
    rw [dif_neg (by decide), dif_neg (by decide)]
    rfl
  have l3 : (dot_S8x1x16x128x128_S1x16x128x8x128_S8x128x128_123_014_4_2_0_3.lhsIdx i (contr3.symm (q, c)) 3).val = c.val := by
    unfold DotDims.lhsIdx
    rw [dif_neg (by decide), dif_neg (by decide)]
    rfl
  have l4 : (dot_S8x1x16x128x128_S1x16x128x8x128_S8x128x128_123_014_4_2_0_3.lhsIdx i (contr3.symm (q, c)) 4).val = (i 1).val := by
    unfold DotDims.lhsIdx
    rw [dif_neg (by decide), dif_pos (by decide)]
    rfl
  have m1 : (dot_S8x1x16x128x128_S1x16x128x8x128_S8x128x128_123_014_4_2_0_3.rhsIdx i (contr3.symm (q, c)) 1).val = q.val := by
    unfold DotDims.rhsIdx
    rw [dif_neg (by decide), dif_neg (by decide)]
    rfl
  have m2 : (dot_S8x1x16x128x128_S1x16x128x8x128_S8x128x128_123_014_4_2_0_3.rhsIdx i (contr3.symm (q, c)) 2).val = (i 2).val := by
    unfold DotDims.rhsIdx
    rw [dif_neg (by decide), dif_pos (by decide)]
    rfl
  have m3 : (dot_S8x1x16x128x128_S1x16x128x8x128_S8x128x128_123_014_4_2_0_3.rhsIdx i (contr3.symm (q, c)) 3).val = (i 0).val := by
    unfold DotDims.rhsIdx
    rw [dif_pos (by decide)]
    rfl
  have m4 : (dot_S8x1x16x128x128_S1x16x128x8x128_S8x128x128_123_014_4_2_0_3.rhsIdx i (contr3.symm (q, c)) 4).val = c.val := by
    unfold DotDims.rhsIdx
    rw [dif_neg (by decide), dif_neg (by decide)]
    rfl
  rw [l0, l2, l3, l4, m1, m2, m3, m4]

/-- The gradient of the mixing weights. -/
theorem r75 (H : Reals D x0 x1 x2 x3 x4 x5) (i : S8x128x128.Idx) :
    val_main_v75 (F := Ideal) x0 x1 x2 x3 i = ((D.dws (i 0).val (i 1).val (i 2).val : ℝ) : EReal) := by
  simp only [val_main_v75_apply, val_main_v74_apply, val_main_v51_apply, r71 H, tril_at, Ideal.addf_def,
    Ideal.subf_def, Ideal.mulf_def, Ideal.hostDivf_def, Ideal.hostNegf_def, Ideal.negf_def, Ideal.ofBits_def]
  rw [← EReal.coe_mul]
  unfold Data.dws
  rw [← sum_pairs fun q => D.dwsPart q (i 0).val (i 1).val (i 2).val]
  unfold Data.dwsPart
  by_cases h : (i 2).val ≤ (i 1).val
  · simp only [if_pos h, mul_one]
  · simp only [if_neg h, mul_zero, Finset.sum_const_zero]

theorem r72 (H : Reals D x0 x1 x2 x3 x4 x5) (i : S8x1x16x128x128.Idx) :
    val_main_v72 (F := Ideal) x0 x1 x4 i = ((D.dvlc (i 2).val (i 4).val (i 0).val (i 3).val : ℝ) : EReal) := by
  simp only [val_main_v72_apply, r70 H, r53 H, Ideal.addf_def, Ideal.subf_def, Ideal.mulf_def, Ideal.hostDivf_def,
    Ideal.hostNegf_def, Ideal.negf_def, Ideal.ofBits_def]
  simp only [← EReal.coe_mul, coe_sum]
  exact congrArg _ (Finset.sum_congr rfl fun t _ => mul_comm _ _)

/-- The gradient of the mixing's operand. -/
theorem r76 (H : Reals D x0 x1 x2 x3 x4 x5) (i : S1x2048x1024.Idx) :
    val_main_v76 (F := Ideal) x0 x1 x4 i = ((D.dvl (i 1).val (i 2).val : ℝ) : EReal) := by
  rw [val_main_v76_apply, val_main_v73_apply, r72 H]
  have h0 : (i 0).val < 1 := (i 0).isLt
  have h1 : (i 1).val < 2048 := (i 1).isLt
  have h2 : (i 2).val < 1024 := (i 2).isLt
  have e1 : (((i 0).val * 2048 + (i 1).val) * 1024 + (i 2).val) / 131072 % 16 = (i 1).val / 128 := by omega
  have e2 : (((i 0).val * 2048 + (i 1).val) * 1024 + (i 2).val) / 1024 % 128 = (i 1).val % 128 := by omega
  have e3 : (((i 0).val * 2048 + (i 1).val) * 1024 + (i 2).val) / 128 % 8 = (i 2).val / 128 := by omega
  have e4 : (((i 0).val * 2048 + (i 1).val) * 1024 + (i 2).val) % 128 = (i 2).val % 128 := by omega
  unfold Data.dvl
  rw [← e1, ← e2, ← e3, ← e4]

theorem r77 (H : Reals D x0 x1 x2 x3 x4 x5) (i : S1x1024.Idx) :
    val_main_v77 (F := Ideal) x0 x1 x4 i = ((D.dlb (i 1).val : ℝ) : EReal) := by
  simp only [val_main_v77_apply, val_main_cst_11_apply, r76 H, coe_sum, c_zero, Ideal.addf_def, Ideal.subf_def,
    Ideal.mulf_def, Ideal.hostDivf_def, Ideal.hostNegf_def, Ideal.negf_def, Ideal.ofBits_def]
  rw [← EReal.coe_add, zero_add]
  unfold Data.dlb Data.dlbPart
  exact congrArg _ (sum_blocks fun r => D.dvl r (i 1).val)

/-- The gradient of the normalisation's shift. -/
theorem r79 (H : Reals D x0 x1 x2 x3 x4 x5) (i : S1024.Idx) :
    val_main_v79 (F := Ideal) x0 x1 x4 i = ((D.dlb (i 0).val : ℝ) : EReal) := by
  unfold val_main_v79
  rw [sum_one _ _ _ _ i (ix3 0 0 (i 0) : S1x1x1024.Idx)]
  · rw [val_main_cst_12_apply, Ideal.ofBits_def, c_zero, val_main_v78_apply, r77 H, ← EReal.coe_add, zero_add]
    have h0 : (i 0).val < 1024 := (i 0).isLt
    have e0 : ((0 * 1 + 0) * 1024 + (i 0).val) % 1024 = (i 0).val := by omega
    conv_rhs => rw [← e0]
    rfl
  · intro k
    have k0 : (k 0).val < 1 := (k 0).isLt
    have k1 : (k 1).val < 1 := (k 1).isLt
    constructor
    · intro e
      funext a
      match a with
      | ⟨0, _⟩ => exact Fin.ext (by show (k 0).val = 0; omega)
      | ⟨1, _⟩ => exact Fin.ext (by show (k 1).val = 0; omega)
      | ⟨2, _⟩ => exact Fin.ext (congrArg Fin.val (congrFun e 0))
    · rintro rfl
      funext b
      match b with
      | ⟨0, _⟩ => rfl

theorem r81 (H : Reals D x0 x1 x2 x3 x4 x5) (i : S1x1024.Idx) :
    val_main_v81 (F := Ideal) x0 x1 x4 i = ((D.dlg (i 1).val : ℝ) : EReal) := by
  simp only [val_main_v81_apply, val_main_v80_apply, val_main_cst_13_apply, r41 H, r76 H, ← EReal.coe_mul, coe_sum,
    c_zero, Ideal.addf_def, Ideal.subf_def, Ideal.mulf_def, Ideal.hostDivf_def, Ideal.hostNegf_def, Ideal.negf_def,
    Ideal.ofBits_def]
  rw [← EReal.coe_add, zero_add]
  unfold Data.dlg Data.dlgPart
  refine congrArg _ (Eq.trans (Finset.sum_congr rfl fun r _ => mul_comm _ _) (sum_blocks fun r => D.dvl r (i 1).val * D.vn r (i 1).val))

/-- The gradient of the normalisation's scale. -/
theorem r85 (H : Reals D x0 x1 x2 x3 x4 x5) (i : S1024.Idx) :
    val_main_v85 (F := Ideal) x0 x1 x4 i = ((D.dlg (i 0).val : ℝ) : EReal) := by
  unfold val_main_v85
  rw [sum_one _ _ _ _ i (ix3 0 0 (i 0) : S1x1x1024.Idx)]
  · rw [val_main_cst_14_apply, Ideal.ofBits_def, c_zero, val_main_v82_apply, r81 H, ← EReal.coe_add, zero_add]
    have h0 : (i 0).val < 1024 := (i 0).isLt
    have e0 : ((0 * 1 + 0) * 1024 + (i 0).val) % 1024 = (i 0).val := by omega
    conv_rhs => rw [← e0]
    rfl
  · intro k
    have k0 : (k 0).val < 1 := (k 0).isLt
    have k1 : (k 1).val < 1 := (k 1).isLt
    constructor
    · intro e
      funext a
      match a with
      | ⟨0, _⟩ => exact Fin.ext (by show (k 0).val = 0; omega)
      | ⟨1, _⟩ => exact Fin.ext (by show (k 1).val = 0; omega)
      | ⟨2, _⟩ => exact Fin.ext (congrArg Fin.val (congrFun e 0))
    · rintro rfl
      funext b
      match b with
      | ⟨0, _⟩ => rfl

end Cert.Sgu

end
-- ==== Proof.Sgu.Backward.lean ====
/- The reference's backward half from the normalisation on: the gradients of the normalised half and of `z`, and the
   five results. -/
module

public import proofs.«01_k».proof.Proof.Gen.ReferenceIdeal.Read
public import proofs.«01_k».proof.Proof.Sgu.Mixing
public import Idealize.ShloMosaic.Lib.Pipeline.Value
public import Idealize.ShloMosaic.Lib.KernelVsHost

@[expose] public section

set_option maxRecDepth 16384

noncomputable section

namespace Cert.Sgu

open Cert.ReferenceIdeal Cert.ReferenceIdeal.Gen Cert.ReferenceIdeal.Read Idealize.ShloMosaic

variable {D : Data} {x0 : FVec Ideal S2048x10240 .f32} {x1 : FVec Ideal S2048x1024 .f32} {x2 x3 : FVec Ideal S1x1024 .f32}
  {x4 : FVec Ideal S1x8x128x128 .f32} {x5 : FVec Ideal S1x8x128 .f32}

namespace Data

/-- The part of the gradient of a row's mean of squares that every column receives. -/
def dvar (D : Data) (r : ℕ) : ℝ :=
  (∑ j : Fin 1024, D.xc r j * D.dvn r j) * (-(1 / 2) * (D.rstd r / (D.var r + eps))) / 1024

/-- The part of the gradient of a row's mean that every column receives. -/
def dmean (D : Data) (r : ℕ) : ℝ :=
  ((∑ j : Fin 1024, -(D.dvn r j * D.rstd r)) + ∑ j : Fin 1024, -(D.dvar r * (2 * D.xc r j))) / 1024

end Data

/-- The gradient of the normalised row. -/
theorem r84 (H : Reals D x0 x1 x2 x3 x4 x5) (i : S1x2048x1024.Idx) :
    val_main_v84 (F := Ideal) x0 x1 x2 x4 i = ((D.dvn (i 1).val (i 2).val : ℝ) : EReal) := by
  simp only [val_main_v84_apply, val_main_v83_apply, val_main_v42_apply, r76 H, r2 H, Ideal.addf_def, Ideal.subf_def,
    Ideal.mulf_def, Ideal.hostDivf_def, Ideal.hostNegf_def, Ideal.negf_def, Ideal.ofBits_def]
  rw [← EReal.coe_mul]
  rfl

theorem r88 (H : Reals D x0 x1 x2 x3 x4 x5) (i : S1x2048x1.Idx) :
    val_main_v88 (F := Ideal) x0 x1 x2 x4 i = ((∑ j : Fin 1024, D.xc (i 1).val j * D.dvn (i 1).val j : ℝ) : EReal) := by
  simp only [val_main_v88_apply, val_main_v87_apply, val_main_v86_apply, val_main_cst_15_apply, r33 H, r84 H, ←
    EReal.coe_mul, coe_sum, c_zero, Ideal.addf_def, Ideal.subf_def, Ideal.mulf_def, Ideal.hostDivf_def,
    Ideal.hostNegf_def, Ideal.negf_def, Ideal.ofBits_def]
  rw [← EReal.coe_add, zero_add]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  conv_rhs => rw [← e]

theorem r90 (H : Reals D x0 x1 x2 x3 x4 x5) (i : S1x2048x1024.Idx) :
    val_main_v90 (F := Ideal) x0 x1 x2 x4 i = ((D.dvn (i 1).val (i 2).val * D.rstd (i 1).val : ℝ) : EReal) := by
  simp only [val_main_v90_apply, val_main_v89_apply, r84 H, r36 H, Ideal.addf_def, Ideal.subf_def, Ideal.mulf_def,
    Ideal.hostDivf_def, Ideal.hostNegf_def, Ideal.negf_def, Ideal.ofBits_def]
  rw [← EReal.coe_mul]

theorem r94 (H : Reals D x0 x1 x2 x3 x4 x5) (i : S1x2048x1.Idx) :
    val_main_v94 (F := Ideal) x0 x1 x2 x4 i = ((∑ j : Fin 1024, -(D.dvn (i 1).val j * D.rstd (i 1).val) : ℝ) : EReal) := by
  simp only [val_main_v94_apply, val_main_v93_apply, val_main_v92_apply, val_main_cst_16_apply, r90 H, ←
    EReal.coe_neg, coe_sum, c_zero, Ideal.addf_def, Ideal.subf_def, Ideal.mulf_def, Ideal.hostDivf_def,
    Ideal.hostNegf_def, Ideal.negf_def, Ideal.ofBits_def]
  rw [← EReal.coe_add, zero_add]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  conv_rhs => rw [← e]

theorem r96 (H : Reals D x0 x1 x2 x3 x4 x5) (i : S1x2048x1.Idx) :
    val_main_v96 (F := Ideal) x0 x1 x2 x4 i = ((D.dvar (i 1).val : ℝ) : EReal) := by
  simp only [val_main_v96_apply, val_main_v95_apply, val_main_v91_apply, val_main_cst_17_apply, r88 H, r39 H, c_1024,
    Ideal.addf_def, Ideal.subf_def, Ideal.mulf_def, Ideal.hostDivf_def, Ideal.hostNegf_def, Ideal.negf_def,
    Ideal.ofBits_def]
  rw [← EReal.coe_mul, div_real _ _ (by norm_num)]
  rfl

theorem r97 (H : Reals D x0 x1 x2 x3 x4 x5) (i : S2048.Idx) :
    val_main_v97 (F := Ideal) x0 x1 x2 x4 i = ((D.dvar (i 0).val : ℝ) : EReal) := by
  unfold val_main_v97
  rw [sum_one _ _ _ _ i (ix3 0 (i 0) 0 : S1x2048x1.Idx)]
  · rw [val_main_cst_18_apply, Ideal.ofBits_def, c_zero, r96 H, ← EReal.coe_add, zero_add]
    rfl
  · intro k
    have k0 : (k 0).val < 1 := (k 0).isLt
    have k2 : (k 2).val < 1 := (k 2).isLt
    constructor
    · intro e
      funext a
      match a with
      | ⟨0, _⟩ => exact Fin.ext (by show (k 0).val = 0; omega)
      | ⟨1, _⟩ => exact Fin.ext (congrArg Fin.val (congrFun e 0))
      | ⟨2, _⟩ => exact Fin.ext (by show (k 2).val = 0; omega)
    · rintro rfl
      funext b
      match b with
      | ⟨0, _⟩ => rfl

theorem r100 (H : Reals D x0 x1 x2 x3 x4 x5) (i : S1x2048x1024.Idx) :
    val_main_v100 (F := Ideal) x0 x1 x2 x4 i = ((D.dvar (i 1).val * (2 * D.xc (i 1).val (i 2).val) : ℝ) : EReal) := by
  simp only [val_main_v100_apply, val_main_v99_apply, val_main_v98_apply, r97 H, r27 H, Ideal.addf_def,
    Ideal.subf_def, Ideal.mulf_def, Ideal.hostDivf_def, Ideal.hostNegf_def, Ideal.negf_def, Ideal.ofBits_def]
  rw [← EReal.coe_mul]

theorem r103 (H : Reals D x0 x1 x2 x3 x4 x5) (i : S1x2048x1.Idx) :
    val_main_v103 (F := Ideal) x0 x1 x2 x4 i = ((∑ j : Fin 1024, -(D.dvar (i 1).val * (2 * D.xc (i 1).val j)) : ℝ) : EReal) := by
  simp only [val_main_v103_apply, val_main_v102_apply, val_main_v101_apply, val_main_cst_19_apply, r100 H, ←
    EReal.coe_neg, coe_sum, c_zero, Ideal.addf_def, Ideal.subf_def, Ideal.mulf_def, Ideal.hostDivf_def,
    Ideal.hostNegf_def, Ideal.negf_def, Ideal.ofBits_def]
  rw [← EReal.coe_add, zero_add]
  have h0 : (i 0).val < 1 := (i 0).isLt
  have h1 : (i 1).val < 2048 := (i 1).isLt
  have h2 : (i 2).val < 1 := (i 2).isLt
  have e : (((i 0).val * 2048 + (i 1).val) * 1 + (i 2).val) % 2048 = (i 1).val := by omega
  conv_rhs => rw [← e]

theorem r107 (H : Reals D x0 x1 x2 x3 x4 x5) (i : S1x2048x1.Idx) :
    val_main_v107 (F := Ideal) x0 x1 x2 x4 i = ((D.dmean (i 1).val : ℝ) : EReal) := by
  simp only [val_main_v107_apply, val_main_v106_apply, val_main_v105_apply, val_main_cst_20_apply, r94 H, r103 H,
    c_1024, Ideal.addf_def, Ideal.subf_def, Ideal.mulf_def, Ideal.hostDivf_def, Ideal.hostNegf_def, Ideal.negf_def,
    Ideal.ofBits_def]
  rw [← EReal.coe_add, div_real _ _ (by norm_num)]
  rfl

theorem r108 (H : Reals D x0 x1 x2 x3 x4 x5) (i : S2048.Idx) :
    val_main_v108 (F := Ideal) x0 x1 x2 x4 i = ((D.dmean (i 0).val : ℝ) : EReal) := by
  unfold val_main_v108
  rw [sum_one _ _ _ _ i (ix3 0 (i 0) 0 : S1x2048x1.Idx)]
  · rw [val_main_cst_21_apply, Ideal.ofBits_def, c_zero, r107 H, ← EReal.coe_add, zero_add]
    rfl
  · intro k
    have k0 : (k 0).val < 1 := (k 0).isLt
    have k2 : (k 2).val < 1 := (k 2).isLt
    constructor
    · intro e
      funext a
      match a with
      | ⟨0, _⟩ => exact Fin.ext (by show (k 0).val = 0; omega)
      | ⟨1, _⟩ => exact Fin.ext (congrArg Fin.val (congrFun e 0))
      | ⟨2, _⟩ => exact Fin.ext (by show (k 2).val = 0; omega)
    · rintro rfl
      funext b
      match b with
      | ⟨0, _⟩ => rfl

/-- The gradient of the normalised half. -/
theorem r111 (H : Reals D x0 x1 x2 x3 x4 x5) (i : S1x2048x1024.Idx) :
    val_main_v111 (F := Ideal) x0 x1 x2 x4 i = ((D.dvv (i 1).val (i 2).val : ℝ) : EReal) := by
  simp only [val_main_v111_apply, val_main_v110_apply, val_main_v109_apply, val_main_v104_apply, r90 H, r100 H, r108
    H, Ideal.addf_def, Ideal.subf_def, Ideal.mulf_def, Ideal.hostDivf_def, Ideal.hostNegf_def, Ideal.negf_def,
    Ideal.ofBits_def]
  rw [← EReal.coe_add, ← EReal.coe_add]
  exact congrArg _ (dvv_rules D (i 1).val (i 2).val)

/-- The gradients of the two halves side by side. -/
theorem r112 (H : Reals D x0 x1 x2 x3 x4 x5) (i : S1x2048x2048.Idx) :
    val_main_v112 (F := Ideal) x0 x1 x2 x3 x4 x5 i = ((if (i 2).val < 1024 then D.du (i 1).val (i 2).val else D.dvv (i 1).val ((i 2).val - 1024) : ℝ) : EReal) := by
  unfold val_main_v112
  have h2 : (i 2).val < 2048 := (i 2).isLt
  by_cases h : (i 2).val < 1024
  · rw [if_pos h]
    refine (concatenate_pair_apply_left (s₁ := S1x2048x1024) (s₂ := S1x2048x1024) 2 _ _ _ i rfl (ix3 (i 0) (i 1) ⟨(i 2).val, h⟩ : S1x2048x1024.Idx) ?_).trans (r64 H _)
    intro b
    match b with
    | ⟨0, _⟩ => rfl
    | ⟨1, _⟩ => rfl
    | ⟨2, _⟩ => rfl
  · rw [if_neg h]
    refine (concatenate_pair_apply_right (s₁ := S1x2048x1024) (s₂ := S1x2048x1024) 2 _ _ _ i rfl rfl
      (ix3 (i 0) (i 1) ⟨(i 2).val - 1024, by omega⟩ : S1x2048x1024.Idx) ?_ ?_).trans (r111 H _)
    · intro b hb
      match b with
      | ⟨0, _⟩ => rfl
      | ⟨1, _⟩ => rfl
      | ⟨2, _⟩ => exact absurd rfl hb
    · show (i 2).val - 1024 + 1024 = (i 2).val
      omega

theorem r15 (H : Reals D x0 x1 x2 x3 x4 x5) (i : S1x2048x2048.Idx) :
    val_main_v15 (F := Ideal) x0 i = ((Real.exp (-(-D.Z (i 1).val (i 2).val * (Real.sqrt 2)⁻¹ * (-D.Z (i 1).val (i 2).val * (Real.sqrt 2)⁻¹))) : ℝ) : EReal) := by
  simp only [val_main_v15_apply, val_main_v14_apply, val_main_v13_apply, r11 H, Ideal.hostUnary_exp_def,
    Ideal.addf_def, Ideal.subf_def, Ideal.mulf_def, Ideal.hostDivf_def, Ideal.hostNegf_def, Ideal.negf_def,
    Ideal.ofBits_def]
  rw [← EReal.coe_mul, ← EReal.coe_neg]
  exact exp_real _

/-- The gradient of `z`. -/
theorem r123 (H : Reals D x0 x1 x2 x3 x4 x5) (i : S1x2048x2048.Idx) :
    val_main_v123 (F := Ideal) x0 x1 x2 x3 x4 x5 i = ((D.dz (i 1).val (i 2).val : ℝ) : EReal) := by
  simp only [val_main_v123_apply, val_main_v122_apply, val_main_v121_apply, val_main_v120_apply, val_main_v119_apply,
    val_main_v118_apply, val_main_v117_apply, val_main_v116_apply, val_main_v115_apply, val_main_v114_apply,
    val_main_v113_apply, val_main_v6_apply, val_main_cst_apply, val_main_cst_22_apply, val_main_cst_23_apply, r112 H,
    r12 H, r15 H, r8 H, Ideal.hostUnary_sqrt_def, c_half, c_erfc, Ideal.addf_def, Ideal.subf_def, Ideal.mulf_def,
    Ideal.hostDivf_def, Ideal.hostNegf_def, Ideal.negf_def, Ideal.ofBits_def]
  rw [sqrt_real _ (by norm_num), sqrt_half]
  simp only [← EReal.coe_mul, ← EReal.coe_neg, ← EReal.coe_add]
  rw [slope_erfc]
  unfold Data.dz
  split_ifs
  · rfl
  · rfl

/-- The first result: the columns of the projection's gradient that precede `z` as they came, then the gradient of `z`. -/
theorem out0 (H : Reals D x0 x1 x2 x3 x4 x5) (x6 : FVec Ideal S2048x10240 .bf16) :
    val_main_v131 (F := Ideal) x0 x1 x2 x3 x4 x5 x6 = fun i : S2048x10240.Idx =>
      if 8192 ≤ (i 1).val then ((D.dz (i 0).val ((i 1).val - 8192) : ℝ) : EReal) else x6 i := by
  funext i
  have h0 : (i 0).val < 2048 := (i 0).isLt
  have h1 : (i 1).val < 10240 := (i 1).isLt
  unfold val_main_v131
  by_cases h : 8192 ≤ (i 1).val
  · rw [if_pos h]
    refine (concatenate_pair_apply_right (s₁ := S2048x8192) (s₂ := S2048x2048) 1 _ _ _ i rfl rfl
      (ix2 (i 0) ⟨(i 1).val - 8192, by omega⟩ : S2048x2048.Idx) ?_ ?_).trans ?_
    · intro b hb
      match b with
      | ⟨0, _⟩ => rfl
      | ⟨1, _⟩ => exact absurd rfl hb
    · show (i 1).val - 8192 + 8192 = (i 1).val
      omega
    · rw [val_main_v130_apply, Ideal.truncf_def, val_main_v129_apply, r123 H]
      refine congrArg _ (congrArg₂ D.dz ?_ ?_)
      · show ((i 0).val * 2048 + ((i 1).val - 8192)) / 2048 % 2048 = _
        omega
      · show ((i 0).val * 2048 + ((i 1).val - 8192)) % 2048 = _
        omega
  · rw [if_neg h]
    refine (concatenate_pair_apply_left (s₁ := S2048x8192) (s₂ := S2048x2048) 1 _ _ _ i rfl (ix2 (i 0) ⟨(i 1).val, by omega⟩ : S2048x8192.Idx) ?_).trans ?_
    · intro b
      match b with
      | ⟨0, _⟩ => rfl
      | ⟨1, _⟩ => rfl
    · rw [val_main_v128_apply]
      refine congrArg x6 ?_
      funext a
      match a with
      | ⟨0, _⟩ => rfl
      | ⟨1, _⟩ => rfl

/-- The second result: the gradient of the normalisation's scale. -/
theorem out1 (H : Reals D x0 x1 x2 x3 x4 x5) :
    val_main_v127 (F := Ideal) x0 x1 x4 = fun i : S1x1024.Idx => ((D.dlg (i 1).val : ℝ) : EReal) :=
  funext fun i => by rw [val_main_v127_apply, r85 H]

/-- The third result: the gradient of the normalisation's shift. -/
theorem out2 (H : Reals D x0 x1 x2 x3 x4 x5) :
    val_main_v126 (F := Ideal) x0 x1 x4 = fun i : S1x1024.Idx => ((D.dlb (i 1).val : ℝ) : EReal) :=
  funext fun i => by rw [val_main_v126_apply, r79 H]

/-- The fourth result: the gradient of the mixing weights. -/
theorem out3 (H : Reals D x0 x1 x2 x3 x4 x5) :
    val_main_v132 (F := Ideal) x0 x1 x2 x3 =
      fun i : S8x128x128.Idx => ((D.dws (i 0).val (i 1).val (i 2).val : ℝ) : EReal) := by
  funext i
  rw [val_main_v132_apply, val_main_v125_apply, r75 H]
  have h0 : (i 0).val < 8 := (i 0).isLt
  have h1 : (i 1).val < 128 := (i 1).isLt
  have h2 : (i 2).val < 128 := (i 2).isLt
  have e0 : (((i 0).val * 128 + (i 1).val) * 128 + (i 2).val) / 16384 % 8 = (i 0).val := by omega
  have e1 : (((i 0).val * 128 + (i 1).val) * 128 + (i 2).val) / 128 % 128 = (i 1).val := by omega
  have e2 : (((i 0).val * 128 + (i 1).val) * 128 + (i 2).val) % 128 = (i 2).val := by omega
  show ((D.dws ((((i 0).val * 128 + (i 1).val) * 128 + (i 2).val) / 16384 % 8)
    ((((i 0).val * 128 + (i 1).val) * 128 + (i 2).val) / 128 % 128)
    ((((i 0).val * 128 + (i 1).val) * 128 + (i 2).val) % 128) : ℝ) : EReal) = _
  rw [e0, e1, e2]

/-- The fifth result: the gradient of the mixing bias, a column for each group, and zeros in the other columns. -/
theorem out4 (H : Reals D x0 x1 x2 x3 x4 x5) :
    val_main_v135 (F := Ideal) x0 x1 = fun i : S128x128.Idx =>
      ((if (i 1).val < 8 then D.db (i 0).val (i 1).val else 0 : ℝ) : EReal) := by
  funext i
  unfold val_main_v135
  have h0 : (i 0).val < 128 := (i 0).isLt
  have h1 : (i 1).val < 128 := (i 1).isLt
  by_cases h : (i 1).val < 8
  · rw [if_pos h]
    refine (pad_apply_of_inside _ _ _ _ _ _ _ i (ix2 (i 0) ⟨(i 1).val, h⟩ : S128x8.Idx) ?_).trans ?_
    · intro a
      match a with
      | ⟨0, _⟩ => show (i 0).val = 0 + (i 0).val * (0 + 1); omega
      | ⟨1, _⟩ => show (i 1).val = 0 + (i 1).val * (0 + 1); omega
    · rw [val_main_v134_apply, val_main_v133_apply, val_main_v124_apply, r69 H]
      refine congrArg _ (congrArg₂ D.db ?_ ?_)
      · show ((i 1).val * 128 + (i 0).val) % 128 = _
        omega
      · show ((i 1).val * 128 + (i 0).val) / 128 % 8 = _
        omega
  · rw [if_neg h]
    refine (pad_apply_of_not_inside _ _ _ _ _ _ _ i 1 ?_).trans ?_
    · rintro ⟨_, _, hlt⟩
      have hlt' : ((i 1).val - 0) / (0 + 1) < 8 := hlt
      omega
    · rw [val_main_call1_v0_apply, val_main_c_apply]
      show (((0#32 : BitVec 32).toInt : ℝ) : EReal) = _
      simp

end Cert.Sgu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Act.Frame
public import proofs.«01_k».proof.Proof.Gen.ActIdeal.Value
public import proofs.«01_k».proof.Proof.Gen.ActRefIdeal.Run
public import proofs.«01_k».proof.Proof.Gen.ActRefIdeal.Read
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwGateRefIdeal.Read
public import proofs.«01_k».proof.Proof.Gen.DwUp.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DnGate.Frame
public import proofs.«01_k».proof.Proof.Gen.DnGateIdeal.Value
public import proofs.«01_k».proof.Proof.Gen.DnGateRefIdeal.Run
public import proofs.«01_k».proof.Proof.Gen.DnGateRefIdeal.Read
public import proofs.«01_k».proof.Proof.Gen.DnUp.Frame
public import proofs.«01_k».proof.Proof.Gen.DnUpIdeal.Value
public import proofs.«01_k».proof.Proof.Gen.DnUpRefIdeal.Run
public import proofs.«01_k».proof.Proof.Gen.DnUpRefIdeal.Read
public import proofs.«01_k».proof.Proof.Gen.GateUp.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.Dn1.Frame
public import proofs.«01_k».proof.Proof.Gen.Dn1Ideal.Value
public import proofs.«01_k».proof.Proof.Gen.Dn1RefIdeal.Run
public import proofs.«01_k».proof.Proof.Gen.Dn1RefIdeal.Read
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.DMerged.Frame
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjARefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Dy.Frame
public import proofs.«01_k».proof.Proof.Gen.DyIdeal.Value
public import proofs.«01_k».proof.Proof.Gen.DyRefIdeal.Run
public import proofs.«01_k».proof.Proof.Gen.DyRefIdeal.Read
public import proofs.«01_k».proof.Proof.Gen.DwProj.Frame
public import proofs.«01_k».proof.Proof.Gen.DwProjIdeal.Value
public import proofs.«01_k».proof.Proof.Gen.DwProjRefIdeal.Run
public import proofs.«01_k».proof.Proof.Gen.DwProjRefIdeal.Read
public import proofs.«01_k».proof.Proof.Gen.Pre_finite
public import proofs.«01_k».proof.Proof.Gen.Pre_finite_act
public import proofs.«01_k».proof.Proof.Ffn.Claims
public import proofs.«01_k».proof.Proof.Ffn.DenseClaims
public import proofs.«01_k».proof.Proof.Step.AdamClaims
public import proofs.«01_k».proof.Proof.Step.PostClaims
public import proofs.«01_k».proof.Proof.Sgu.Entry
public import proofs.«01_k».proof.Proof.Sgu.Backward
public import proofs.«01_k».proof.Proof.Sgu.Finite
public import Idealize.ShloMosaic.Lib.Claim
public import Idealize.ShloMosaic.Lib.Quiescent
public import Idealize.ShloMosaic.Adequacy
public import Idealize.ShloMosaic.Init
public import proofs.«01_k».proof.Proof.Gen.Post.Frame
public import proofs.«01_k».proof.Proof.Gen.PostIdeal.Value
public import proofs.«01_k».proof.Proof.Gen.PostRefIdeal.Run
public import proofs.«01_k».proof.Proof.Gen.PostRefIdeal.Read
public import proofs.«01_k».proof.Proof.Gen.AdamFfn.Frame
public import proofs.«01_k».proof.Proof.Gen.AdamFfnIdeal.Value
public import proofs.«01_k».proof.Proof.Gen.AdamFfnRefIdeal.Run
public import proofs.«01_k».proof.Proof.Gen.AdamFfnRefIdeal.Read
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamDownRefIdeal.Read
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamProjRefIdeal.Read
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamLora.Frame
public import proofs.«01_k».proof.Proof.Gen.AdamLoraIdeal.Value
public import proofs.«01_k».proof.Proof.Gen.AdamLoraRefIdeal.Run
public import proofs.«01_k».proof.Proof.Gen.AdamLoraRefIdeal.Read
public import proofs.«01_k».proof.Proof.Gen.AdamGateLora.Frame
public import proofs.«01_k».proof.Proof.Gen.AdamGateLoraIdeal.Value
public import proofs.«01_k».proof.Proof.Gen.AdamGateLoraRefIdeal.Run
public import proofs.«01_k».proof.Proof.Gen.AdamGateLoraRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read

@[expose] public section

noncomputable section

namespace Cert.Proof

open Idealize.ShloMosaic Idealize.SL.Sem

/-- The reference runs, its arguments end unchanged, and every semaphore counter ends at zero. -/
theorem frame_ref : quiescent_ReferenceIdeal (hReferenceIdeal := Cert.ReferenceIdeal.Gen.facts) := by
  intro m g _
  hlo_run
  · exact fun _ => ⟨trivial, trivial, trivial, trivial, trivial, trivial, trivial⟩
  · exact sem_eq_zero_of_no_sems (sig := Cert.ReferenceIdeal.sig) (by decide) _

/-- The kernel's five results are the reference's. -/
theorem values : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, _, _, _, _, Cert.KernelIdeal.Value.run_blocks m g, (θ_run _ _ _).mono (fun r h c => ?_) (Cert.ReferenceIdeal.Value.run m' g')⟩
  obtain ⟨D, H⟩ := Cert.Sgu.reals_of_pre m hpre c
  have hA : ∀ t, Cert.Sgu.At m D c t := fun t => Cert.Sgu.at_of_reals H t
  obtain ⟨a0, a1, a2, a3, a4, a5, a6⟩ := hagree c
  have H' := H
  rw [← a0, ← a1, ← a2, ← a3, ← a4, ← a5] at H'
  obtain ⟨r0, r1, r2, r3, r4, k⟩ := h c
  refine ⟨r0.trans ?_, r1.trans ?_, r2.trans ?_, r3.trans ?_, r4.trans ?_, k⟩
  · rw [Cert.ReferenceIdeal.Read.val_main_v131_eq, Cert.Sgu.out0 H', a6]
    exact (Cert.Sgu.arr6 hA).symm
  · rw [Cert.ReferenceIdeal.Read.val_main_v127_eq, Cert.Sgu.out1 H']
    exact (Cert.Sgu.arr7 hA).symm
  · exact ((Cert.ReferenceIdeal.Read.val_main_v126_eq _ _ _).trans (Cert.Sgu.out2 H')).trans (Cert.Sgu.arr8 hA).symm
  · rw [Cert.ReferenceIdeal.Read.val_main_v132_eq, Cert.Sgu.out3 H']
    exact (Cert.Sgu.arr9 hA).symm
  · exact ((Cert.ReferenceIdeal.Read.val_main_v135_eq _ _).trans (Cert.Sgu.out4 H')).trans (Cert.Sgu.arr10 hA).symm

theorem claim : Cert.Claim :=
  ⟨Cert.Kernel.Gen.facts, Cert.KernelIdeal.Gen.facts, Cert.ReferenceIdeal.Gen.facts,
    Cert.Act.Gen.facts, Cert.ActIdeal.Gen.facts, Cert.ActRefIdeal.Gen.facts,
    Cert.DwDown.Gen.facts, Cert.DwDownIdeal.Gen.facts, Cert.DwDownRefIdeal.Gen.facts,
    Cert.DwGate.Gen.facts, Cert.DwGateIdeal.Gen.facts, Cert.DwGateRefIdeal.Gen.facts,
    Cert.DwUp.Gen.facts, Cert.DwUpIdeal.Gen.facts, Cert.DwUpRefIdeal.Gen.facts,
    Cert.DnGate.Gen.facts, Cert.DnGateIdeal.Gen.facts, Cert.DnGateRefIdeal.Gen.facts,
    Cert.DnUp.Gen.facts, Cert.DnUpIdeal.Gen.facts, Cert.DnUpRefIdeal.Gen.facts,
    Cert.GateUp.Gen.facts, Cert.GateUpIdeal.Gen.facts, Cert.GateUpRefIdeal.Gen.facts,
    Cert.DwIn.Gen.facts, Cert.DwInIdeal.Gen.facts, Cert.DwInRefIdeal.Gen.facts,
    Cert.Dn1.Gen.facts, Cert.Dn1Ideal.Gen.facts, Cert.Dn1RefIdeal.Gen.facts,
    Cert.ProjIn.Gen.facts, Cert.ProjInIdeal.Gen.facts, Cert.ProjInRefIdeal.Gen.facts,
    Cert.FfnDown.Gen.facts, Cert.FfnDownIdeal.Gen.facts, Cert.FfnDownRefIdeal.Gen.facts,
    Cert.OutProj.Gen.facts, Cert.OutProjIdeal.Gen.facts, Cert.OutProjRefIdeal.Gen.facts,
    Cert.DMerged.Gen.facts, Cert.DMergedIdeal.Gen.facts, Cert.DMergedRefIdeal.Gen.facts,
    Cert.DwOut.Gen.facts, Cert.DwOutIdeal.Gen.facts, Cert.DwOutRefIdeal.Gen.facts,
    Cert.ProjA.Gen.facts, Cert.ProjAIdeal.Gen.facts, Cert.ProjARefIdeal.Gen.facts,
    Cert.Merge.Gen.facts, Cert.MergeIdeal.Gen.facts, Cert.MergeRefIdeal.Gen.facts,
    Cert.Dy.Gen.facts, Cert.DyIdeal.Gen.facts, Cert.DyRefIdeal.Gen.facts,
    Cert.DwProj.Gen.facts, Cert.DwProjIdeal.Gen.facts, Cert.DwProjRefIdeal.Gen.facts,
    Cert.Post.Gen.facts, Cert.PostIdeal.Gen.facts, Cert.PostRefIdeal.Gen.facts,
    Cert.AdamFfn.Gen.facts, Cert.AdamFfnIdeal.Gen.facts, Cert.AdamFfnRefIdeal.Gen.facts,
    Cert.AdamDown.Gen.facts, Cert.AdamDownIdeal.Gen.facts, Cert.AdamDownRefIdeal.Gen.facts,
    Cert.AdamProj.Gen.facts, Cert.AdamProjIdeal.Gen.facts, Cert.AdamProjRefIdeal.Gen.facts,
    Cert.AdamOut.Gen.facts, Cert.AdamOutIdeal.Gen.facts, Cert.AdamOutRefIdeal.Gen.facts,
    Cert.AdamIn.Gen.facts, Cert.AdamInIdeal.Gen.facts, Cert.AdamInRefIdeal.Gen.facts,
    Cert.AdamLora.Gen.facts, Cert.AdamLoraIdeal.Gen.facts, Cert.AdamLoraRefIdeal.Gen.facts,
    Cert.AdamGateLora.Gen.facts, Cert.AdamGateLoraIdeal.Gen.facts, Cert.AdamGateLoraRefIdeal.Gen.facts,
    Cert.AdamSmall.Gen.facts, Cert.AdamSmallIdeal.Gen.facts, Cert.AdamSmallRefIdeal.Gen.facts,
    Cert.Pre_finite.Gen.facts, Cert.Pre_finite_act.Gen.facts,
    fun m g _ => Cert.Kernel.Gen.frame m g,
    fun m g _ => Cert.KernelIdeal.Gen.frame m g,
    fun m g _ => Cert.KernelIdeal.Gen.frame m g,
    frame_ref,
    fun m g _ => frame_ref m g trivial,
    fun m g _ => Cert.Act.Gen.frame m g,
    fun m g _ => Cert.ActIdeal.Gen.frame m g,
    fun m g _ => Cert.ActIdeal.Gen.frame m g,
    Cert.Ffn.Act.frame_ref,
    fun m g _ => Cert.Ffn.Act.frame_ref m g trivial,
    fun m g _ => Cert.DwDown.Gen.frame m g, fun m g _ => Cert.DwDownIdeal.Gen.frame m g, Cert.Ffn.DwDown.frame_ref,
    fun m g _ => Cert.DwGate.Gen.frame m g, fun m g _ => Cert.DwGateIdeal.Gen.frame m g, Cert.Ffn.DwGate.frame_ref,
    fun m g _ => Cert.DwUp.Gen.frame m g, fun m g _ => Cert.DwUpIdeal.Gen.frame m g, Cert.Ffn.DwUp.frame_ref,
    fun m g _ => Cert.DnGate.Gen.frame m g, fun m g _ => Cert.DnGateIdeal.Gen.frame m g, Cert.Ffn.DnGate.frame_ref,
    fun m g _ => Cert.DnUp.Gen.frame m g, fun m g _ => Cert.DnUpIdeal.Gen.frame m g, Cert.Ffn.DnUp.frame_ref,
    fun m g _ => Cert.GateUp.Gen.frame m g, fun m g _ => Cert.GateUpIdeal.Gen.frame m g, Cert.Ffn.GateUp.frame_ref,
    fun m g _ => Cert.DwIn.Gen.frame m g, fun m g _ => Cert.DwInIdeal.Gen.frame m g, Cert.Ffn.DwIn.frame_ref,
    fun m g _ => Cert.Dn1.Gen.frame m g, fun m g _ => Cert.Dn1Ideal.Gen.frame m g, Cert.Ffn.Dn1.frame_ref,
    fun m g _ => Cert.ProjIn.Gen.frame m g, fun m g _ => Cert.ProjInIdeal.Gen.frame m g, Cert.Ffn.ProjIn.frame_ref,
    fun m g _ => Cert.FfnDown.Gen.frame m g, fun m g _ => Cert.FfnDownIdeal.Gen.frame m g, Cert.Ffn.FfnDown.frame_ref,
    fun m g _ => Cert.OutProj.Gen.frame m g, fun m g _ => Cert.OutProjIdeal.Gen.frame m g, Cert.Ffn.OutProj.frame_ref,
    fun m g _ => Cert.DMerged.Gen.frame m g, fun m g _ => Cert.DMergedIdeal.Gen.frame m g, Cert.Ffn.DMerged.frame_ref,
    fun m g _ => Cert.DwOut.Gen.frame m g, fun m g _ => Cert.DwOutIdeal.Gen.frame m g, Cert.Ffn.DwOut.frame_ref,
    fun m g _ => Cert.ProjA.Gen.frame m g, fun m g _ => Cert.ProjAIdeal.Gen.frame m g, Cert.Ffn.ProjA.frame_ref,
    fun m g _ => Cert.Merge.Gen.frame m g, fun m g _ => Cert.MergeIdeal.Gen.frame m g, Cert.Ffn.Merge.frame_ref,
    fun m g _ => Cert.Dy.Gen.frame m g, fun m g _ => Cert.DyIdeal.Gen.frame m g, Cert.Ffn.Dy.frame_ref,
    fun m g _ => Cert.DwProj.Gen.frame m g, fun m g _ => Cert.DwProjIdeal.Gen.frame m g, Cert.Ffn.DwProj.frame_ref,
    fun m g _ => Cert.Post.Gen.frame m g, fun m g _ => Cert.PostIdeal.Gen.frame m g, Cert.Step.Post.frame_ref,
    fun m g _ => Cert.AdamFfn.Gen.frame m g, fun m g _ => Cert.AdamFfnIdeal.Gen.frame m g, Cert.Step.AdamFfn.frame_ref,
    fun m g _ => Cert.AdamDown.Gen.frame m g, fun m g _ => Cert.AdamDownIdeal.Gen.frame m g, Cert.Step.AdamDown.frame_ref,
    fun m g _ => Cert.AdamProj.Gen.frame m g, fun m g _ => Cert.AdamProjIdeal.Gen.frame m g, Cert.Step.AdamProj.frame_ref,
    fun m g _ => Cert.AdamOut.Gen.frame m g, fun m g _ => Cert.AdamOutIdeal.Gen.frame m g, Cert.Step.AdamOut.frame_ref,
    fun m g _ => Cert.AdamIn.Gen.frame m g, fun m g _ => Cert.AdamInIdeal.Gen.frame m g, Cert.Step.AdamIn.frame_ref,
    fun m g _ => Cert.AdamLora.Gen.frame m g, fun m g _ => Cert.AdamLoraIdeal.Gen.frame m g, Cert.Step.AdamLora.frame_ref,
    fun m g _ => Cert.AdamGateLora.Gen.frame m g, fun m g _ => Cert.AdamGateLoraIdeal.Gen.frame m g, Cert.Step.AdamGateLora.frame_ref,
    fun m g _ => Cert.AdamSmall.Gen.frame m g, fun m g _ => Cert.AdamSmallIdeal.Gen.frame m g, Cert.Step.AdamSmall.frame_ref,
    ⟨IdealRules.named_const.statement _ _ _ _ _ rfl, IdealRules.named_const.statement _ _ _ _ _ rfl⟩,
    values,
    trivial, Cert.Ffn.Act.values,
    trivial, Cert.Ffn.DwDown.values,
    trivial, Cert.Ffn.DwGate.values,
    trivial, Cert.Ffn.DwUp.values,
    trivial, Cert.Ffn.DnGate.values,
    trivial, Cert.Ffn.DnUp.values,
    trivial, Cert.Ffn.GateUp.values,
    trivial, Cert.Ffn.DwIn.values,
    trivial, Cert.Ffn.Dn1.values,
    trivial, Cert.Ffn.ProjIn.values,
    trivial, Cert.Ffn.FfnDown.values,
    trivial, Cert.Ffn.OutProj.values,
    trivial, Cert.Ffn.DMerged.values,
    trivial, Cert.Ffn.DwOut.values,
    trivial, Cert.Ffn.ProjA.values,
    trivial, Cert.Ffn.Merge.values,
    trivial, Cert.Ffn.Dy.values,
    trivial, Cert.Ffn.DwProj.values,
    trivial, Cert.Step.Post.values,
    trivial, Cert.Step.AdamFfn.values,
    trivial, Cert.Step.AdamDown.values,
    trivial, Cert.Step.AdamProj.values,
    trivial, Cert.Step.AdamOut.values,
    trivial, Cert.Step.AdamIn.values,
    trivial, Cert.Step.AdamLora.values,
    trivial, Cert.Step.AdamGateLora.values,
    trivial, Cert.Step.AdamSmall.values⟩

end Cert.Proof

end
